-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Edges (m : (ℓ : Loc Cert.Edges.nD Cert.Edges.τ Cert.Edges.sig) → Buf (Elt Bits) ℓ) : Prop :=
  True

def Pre_EdgesIdeal (m : (ℓ : Loc Cert.EdgesIdeal.nD Cert.EdgesIdeal.τ Cert.EdgesIdeal.sig) → Buf (Elt Ideal) ℓ) : Prop :=
  True

def Pre_EdgesIdeal_finite_weights [hPre_finite_weights : Cert.Pre_finite_weights.Facts] (m : (ℓ : Loc Cert.EdgesIdeal.nD Cert.EdgesIdeal.τ Cert.EdgesIdeal.sig) → Buf (Elt Ideal) ℓ) : Prop :=
  ∀ c : Dev Cert.EdgesIdeal.nD,
    (Cert.Pre_finite_weights.fn (F := Ideal) (m ((c.tc : Thread Cert.EdgesIdeal.nD Cert.EdgesIdeal.τ).loc Cert.EdgesIdeal.main_arg0)) (m ((c.tc : Thread Cert.EdgesIdeal.nD Cert.EdgesIdeal.τ).loc Cert.EdgesIdeal.main_arg1)) (m ((c.tc : Thread Cert.EdgesIdeal.nD Cert.EdgesIdeal.τ).loc Cert.EdgesIdeal.main_arg2)) (m ((c.tc : Thread Cert.EdgesIdeal.nD Cert.EdgesIdeal.τ).loc Cert.EdgesIdeal.main_arg3)) (m ((c.tc : Thread Cert.EdgesIdeal.nD Cert.EdgesIdeal.τ).loc Cert.EdgesIdeal.main_arg4)) (m ((c.tc : Thread Cert.EdgesIdeal.nD Cert.EdgesIdeal.τ).loc Cert.EdgesIdeal.main_arg5))) = (fun _ => 1#1)

def Pre_EdgesReferenceIdeal (m : (ℓ : Loc Cert.EdgesReferenceIdeal.nD Cert.EdgesReferenceIdeal.τ Cert.EdgesReferenceIdeal.sig) → Buf (Elt Ideal) ℓ) : Prop :=
  True

def Pre_EdgesReferenceIdeal_finite_weights [hPre_finite_weights : Cert.Pre_finite_weights.Facts] (m : (ℓ : Loc Cert.EdgesReferenceIdeal.nD Cert.EdgesReferenceIdeal.τ Cert.EdgesReferenceIdeal.sig) → Buf (Elt Ideal) ℓ) : Prop :=
  ∀ c : Dev Cert.EdgesReferenceIdeal.nD,
    (Cert.Pre_finite_weights.fn (F := Ideal) (m ((c.tc : Thread Cert.EdgesReferenceIdeal.nD Cert.EdgesReferenceIdeal.τ).loc Cert.EdgesReferenceIdeal.main_arg0)) (m ((c.tc : Thread Cert.EdgesReferenceIdeal.nD Cert.EdgesReferenceIdeal.τ).loc Cert.EdgesReferenceIdeal.main_arg1)) (m ((c.tc : Thread Cert.EdgesReferenceIdeal.nD Cert.EdgesReferenceIdeal.τ).loc Cert.EdgesReferenceIdeal.main_arg2)) (m ((c.tc : Thread Cert.EdgesReferenceIdeal.nD Cert.EdgesReferenceIdeal.τ).loc Cert.EdgesReferenceIdeal.main_arg3)) (m ((c.tc : Thread Cert.EdgesReferenceIdeal.nD Cert.EdgesReferenceIdeal.τ).loc Cert.EdgesReferenceIdeal.main_arg4)) (m ((c.tc : Thread Cert.EdgesReferenceIdeal.nD Cert.EdgesReferenceIdeal.τ).loc Cert.EdgesReferenceIdeal.main_arg5))) = (fun _ => 1#1)

def Pre_Topk (m : (ℓ : Loc Cert.Topk.nD Cert.Topk.τ Cert.Topk.sig) → Buf (Elt Bits) ℓ) : Prop :=
  True

def Pre_TopkIdeal (m : (ℓ : Loc Cert.TopkIdeal.nD Cert.TopkIdeal.τ Cert.TopkIdeal.sig) → Buf (Elt Ideal) ℓ) : Prop :=
  True

def Pre_TopkIdeal_finite_unmasked [hPre_finite_unmasked : Cert.Pre_finite_unmasked.Facts] (m : (ℓ : Loc Cert.TopkIdeal.nD Cert.TopkIdeal.τ Cert.TopkIdeal.sig) → Buf (Elt Ideal) ℓ) : Prop :=
  ∀ c : Dev Cert.TopkIdeal.nD,
    (Cert.Pre_finite_unmasked.fn (F := Ideal) (m ((c.tc : Thread Cert.TopkIdeal.nD Cert.TopkIdeal.τ).loc Cert.TopkIdeal.main_arg0)) (m ((c.tc : Thread Cert.TopkIdeal.nD Cert.TopkIdeal.τ).loc Cert.TopkIdeal.main_arg1))) = (fun _ => 1#1)

def Pre_TopkReferenceIdeal (m : (ℓ : Loc Cert.TopkReferenceIdeal.nD Cert.TopkReferenceIdeal.τ Cert.TopkReferenceIdeal.sig) → Buf (Elt Ideal) ℓ) : Prop :=
  True

def Pre_TopkReferenceIdeal_finite_unmasked [hPre_finite_unmasked : Cert.Pre_finite_unmasked.Facts] (m : (ℓ : Loc Cert.TopkReferenceIdeal.nD Cert.TopkReferenceIdeal.τ Cert.TopkReferenceIdeal.sig) → Buf (Elt Ideal) ℓ) : Prop :=
  ∀ c : Dev Cert.TopkReferenceIdeal.nD,
    (Cert.Pre_finite_unmasked.fn (F := Ideal) (m ((c.tc : Thread Cert.TopkReferenceIdeal.nD Cert.TopkReferenceIdeal.τ).loc Cert.TopkReferenceIdeal.main_arg0)) (m ((c.tc : Thread Cert.TopkReferenceIdeal.nD Cert.TopkReferenceIdeal.τ).loc Cert.TopkReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Edges [hEdges : Cert.Edges.Facts] : Prop :=
  ∀ (m : (ℓ : Loc Cert.Edges.nD Cert.Edges.τ Cert.Edges.sig) → Buf (Elt Bits) ℓ) (g : Dev Cert.Edges.nD → PrngReg), Pre_Edges m →
    θ_run (Cert.Edges.defs (F := Bits)) (onTc (τ := Cert.Edges.τ) (Cert.Edges.main (F := Bits))) ⟨m, fun _ => 0, g⟩ (fun r => (∀ c : Dev Cert.Edges.nD,
      r.2.mem ((c.tc : Thread Cert.Edges.nD Cert.Edges.τ).loc Cert.Edges.main_arg0) = m ((c.tc : Thread Cert.Edges.nD Cert.Edges.τ).loc Cert.Edges.main_arg0)
      ∧ r.2.mem ((c.tc : Thread Cert.Edges.nD Cert.Edges.τ).loc Cert.Edges.main_arg1) = m ((c.tc : Thread Cert.Edges.nD Cert.Edges.τ).loc Cert.Edges.main_arg1)
      ∧ r.2.mem ((c.tc : Thread Cert.Edges.nD Cert.Edges.τ).loc Cert.Edges.main_arg2) = m ((c.tc : Thread Cert.Edges.nD Cert.Edges.τ).loc Cert.Edges.main_arg2)
      ∧ r.2.mem ((c.tc : Thread Cert.Edges.nD Cert.Edges.τ).loc Cert.Edges.main_arg3) = m ((c.tc : Thread Cert.Edges.nD Cert.Edges.τ).loc Cert.Edges.main_arg3)
      ∧ r.2.mem ((c.tc : Thread Cert.Edges.nD Cert.Edges.τ).loc Cert.Edges.main_arg4) = m ((c.tc : Thread Cert.Edges.nD Cert.Edges.τ).loc Cert.Edges.main_arg4)
      ∧ r.2.mem ((c.tc : Thread Cert.Edges.nD Cert.Edges.τ).loc Cert.Edges.main_arg5) = m ((c.tc : Thread Cert.Edges.nD Cert.Edges.τ).loc Cert.Edges.main_arg5))
      ∧ r.2.sem = fun _ => 0)

def quiescent_EdgesIdeal [hEdgesIdeal : Cert.EdgesIdeal.Facts] : Prop :=
  ∀ (m : (ℓ : Loc Cert.EdgesIdeal.nD Cert.EdgesIdeal.τ Cert.EdgesIdeal.sig) → Buf (Elt Ideal) ℓ) (g : Dev Cert.EdgesIdeal.nD → PrngReg), Pre_EdgesIdeal m →
    θ_run (Cert.EdgesIdeal.defs (F := Ideal)) (onTc (τ := Cert.EdgesIdeal.τ) (Cert.EdgesIdeal.main (F := Ideal))) ⟨m, fun _ => 0, g⟩ (fun r => (∀ c : Dev Cert.EdgesIdeal.nD,
      r.2.mem ((c.tc : Thread Cert.EdgesIdeal.nD Cert.EdgesIdeal.τ).loc Cert.EdgesIdeal.main_arg0) = m ((c.tc : Thread Cert.EdgesIdeal.nD Cert.EdgesIdeal.τ).loc Cert.EdgesIdeal.main_arg0)
      ∧ r.2.mem ((c.tc : Thread Cert.EdgesIdeal.nD Cert.EdgesIdeal.τ).loc Cert.EdgesIdeal.main_arg1) = m ((c.tc : Thread Cert.EdgesIdeal.nD Cert.EdgesIdeal.τ).loc Cert.EdgesIdeal.main_arg1)
      ∧ r.2.mem ((c.tc : Thread Cert.EdgesIdeal.nD Cert.EdgesIdeal.τ).loc Cert.EdgesIdeal.main_arg2) = m ((c.tc : Thread Cert.EdgesIdeal.nD Cert.EdgesIdeal.τ).loc Cert.EdgesIdeal.main_arg2)
      ∧ r.2.mem ((c.tc : Thread Cert.EdgesIdeal.nD Cert.EdgesIdeal.τ).loc Cert.EdgesIdeal.main_arg3) = m ((c.tc : Thread Cert.EdgesIdeal.nD Cert.EdgesIdeal.τ).loc Cert.EdgesIdeal.main_arg3)
      ∧ r.2.mem ((c.tc : Thread Cert.EdgesIdeal.nD Cert.EdgesIdeal.τ).loc Cert.EdgesIdeal.main_arg4) = m ((c.tc : Thread Cert.EdgesIdeal.nD Cert.EdgesIdeal.τ).loc Cert.EdgesIdeal.main_arg4)
      ∧ r.2.mem ((c.tc : Thread Cert.EdgesIdeal.nD Cert.EdgesIdeal.τ).loc Cert.EdgesIdeal.main_arg5) = m ((c.tc : Thread Cert.EdgesIdeal.nD Cert.EdgesIdeal.τ).loc Cert.EdgesIdeal.main_arg5))
      ∧ r.2.sem = fun _ => 0)

def quiescent_EdgesIdeal_pre_finite_weights [hEdgesIdeal : Cert.EdgesIdeal.Facts] [hPre_finite_weights : Cert.Pre_finite_weights.Facts] : Prop :=
  ∀ (m : (ℓ : Loc Cert.EdgesIdeal.nD Cert.EdgesIdeal.τ Cert.EdgesIdeal.sig) → Buf (Elt Ideal) ℓ) (g : Dev Cert.EdgesIdeal.nD → PrngReg), Pre_EdgesIdeal_finite_weights m →
    θ_run (Cert.EdgesIdeal.defs (F := Ideal)) (onTc (τ := Cert.EdgesIdeal.τ) (Cert.EdgesIdeal.main (F := Ideal))) ⟨m, fun _ => 0, g⟩ (fun r => (∀ c : Dev Cert.EdgesIdeal.nD,
      r.2.mem ((c.tc : Thread Cert.EdgesIdeal.nD Cert.EdgesIdeal.τ).loc Cert.EdgesIdeal.main_arg0) = m ((c.tc : Thread Cert.EdgesIdeal.nD Cert.EdgesIdeal.τ).loc Cert.EdgesIdeal.main_arg0)
      ∧ r.2.mem ((c.tc : Thread Cert.EdgesIdeal.nD Cert.EdgesIdeal.τ).loc Cert.EdgesIdeal.main_arg1) = m ((c.tc : Thread Cert.EdgesIdeal.nD Cert.EdgesIdeal.τ).loc Cert.EdgesIdeal.main_arg1)
      ∧ r.2.mem ((c.tc : Thread Cert.EdgesIdeal.nD Cert.EdgesIdeal.τ).loc Cert.EdgesIdeal.main_arg2) = m ((c.tc : Thread Cert.EdgesIdeal.nD Cert.EdgesIdeal.τ).loc Cert.EdgesIdeal.main_arg2)
      ∧ r.2.mem ((c.tc : Thread Cert.EdgesIdeal.nD Cert.EdgesIdeal.τ).loc Cert.EdgesIdeal.main_arg3) = m ((c.tc : Thread Cert.EdgesIdeal.nD Cert.EdgesIdeal.τ).loc Cert.EdgesIdeal.main_arg3)
      ∧ r.2.mem ((c.tc : Thread Cert.EdgesIdeal.nD Cert.EdgesIdeal.τ).loc Cert.EdgesIdeal.main_arg4) = m ((c.tc : Thread Cert.EdgesIdeal.nD Cert.EdgesIdeal.τ).loc Cert.EdgesIdeal.main_arg4)
      ∧ r.2.mem ((c.tc : Thread Cert.EdgesIdeal.nD Cert.EdgesIdeal.τ).loc Cert.EdgesIdeal.main_arg5) = m ((c.tc : Thread Cert.EdgesIdeal.nD Cert.EdgesIdeal.τ).loc Cert.EdgesIdeal.main_arg5))
      ∧ r.2.sem = fun _ => 0)

def quiescent_EdgesReferenceIdeal [hEdgesReferenceIdeal : Cert.EdgesReferenceIdeal.Facts] : Prop :=
  ∀ (m : (ℓ : Loc Cert.EdgesReferenceIdeal.nD Cert.EdgesReferenceIdeal.τ Cert.EdgesReferenceIdeal.sig) → Buf (Elt Ideal) ℓ) (g : Dev Cert.EdgesReferenceIdeal.nD → PrngReg), Pre_EdgesReferenceIdeal m →
    θ_run (Cert.EdgesReferenceIdeal.defs (F := Ideal)) (onTc (τ := Cert.EdgesReferenceIdeal.τ) (Cert.EdgesReferenceIdeal.main (F := Ideal))) ⟨m, fun _ => 0, g⟩ (fun r => (∀ c : Dev Cert.EdgesReferenceIdeal.nD,
      r.2.mem ((c.tc : Thread Cert.EdgesReferenceIdeal.nD Cert.EdgesReferenceIdeal.τ).loc Cert.EdgesReferenceIdeal.main_arg0) = m ((c.tc : Thread Cert.EdgesReferenceIdeal.nD Cert.EdgesReferenceIdeal.τ).loc Cert.EdgesReferenceIdeal.main_arg0)
      ∧ r.2.mem ((c.tc : Thread Cert.EdgesReferenceIdeal.nD Cert.EdgesReferenceIdeal.τ).loc Cert.EdgesReferenceIdeal.main_arg1) = m ((c.tc : Thread Cert.EdgesReferenceIdeal.nD Cert.EdgesReferenceIdeal.τ).loc Cert.EdgesReferenceIdeal.main_arg1)
      ∧ r.2.mem ((c.tc : Thread Cert.EdgesReferenceIdeal.nD Cert.EdgesReferenceIdeal.τ).loc Cert.EdgesReferenceIdeal.main_arg2) = m ((c.tc : Thread Cert.EdgesReferenceIdeal.nD Cert.EdgesReferenceIdeal.τ).loc Cert.EdgesReferenceIdeal.main_arg2)
      ∧ r.2.mem ((c.tc : Thread Cert.EdgesReferenceIdeal.nD Cert.EdgesReferenceIdeal.τ).loc Cert.EdgesReferenceIdeal.main_arg3) = m ((c.tc : Thread Cert.EdgesReferenceIdeal.nD Cert.EdgesReferenceIdeal.τ).loc Cert.EdgesReferenceIdeal.main_arg3)
      ∧ r.2.mem ((c.tc : Thread Cert.EdgesReferenceIdeal.nD Cert.EdgesReferenceIdeal.τ).loc Cert.EdgesReferenceIdeal.main_arg4) = m ((c.tc : Thread Cert.EdgesReferenceIdeal.nD Cert.EdgesReferenceIdeal.τ).loc Cert.EdgesReferenceIdeal.main_arg4)
      ∧ r.2.mem ((c.tc : Thread Cert.EdgesReferenceIdeal.nD Cert.EdgesReferenceIdeal.τ).loc Cert.EdgesReferenceIdeal.main_arg5) = m ((c.tc : Thread Cert.EdgesReferenceIdeal.nD Cert.EdgesReferenceIdeal.τ).loc Cert.EdgesReferenceIdeal.main_arg5))
      ∧ r.2.sem = fun _ => 0)

def quiescent_EdgesReferenceIdeal_pre_finite_weights [hEdgesReferenceIdeal : Cert.EdgesReferenceIdeal.Facts] [hPre_finite_weights : Cert.Pre_finite_weights.Facts] : Prop :=
  ∀ (m : (ℓ : Loc Cert.EdgesReferenceIdeal.nD Cert.EdgesReferenceIdeal.τ Cert.EdgesReferenceIdeal.sig) → Buf (Elt Ideal) ℓ) (g : Dev Cert.EdgesReferenceIdeal.nD → PrngReg), Pre_EdgesReferenceIdeal_finite_weights m →
    θ_run (Cert.EdgesReferenceIdeal.defs (F := Ideal)) (onTc (τ := Cert.EdgesReferenceIdeal.τ) (Cert.EdgesReferenceIdeal.main (F := Ideal))) ⟨m, fun _ => 0, g⟩ (fun r => (∀ c : Dev Cert.EdgesReferenceIdeal.nD,
      r.2.mem ((c.tc : Thread Cert.EdgesReferenceIdeal.nD Cert.EdgesReferenceIdeal.τ).loc Cert.EdgesReferenceIdeal.main_arg0) = m ((c.tc : Thread Cert.EdgesReferenceIdeal.nD Cert.EdgesReferenceIdeal.τ).loc Cert.EdgesReferenceIdeal.main_arg0)
      ∧ r.2.mem ((c.tc : Thread Cert.EdgesReferenceIdeal.nD Cert.EdgesReferenceIdeal.τ).loc Cert.EdgesReferenceIdeal.main_arg1) = m ((c.tc : Thread Cert.EdgesReferenceIdeal.nD Cert.EdgesReferenceIdeal.τ).loc Cert.EdgesReferenceIdeal.main_arg1)
      ∧ r.2.mem ((c.tc : Thread Cert.EdgesReferenceIdeal.nD Cert.EdgesReferenceIdeal.τ).loc Cert.EdgesReferenceIdeal.main_arg2) = m ((c.tc : Thread Cert.EdgesReferenceIdeal.nD Cert.EdgesReferenceIdeal.τ).loc Cert.EdgesReferenceIdeal.main_arg2)
      ∧ r.2.mem ((c.tc : Thread Cert.EdgesReferenceIdeal.nD Cert.EdgesReferenceIdeal.τ).loc Cert.EdgesReferenceIdeal.main_arg3) = m ((c.tc : Thread Cert.EdgesReferenceIdeal.nD Cert.EdgesReferenceIdeal.τ).loc Cert.EdgesReferenceIdeal.main_arg3)
      ∧ r.2.mem ((c.tc : Thread Cert.EdgesReferenceIdeal.nD Cert.EdgesReferenceIdeal.τ).loc Cert.EdgesReferenceIdeal.main_arg4) = m ((c.tc : Thread Cert.EdgesReferenceIdeal.nD Cert.EdgesReferenceIdeal.τ).loc Cert.EdgesReferenceIdeal.main_arg4)
      ∧ r.2.mem ((c.tc : Thread Cert.EdgesReferenceIdeal.nD Cert.EdgesReferenceIdeal.τ).loc Cert.EdgesReferenceIdeal.main_arg5) = m ((c.tc : Thread Cert.EdgesReferenceIdeal.nD Cert.EdgesReferenceIdeal.τ).loc Cert.EdgesReferenceIdeal.main_arg5))
      ∧ r.2.sem = fun _ => 0)

def quiescent_Topk [hTopk : Cert.Topk.Facts] : Prop :=
  ∀ (m : (ℓ : Loc Cert.Topk.nD Cert.Topk.τ Cert.Topk.sig) → Buf (Elt Bits) ℓ) (g : Dev Cert.Topk.nD → PrngReg), Pre_Topk m →
    θ_run (Cert.Topk.defs (F := Bits)) (onTc (τ := Cert.Topk.τ) (Cert.Topk.main (F := Bits))) ⟨m, fun _ => 0, g⟩ (fun r => (∀ c : Dev Cert.Topk.nD,
      r.2.mem ((c.tc : Thread Cert.Topk.nD Cert.Topk.τ).loc Cert.Topk.main_arg0) = m ((c.tc : Thread Cert.Topk.nD Cert.Topk.τ).loc Cert.Topk.main_arg0)
      ∧ r.2.mem ((c.tc : Thread Cert.Topk.nD Cert.Topk.τ).loc Cert.Topk.main_arg1) = m ((c.tc : Thread Cert.Topk.nD Cert.Topk.τ).loc Cert.Topk.main_arg1))
      ∧ r.2.sem = fun _ => 0)

def quiescent_TopkIdeal [hTopkIdeal : Cert.TopkIdeal.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ r.2.sem = fun _ => 0)

def quiescent_TopkIdeal_pre_finite_unmasked [hTopkIdeal : Cert.TopkIdeal.Facts] [hPre_finite_unmasked : Cert.Pre_finite_unmasked.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal_finite_unmasked m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ r.2.sem = fun _ => 0)

def quiescent_TopkReferenceIdeal [hTopkReferenceIdeal : Cert.TopkReferenceIdeal.Facts] : Prop :=
  ∀ (m : (ℓ : Loc Cert.TopkReferenceIdeal.nD Cert.TopkReferenceIdeal.τ Cert.TopkReferenceIdeal.sig) → Buf (Elt Ideal) ℓ) (g : Dev Cert.TopkReferenceIdeal.nD → PrngReg), Pre_TopkReferenceIdeal m →
    θ_run (Cert.TopkReferenceIdeal.defs (F := Ideal)) (onTc (τ := Cert.TopkReferenceIdeal.τ) (Cert.TopkReferenceIdeal.main (F := Ideal))) ⟨m, fun _ => 0, g⟩ (fun r => (∀ c : Dev Cert.TopkReferenceIdeal.nD,
      r.2.mem ((c.tc : Thread Cert.TopkReferenceIdeal.nD Cert.TopkReferenceIdeal.τ).loc Cert.TopkReferenceIdeal.main_arg0) = m ((c.tc : Thread Cert.TopkReferenceIdeal.nD Cert.TopkReferenceIdeal.τ).loc Cert.TopkReferenceIdeal.main_arg0)
      ∧ r.2.mem ((c.tc : Thread Cert.TopkReferenceIdeal.nD Cert.TopkReferenceIdeal.τ).loc Cert.TopkReferenceIdeal.main_arg1) = m ((c.tc : Thread Cert.TopkReferenceIdeal.nD Cert.TopkReferenceIdeal.τ).loc Cert.TopkReferenceIdeal.main_arg1))
      ∧ r.2.sem = fun _ => 0)

def quiescent_TopkReferenceIdeal_pre_finite_unmasked [hTopkReferenceIdeal : Cert.TopkReferenceIdeal.Facts] [hPre_finite_unmasked : Cert.Pre_finite_unmasked.Facts] : Prop :=
  ∀ (m : (ℓ : Loc Cert.TopkReferenceIdeal.nD Cert.TopkReferenceIdeal.τ Cert.TopkReferenceIdeal.sig) → Buf (Elt Ideal) ℓ) (g : Dev Cert.TopkReferenceIdeal.nD → PrngReg), Pre_TopkReferenceIdeal_finite_unmasked m →
    θ_run (Cert.TopkReferenceIdeal.defs (F := Ideal)) (onTc (τ := Cert.TopkReferenceIdeal.τ) (Cert.TopkReferenceIdeal.main (F := Ideal))) ⟨m, fun _ => 0, g⟩ (fun r => (∀ c : Dev Cert.TopkReferenceIdeal.nD,
      r.2.mem ((c.tc : Thread Cert.TopkReferenceIdeal.nD Cert.TopkReferenceIdeal.τ).loc Cert.TopkReferenceIdeal.main_arg0) = m ((c.tc : Thread Cert.TopkReferenceIdeal.nD Cert.TopkReferenceIdeal.τ).loc Cert.TopkReferenceIdeal.main_arg0)
      ∧ r.2.mem ((c.tc : Thread Cert.TopkReferenceIdeal.nD Cert.TopkReferenceIdeal.τ).loc Cert.TopkReferenceIdeal.main_arg1) = m ((c.tc : Thread Cert.TopkReferenceIdeal.nD Cert.TopkReferenceIdeal.τ).loc Cert.TopkReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Edges_EdgesIdeal : Prop :=
  True

def algebraic_EdgesIdeal_EdgesReferenceIdeal_pre_finite_weights [hEdgesIdeal : Cert.EdgesIdeal.Facts] [hEdgesReferenceIdeal : Cert.EdgesReferenceIdeal.Facts] [hPre_finite_weights : Cert.Pre_finite_weights.Facts] : Prop :=
  ∀ (m : (ℓ : Loc Cert.EdgesIdeal.nD Cert.EdgesIdeal.τ Cert.EdgesIdeal.sig) → Buf (Elt Ideal) ℓ) (g : Dev Cert.EdgesIdeal.nD → PrngReg)
    (m' : (ℓ : Loc Cert.EdgesReferenceIdeal.nD Cert.EdgesReferenceIdeal.τ Cert.EdgesReferenceIdeal.sig) → Buf (Elt Ideal) ℓ) (g' : Dev Cert.EdgesReferenceIdeal.nD → PrngReg), Pre_EdgesIdeal_finite_weights m →
    (∀ c : Dev Cert.EdgesIdeal.nD,
      m' ((c.tc : Thread Cert.EdgesReferenceIdeal.nD Cert.EdgesReferenceIdeal.τ).loc Cert.EdgesReferenceIdeal.main_arg0) = m ((c.tc : Thread Cert.EdgesIdeal.nD Cert.EdgesIdeal.τ).loc Cert.EdgesIdeal.main_arg0)
      ∧ m' ((c.tc : Thread Cert.EdgesReferenceIdeal.nD Cert.EdgesReferenceIdeal.τ).loc Cert.EdgesReferenceIdeal.main_arg1) = m ((c.tc : Thread Cert.EdgesIdeal.nD Cert.EdgesIdeal.τ).loc Cert.EdgesIdeal.main_arg1)
      ∧ m' ((c.tc : Thread Cert.EdgesReferenceIdeal.nD Cert.EdgesReferenceIdeal.τ).loc Cert.EdgesReferenceIdeal.main_arg2) = m ((c.tc : Thread Cert.EdgesIdeal.nD Cert.EdgesIdeal.τ).loc Cert.EdgesIdeal.main_arg2)
      ∧ m' ((c.tc : Thread Cert.EdgesReferenceIdeal.nD Cert.EdgesReferenceIdeal.τ).loc Cert.EdgesReferenceIdeal.main_arg3) = m ((c.tc : Thread Cert.EdgesIdeal.nD Cert.EdgesIdeal.τ).loc Cert.EdgesIdeal.main_arg3)
      ∧ m' ((c.tc : Thread Cert.EdgesReferenceIdeal.nD Cert.EdgesReferenceIdeal.τ).loc Cert.EdgesReferenceIdeal.main_arg4) = m ((c.tc : Thread Cert.EdgesIdeal.nD Cert.EdgesIdeal.τ).loc Cert.EdgesIdeal.main_arg4)
      ∧ m' ((c.tc : Thread Cert.EdgesReferenceIdeal.nD Cert.EdgesReferenceIdeal.τ).loc Cert.EdgesReferenceIdeal.main_arg5) = m ((c.tc : Thread Cert.EdgesIdeal.nD Cert.EdgesIdeal.τ).loc Cert.EdgesIdeal.main_arg5)) →
    ∃ (v0 : (c : Dev Cert.EdgesIdeal.nD) → Buf (Elt Ideal) ((c.tc : Thread Cert.EdgesIdeal.nD Cert.EdgesIdeal.τ).loc Cert.EdgesIdeal.main_v56)),
      θ_run (Cert.EdgesIdeal.defs (F := Ideal)) (onTc (τ := Cert.EdgesIdeal.τ) (Cert.EdgesIdeal.main (F := Ideal))) ⟨m, fun _ => 0, g⟩ (fun r => ∀ c : Dev Cert.EdgesIdeal.nD,
          r.2.mem ((c.tc : Thread Cert.EdgesIdeal.nD Cert.EdgesIdeal.τ).loc Cert.EdgesIdeal.main_v56) = v0 c
          ∧ r.2.mem ((c.tc : Thread Cert.EdgesIdeal.nD Cert.EdgesIdeal.τ).loc Cert.EdgesIdeal.main_arg0) = m ((c.tc : Thread Cert.EdgesIdeal.nD Cert.EdgesIdeal.τ).loc Cert.EdgesIdeal.main_arg0)
          ∧ r.2.mem ((c.tc : Thread Cert.EdgesIdeal.nD Cert.EdgesIdeal.τ).loc Cert.EdgesIdeal.main_arg1) = m ((c.tc : Thread Cert.EdgesIdeal.nD Cert.EdgesIdeal.τ).loc Cert.EdgesIdeal.main_arg1)
          ∧ r.2.mem ((c.tc : Thread Cert.EdgesIdeal.nD Cert.EdgesIdeal.τ).loc Cert.EdgesIdeal.main_arg2) = m ((c.tc : Thread Cert.EdgesIdeal.nD Cert.EdgesIdeal.τ).loc Cert.EdgesIdeal.main_arg2)
          ∧ r.2.mem ((c.tc : Thread Cert.EdgesIdeal.nD Cert.EdgesIdeal.τ).loc Cert.EdgesIdeal.main_arg3) = m ((c.tc : Thread Cert.EdgesIdeal.nD Cert.EdgesIdeal.τ).loc Cert.EdgesIdeal.main_arg3)
          ∧ r.2.mem ((c.tc : Thread Cert.EdgesIdeal.nD Cert.EdgesIdeal.τ).loc Cert.EdgesIdeal.main_arg4) = m ((c.tc : Thread Cert.EdgesIdeal.nD Cert.EdgesIdeal.τ).loc Cert.EdgesIdeal.main_arg4)
          ∧ r.2.mem ((c.tc : Thread Cert.EdgesIdeal.nD Cert.EdgesIdeal.τ).loc Cert.EdgesIdeal.main_arg5) = m ((c.tc : Thread Cert.EdgesIdeal.nD Cert.EdgesIdeal.τ).loc Cert.EdgesIdeal.main_arg5))
      ∧ θ_run (Cert.EdgesReferenceIdeal.defs (F := Ideal)) (onTc (τ := Cert.EdgesReferenceIdeal.τ) (Cert.EdgesReferenceIdeal.main (F := Ideal))) ⟨m', fun _ => 0, g'⟩ (fun r => ∀ c : Dev Cert.EdgesReferenceIdeal.nD,
          r.2.mem ((c.tc : Thread Cert.EdgesReferenceIdeal.nD Cert.EdgesReferenceIdeal.τ).loc Cert.EdgesReferenceIdeal.main_v50) = v0 c
          ∧ r.2.mem ((c.tc : Thread Cert.EdgesReferenceIdeal.nD Cert.EdgesReferenceIdeal.τ).loc Cert.EdgesReferenceIdeal.main_arg0) = m' ((c.tc : Thread Cert.EdgesReferenceIdeal.nD Cert.EdgesReferenceIdeal.τ).loc Cert.EdgesReferenceIdeal.main_arg0)
          ∧ r.2.mem ((c.tc : Thread Cert.EdgesReferenceIdeal.nD Cert.EdgesReferenceIdeal.τ).loc Cert.EdgesReferenceIdeal.main_arg1) = m' ((c.tc : Thread Cert.EdgesReferenceIdeal.nD Cert.EdgesReferenceIdeal.τ).loc Cert.EdgesReferenceIdeal.main_arg1)
          ∧ r.2.mem ((c.tc : Thread Cert.EdgesReferenceIdeal.nD Cert.EdgesReferenceIdeal.τ).loc Cert.EdgesReferenceIdeal.main_arg2) = m' ((c.tc : Thread Cert.EdgesReferenceIdeal.nD Cert.EdgesReferenceIdeal.τ).loc Cert.EdgesReferenceIdeal.main_arg2)
          ∧ r.2.mem ((c.tc : Thread Cert.EdgesReferenceIdeal.nD Cert.EdgesReferenceIdeal.τ).loc Cert.EdgesReferenceIdeal.main_arg3) = m' ((c.tc : Thread Cert.EdgesReferenceIdeal.nD Cert.EdgesReferenceIdeal.τ).loc Cert.EdgesReferenceIdeal.main_arg3)
          ∧ r.2.mem ((c.tc : Thread Cert.EdgesReferenceIdeal.nD Cert.EdgesReferenceIdeal.τ).loc Cert.EdgesReferenceIdeal.main_arg4) = m' ((c.tc : Thread Cert.EdgesReferenceIdeal.nD Cert.EdgesReferenceIdeal.τ).loc Cert.EdgesReferenceIdeal.main_arg4)
          ∧ r.2.mem ((c.tc : Thread Cert.EdgesReferenceIdeal.nD Cert.EdgesReferenceIdeal.τ).loc Cert.EdgesReferenceIdeal.main_arg5) = m' ((c.tc : Thread Cert.EdgesReferenceIdeal.nD Cert.EdgesReferenceIdeal.τ).loc Cert.EdgesReferenceIdeal.main_arg5))

def preserves_Topk_TopkIdeal : Prop :=
  True

def algebraic_TopkIdeal_TopkReferenceIdeal_pre_finite_unmasked [hTopkIdeal : Cert.TopkIdeal.Facts] [hTopkReferenceIdeal : Cert.TopkReferenceIdeal.Facts] [hPre_finite_unmasked : Cert.Pre_finite_unmasked.Facts] : Prop :=
  ∀ (m : (ℓ : Loc Cert.TopkIdeal.nD Cert.TopkIdeal.τ Cert.TopkIdeal.sig) → Buf (Elt Ideal) ℓ) (g : Dev Cert.TopkIdeal.nD → PrngReg)
    (m' : (ℓ : Loc Cert.TopkReferenceIdeal.nD Cert.TopkReferenceIdeal.τ Cert.TopkReferenceIdeal.sig) → Buf (Elt Ideal) ℓ) (g' : Dev Cert.TopkReferenceIdeal.nD → PrngReg), Pre_TopkIdeal_finite_unmasked m →
    (∀ c : Dev Cert.TopkIdeal.nD,
      m' ((c.tc : Thread Cert.TopkReferenceIdeal.nD Cert.TopkReferenceIdeal.τ).loc Cert.TopkReferenceIdeal.main_arg0) = m ((c.tc : Thread Cert.TopkIdeal.nD Cert.TopkIdeal.τ).loc Cert.TopkIdeal.main_arg0)
      ∧ m' ((c.tc : Thread Cert.TopkReferenceIdeal.nD Cert.TopkReferenceIdeal.τ).loc Cert.TopkReferenceIdeal.main_arg1) = m ((c.tc : Thread Cert.TopkIdeal.nD Cert.TopkIdeal.τ).loc Cert.TopkIdeal.main_arg1)) →
    ∃ (v0 : (c : Dev Cert.TopkIdeal.nD) → Buf (Elt Ideal) ((c.tc : Thread Cert.TopkIdeal.nD Cert.TopkIdeal.τ).loc Cert.TopkIdeal.main_v4_0)) (v1 : (c : Dev Cert.TopkIdeal.nD) → Buf (Elt Ideal) ((c.tc : Thread Cert.TopkIdeal.nD Cert.TopkIdeal.τ).loc Cert.TopkIdeal.main_v4_1)),
      θ_run (Cert.TopkIdeal.defs (F := Ideal)) (onTc (τ := Cert.TopkIdeal.τ) (Cert.TopkIdeal.main (F := Ideal))) ⟨m, fun _ => 0, g⟩ (fun r => ∀ c : Dev Cert.TopkIdeal.nD,
          r.2.mem ((c.tc : Thread Cert.TopkIdeal.nD Cert.TopkIdeal.τ).loc Cert.TopkIdeal.main_v4_0) = v0 c
          ∧ r.2.mem ((c.tc : Thread Cert.TopkIdeal.nD Cert.TopkIdeal.τ).loc Cert.TopkIdeal.main_v4_1) = v1 c
          ∧ r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
          ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ θ_run (Cert.TopkReferenceIdeal.defs (F := Ideal)) (onTc (τ := Cert.TopkReferenceIdeal.τ) (Cert.TopkReferenceIdeal.main (F := Ideal))) ⟨m', fun _ => 0, g'⟩ (fun r => ∀ c : Dev Cert.TopkReferenceIdeal.nD,
          r.2.mem ((c.tc : Thread Cert.TopkReferenceIdeal.nD Cert.TopkReferenceIdeal.τ).loc Cert.TopkReferenceIdeal.main_v50) = v0 c
          ∧ r.2.mem ((c.tc : Thread Cert.TopkReferenceIdeal.nD Cert.TopkReferenceIdeal.τ).loc Cert.TopkReferenceIdeal.main_v54) = v1 c
          ∧ r.2.mem ((c.tc : Thread Cert.TopkReferenceIdeal.nD Cert.TopkReferenceIdeal.τ).loc Cert.TopkReferenceIdeal.main_arg0) = m' ((c.tc : Thread Cert.TopkReferenceIdeal.nD Cert.TopkReferenceIdeal.τ).loc Cert.TopkReferenceIdeal.main_arg0)
          ∧ r.2.mem ((c.tc : Thread Cert.TopkReferenceIdeal.nD Cert.TopkReferenceIdeal.τ).loc Cert.TopkReferenceIdeal.main_arg1) = m' ((c.tc : Thread Cert.TopkReferenceIdeal.nD Cert.TopkReferenceIdeal.τ).loc Cert.TopkReferenceIdeal.main_arg1))

def Claim : Prop :=
  ∃ (hKernel : Cert.Kernel.Facts) (hKernelIdeal : Cert.KernelIdeal.Facts) (hReferenceIdeal : Cert.ReferenceIdeal.Facts) (hEdges : Cert.Edges.Facts) (hEdgesIdeal : Cert.EdgesIdeal.Facts) (hEdgesReferenceIdeal : Cert.EdgesReferenceIdeal.Facts) (hTopk : Cert.Topk.Facts) (hTopkIdeal : Cert.TopkIdeal.Facts) (hTopkReferenceIdeal : Cert.TopkReferenceIdeal.Facts) (hPre_in_range : Cert.Pre_in_range.Facts) (hPre_finite_weights : Cert.Pre_finite_weights.Facts) (hPre_finite_unmasked : Cert.Pre_finite_unmasked.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Edges (hEdges := hEdges)
    ∧ quiescent_EdgesIdeal (hEdgesIdeal := hEdgesIdeal)
    ∧ quiescent_EdgesIdeal_pre_finite_weights (hEdgesIdeal := hEdgesIdeal) (hPre_finite_weights := hPre_finite_weights)
    ∧ quiescent_EdgesReferenceIdeal (hEdgesReferenceIdeal := hEdgesReferenceIdeal)
    ∧ quiescent_EdgesReferenceIdeal_pre_finite_weights (hEdgesReferenceIdeal := hEdgesReferenceIdeal) (hPre_finite_weights := hPre_finite_weights)
    ∧ quiescent_Topk (hTopk := hTopk)
    ∧ quiescent_TopkIdeal (hTopkIdeal := hTopkIdeal)
    ∧ quiescent_TopkIdeal_pre_finite_unmasked (hTopkIdeal := hTopkIdeal) (hPre_finite_unmasked := hPre_finite_unmasked)
    ∧ quiescent_TopkReferenceIdeal (hTopkReferenceIdeal := hTopkReferenceIdeal)
    ∧ quiescent_TopkReferenceIdeal_pre_finite_unmasked (hTopkReferenceIdeal := hTopkReferenceIdeal) (hPre_finite_unmasked := hPre_finite_unmasked)
    ∧ preserves_Kernel_KernelIdeal
    ∧ algebraic_KernelIdeal_ReferenceIdeal (hKernelIdeal := hKernelIdeal) (hReferenceIdeal := hReferenceIdeal) (hPre_in_range := hPre_in_range)
    ∧ preserves_Edges_EdgesIdeal
    ∧ algebraic_EdgesIdeal_EdgesReferenceIdeal_pre_finite_weights (hEdgesIdeal := hEdgesIdeal) (hEdgesReferenceIdeal := hEdgesReferenceIdeal) (hPre_finite_weights := hPre_finite_weights)
    ∧ preserves_Topk_TopkIdeal
    ∧ algebraic_TopkIdeal_TopkReferenceIdeal_pre_finite_unmasked (hTopkIdeal := hTopkIdeal) (hTopkReferenceIdeal := hTopkReferenceIdeal) (hPre_finite_unmasked := hPre_finite_unmasked)
-- ==== Pre_finite_unmasked.lean ====
abbrev S4x512x4x3 : Shape := ⟨4, ![4, 512, 4, 3]⟩
abbrev S4x512 : Shape := ⟨2, ![4, 512]⟩
abbrev S_ : Shape := ⟨0, ![]⟩
abbrev S4x512x1x3 : Shape := ⟨4, ![4, 512, 1, 3]⟩
abbrev S4x512x3 : Shape := ⟨3, ![4, 512, 3]⟩

class Facts : Prop where
  bcast_S_S4x512 : S_.BroadcastsInDim S4x512 (![] : Fin 0 → Fin S4x512.rank)
  reducesTo_S4x512_S_d0_1 : S4x512.ReducesTo [0, 1] S_
  h_S_ : 0 < S_.numel
  slices_S4x512x4x3_S4x512x1x3_0_0_1_0 : S4x512x4x3.Slices ![0, 0, 1, 0] S4x512x1x3
  shapeCasts_S4x512x1x3_S4x512x3 : S4x512x1x3.ShapeCasts S4x512x3
  bcast_S_S4x512x3 : S_.BroadcastsInDim S4x512x3 (![] : Fin 0 → Fin S4x512x3.rank)
  reducesTo_S4x512x3_S_d0_1_2 : S4x512x3.ReducesTo [0, 1, 2] S_

variable [Facts]

def fn {F : FTy → Type} [FloatOps F] (main_arg0 : FVec F S4x512x4x3 .f32) (main_arg1 : FVec F S4x512 .f32) : IVec S_ 1 :=
  let main_cst : FVec F S_ .f32 := constant S_ .f32 0x00000000#32
  let main_v0 : FVec F S4x512 .f32 := broadcastInDim S4x512 ![] bcast_S_S4x512 main_cst
  let main_v1 : IVec S4x512 1 := cmpf .une main_arg1 main_v0
  let main_c : IVec S_ 1 := constantI S_ 1 1#1
  let main_v2 : IVec S_ 1 := (fun x v => Host.reduce IntOp.andi x v reducesTo_S4x512_S_d0_1 h_S_) main_v1 main_c
  let main_v3 : FVec F S4x512x1x3 .f32 := (extractStridedSlice S4x512x1x3 ![0, 0, 1, 0] · slices_S4x512x4x3_S4x512x1x3_0_0_1_0) main_arg0
  let main_v4 : FVec F S4x512x3 .f32 := shapeCast S4x512x3 main_v3 shapeCasts_S4x512x1x3_S4x512x3
  let main_v5 : FVec F S4x512x3 .f32 := Host.absf main_v4
  let main_cst_0 : FVec F S_ .f32 := constant S_ .f32 0x7F800000#32
  let main_v6 : FVec F S4x512x3 .f32 := broadcastInDim S4x512x3 ![] bcast_S_S4x512x3 main_cst_0
  let main_v7 : IVec S4x512x3 1 := cmpf .olt main_v5 main_v6
  let main_c_1 : IVec S_ 1 := constantI S_ 1 1#1
  let main_v8 : IVec S_ 1 := (fun x v => Host.reduce IntOp.andi x v reducesTo_S4x512x3_S_d0_1_2 h_S_) main_v7 main_c_1
  let main_v9 : IVec S_ 1 := andi main_v2 main_v8
  main_v9
-- ==== Pre_finite_weights.lean ====
abbrev S2097152 : Shape := ⟨1, ![2097152]⟩
abbrev S66x16 : Shape := ⟨2, ![66, 16]⟩
abbrev S16 : Shape := ⟨1, ![16]⟩
abbrev S416x128 : Shape := ⟨2, ![416, 128]⟩
abbrev S128 : Shape := ⟨1, ![128]⟩
abbrev S16x128 : Shape := ⟨2, ![16, 128]⟩
abbrev S_ : Shape := ⟨0, ![]⟩

class Facts : Prop where
  slices_S416x128_S16x128_0_0 : S416x128.Slices ![0, 0] S16x128
  bcast_S_S16x128 : S_.BroadcastsInDim S16x128 (![] : Fin 0 → Fin S16x128.rank)
  reducesTo_S16x128_S_d0_1 : S16x128.ReducesTo [0, 1] S_
  h_S_ : 0 < S_.numel

variable [Facts]

def fn {F : FTy → Type} [FloatOps F] (main_arg0 : FVec F S2097152 .f32) (main_arg1 : FVec F S66x16 .f32) (main_arg2 : FVec F S16 .f32) (main_arg3 : FVec F S416x128 .f32) (main_arg4 : FVec F S128 .f32) (main_arg5 : FVec F S128 .f32) : IVec S_ 1 :=
  let main_v0 : FVec F S16x128 .f32 := (extractStridedSlice S16x128 ![0, 0] · slices_S416x128_S16x128_0_0) main_arg3
  let main_v1 : FVec F S16x128 .f32 := Host.absf main_v0
  let main_cst : FVec F S_ .f32 := constant S_ .f32 0x7F800000#32
  let main_v2 : FVec F S16x128 .f32 := broadcastInDim S16x128 ![] bcast_S_S16x128 main_cst
  let main_v3 : IVec S16x128 1 := cmpf .olt main_v1 main_v2
  let main_c : IVec S_ 1 := constantI S_ 1 1#1
  let main_v4 : IVec S_ 1 := (fun x v => Host.reduce IntOp.andi x v reducesTo_S16x128_S_d0_1 h_S_) main_v3 main_c
  main_v4
-- ==== Pre_in_range.lean ====
abbrev S4x512x16 : Shape := ⟨3, ![4, 512, 16]⟩
abbrev S4x512 : Shape := ⟨2, ![4, 512]⟩
abbrev S4x512x32 : Shape := ⟨3, ![4, 512, 32]⟩
abbrev S_ : Shape := ⟨0, ![]⟩

class Facts : Prop where
  bcast_S_S4x512x32 : S_.BroadcastsInDim S4x512x32 (![] : Fin 0 → Fin S4x512x32.rank)
  reducesTo_S4x512x32_S_d0_1_2 : S4x512x32.ReducesTo [0, 1, 2] S_
  h_S_ : 0 < S_.numel

variable [Facts]

def fn {F : FTy → Type} [FloatOps F] (main_arg0 : FVec F S4x512x16 .f32) (main_arg1 : IVec S4x512 32) (main_arg2 : IVec S4x512x32 32) : IVec S_ 1 :=
  let main_c : IVec S_ 32 := constantI S_ 32 0#32
  let main_v0 : IVec S4x512x32 32 := broadcastInDim S4x512x32 ![] bcast_S_S4x512x32 main_c
  let main_v1 : IVec S4x512x32 1 := cmpi .sge main_arg2 main_v0
  let main_c_0 : IVec S_ 32 := constantI S_ 32 512#32
  let main_v2 : IVec S4x512x32 32 := broadcastInDim S4x512x32 ![] bcast_S_S4x512x32 main_c_0
  let main_v3 : IVec S4x512x32 1 := cmpi .slt main_arg2 main_v2
  let main_v4 : IVec S4x512x32 1 := andi main_v1 main_v3
  let main_c_1 : IVec S_ 1 := constantI S_ 1 1#1
  let main_v5 : IVec S_ 1 := (fun x v => Host.reduce IntOp.andi x v reducesTo_S4x512x32_S_d0_1_2 h_S_) main_v4 main_c_1
  main_v5
-- ==== Kernel.lean ====
abbrev S4x512x16 : Shape := ⟨3, ![4, 512, 16]⟩
abbrev S4x512 : Shape := ⟨2, ![4, 512]⟩
abbrev S4x512x32 : Shape := ⟨3, ![4, 512, 32]⟩
abbrev S32768 : Shape := ⟨1, ![32768]⟩
abbrev S2048 : Shape := ⟨1, ![2048]⟩
abbrev S65536 : Shape := ⟨1, ![65536]⟩
abbrev S2097152 : Shape := ⟨1, ![2097152]⟩
abbrev S_ : Shape := ⟨0, ![]⟩
abbrev S16 : Shape := ⟨1, ![16]⟩

abbrev nBuf : Table → Nat
  | .hbm => 7
  | .local .scVector .vmem => 4
  | _ => 0

abbrev bufTy : (tb : Table) → Fin (nBuf tb) → BufTy
  | .hbm, ⟨0, _⟩ => ⟨S4x512x16, .f32⟩
  | .hbm, ⟨1, _⟩ => ⟨S4x512, .i32⟩
  | .hbm, ⟨2, _⟩ => ⟨S4x512x32, .i32⟩
  | .hbm, ⟨3, _⟩ => ⟨S32768, .f32⟩
  | .hbm, ⟨4, _⟩ => ⟨S2048, .i32⟩
  | .hbm, ⟨5, _⟩ => ⟨S65536, .i32⟩
  | .hbm, ⟨6, _⟩ => ⟨S2097152, .f32⟩
  | .local .scVector .vmem, ⟨0, _⟩ => ⟨S32768, .f32⟩
  | .local .scVector .vmem, ⟨1, _⟩ => ⟨S2048, .i32⟩
  | .local .scVector .vmem, ⟨2, _⟩ => ⟨S2048, .i32⟩
  | .local .scVector .vmem, ⟨3, _⟩ => ⟨S65536, .f32⟩
  | _, _ => ⟨S4x512x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k0_t1_loop : Scf.Loop 32 :=
  let c0_i32_0 : BitVec 32 := 0#32
  let c128_i32 : BitVec 32 := 128#32
  let v7 : BitVec 32 := Scalar.addi c0_i32_0 c128_i32
  let c1_i32 : BitVec 32 := 1#32
  ⟨c0_i32_0, v7, c1_i32⟩

def k0_chk1 (v11 : IVec S16 32) : Prop :=
  (∀ a x, ((![v11] : Fin 1 → IVec S16 32) a x).toNat < S2048.size a)
theorem k0_idx1_inb : ∀ (v11 : IVec S16 32) (k0_hw1 : k0_chk1 v11), ∀ a x, ((![v11] : Fin 1 → IVec S16 32) a x).toNat < S2048.size a := fun v11 k0_hw1 => k0_hw1

def k0_chk2 (v16 : IVec S16 32) : Prop :=
  (∀ a x, ((![v16] : Fin 1 → IVec S16 32) a x).toNat < S2048.size a)
theorem k0_idx2_inb : ∀ (v16 : IVec S16 32) (k0_hw2 : k0_chk2 v16), ∀ a x, ((![v16] : Fin 1 → IVec S16 32) a x).toNat < S2048.size a := fun v16 k0_hw2 => k0_hw2

def k0_chk3 (v18 : IVec S16 32) : Prop :=
  (∀ a x, ((![v18] : Fin 1 → IVec S16 32) a x).toNat < S2048.size a)
theorem k0_idx3_inb : ∀ (v18 : IVec S16 32) (k0_hw3 : k0_chk3 v18), ∀ a x, ((![v18] : Fin 1 → IVec S16 32) a x).toNat < S2048.size a := fun v18 k0_hw3 => k0_hw3

def k0_chk4 (v37 : IVec S16 32) : Prop :=
  (∀ a x, ((![v37] : Fin 1 → IVec S16 32) a x).toNat < S32768.size a)
theorem k0_idx4_inb : ∀ (v37 : IVec S16 32) (k0_hw4 : k0_chk4 v37), ∀ a x, ((![v37] : Fin 1 → IVec S16 32) a x).toNat < S32768.size a := fun v37 k0_hw4 => k0_hw4

def k0_chk5 (v40 : IVec S16 32) : Prop :=
  (∀ a x, ((![v40] : Fin 1 → IVec S16 32) a x).toNat < S32768.size a)
theorem k0_idx5_inb : ∀ (v40 : IVec S16 32) (k0_hw5 : k0_chk5 v40), ∀ a x, ((![v40] : Fin 1 → IVec S16 32) a x).toNat < S32768.size a := fun v40 k0_hw5 => k0_hw5

def k0_chk6 (v43 : IVec S16 32) : Prop :=
  (∀ a x, ((![v43] : Fin 1 → IVec S16 32) a x).toNat < S32768.size a)
theorem k0_idx6_inb : ∀ (v43 : IVec S16 32) (k0_hw6 : k0_chk6 v43), ∀ a x, ((![v43] : Fin 1 → IVec S16 32) a x).toNat < S32768.size a := fun v43 k0_hw6 => k0_hw6

def k0_chk7 (v46 : IVec S16 32) : Prop :=
  (∀ a x, ((![v46] : Fin 1 → IVec S16 32) a x).toNat < S32768.size a)
theorem k0_idx7_inb : ∀ (v46 : IVec S16 32) (k0_hw7 : k0_chk7 v46), ∀ a x, ((![v46] : Fin 1 → IVec S16 32) a x).toNat < S32768.size a := fun v46 k0_hw7 => k0_hw7

def k0_chk8 (v49 : IVec S16 32) : Prop :=
  (∀ a x, ((![v49] : Fin 1 → IVec S16 32) a x).toNat < S32768.size a)
theorem k0_idx8_inb : ∀ (v49 : IVec S16 32) (k0_hw8 : k0_chk8 v49), ∀ a x, ((![v49] : Fin 1 → IVec S16 32) a x).toNat < S32768.size a := fun v49 k0_hw8 => k0_hw8

def k0_chk9 (v52 : IVec S16 32) : Prop :=
  (∀ a x, ((![v52] : Fin 1 → IVec S16 32) a x).toNat < S32768.size a)
theorem k0_idx9_inb : ∀ (v52 : IVec S16 32) (k0_hw9 : k0_chk9 v52), ∀ a x, ((![v52] : Fin 1 → IVec S16 32) a x).toNat < S32768.size a := fun v52 k0_hw9 => k0_hw9

def k0_chk10 (v55 : IVec S16 32) : Prop :=
  (∀ a x, ((![v55] : Fin 1 → IVec S16 32) a x).toNat < S32768.size a)
theorem k0_idx10_inb : ∀ (v55 : IVec S16 32) (k0_hw10 : k0_chk10 v55), ∀ a x, ((![v55] : Fin 1 → IVec S16 32) a x).toNat < S32768.size a := fun v55 k0_hw10 => k0_hw10

def k0_chk11 (v58 : IVec S16 32) : Prop :=
  (∀ a x, ((![v58] : Fin 1 → IVec S16 32) a x).toNat < S32768.size a)
theorem k0_idx11_inb : ∀ (v58 : IVec S16 32) (k0_hw11 : k0_chk11 v58), ∀ a x, ((![v58] : Fin 1 → IVec S16 32) a x).toNat < S32768.size a := fun v58 k0_hw11 => k0_hw11

def k0_chk12 (v61 : IVec S16 32) : Prop :=
  (∀ a x, ((![v61] : Fin 1 → IVec S16 32) a x).toNat < S32768.size a)
theorem k0_idx12_inb : ∀ (v61 : IVec S16 32) (k0_hw12 : k0_chk12 v61), ∀ a x, ((![v61] : Fin 1 → IVec S16 32) a x).toNat < S32768.size a := fun v61 k0_hw12 => k0_hw12

def k0_chk13 (v64 : IVec S16 32) : Prop :=
  (∀ a x, ((![v64] : Fin 1 → IVec S16 32) a x).toNat < S32768.size a)
theorem k0_idx13_inb : ∀ (v64 : IVec S16 32) (k0_hw13 : k0_chk13 v64), ∀ a x, ((![v64] : Fin 1 → IVec S16 32) a x).toNat < S32768.size a := fun v64 k0_hw13 => k0_hw13

def k0_chk14 (v67 : IVec S16 32) : Prop :=
  (∀ a x, ((![v67] : Fin 1 → IVec S16 32) a x).toNat < S32768.size a)
theorem k0_idx14_inb : ∀ (v67 : IVec S16 32) (k0_hw14 : k0_chk14 v67), ∀ a x, ((![v67] : Fin 1 → IVec S16 32) a x).toNat < S32768.size a := fun v67 k0_hw14 => k0_hw14

def k0_chk15 (v70 : IVec S16 32) : Prop :=
  (∀ a x, ((![v70] : Fin 1 → IVec S16 32) a x).toNat < S32768.size a)
theorem k0_idx15_inb : ∀ (v70 : IVec S16 32) (k0_hw15 : k0_chk15 v70), ∀ a x, ((![v70] : Fin 1 → IVec S16 32) a x).toNat < S32768.size a := fun v70 k0_hw15 => k0_hw15

def k0_chk16 (v73 : IVec S16 32) : Prop :=
  (∀ a x, ((![v73] : Fin 1 → IVec S16 32) a x).toNat < S32768.size a)
theorem k0_idx16_inb : ∀ (v73 : IVec S16 32) (k0_hw16 : k0_chk16 v73), ∀ a x, ((![v73] : Fin 1 → IVec S16 32) a x).toNat < S32768.size a := fun v73 k0_hw16 => k0_hw16

def k0_chk17 (v76 : IVec S16 32) : Prop :=
  (∀ a x, ((![v76] : Fin 1 → IVec S16 32) a x).toNat < S32768.size a)
theorem k0_idx17_inb : ∀ (v76 : IVec S16 32) (k0_hw17 : k0_chk17 v76), ∀ a x, ((![v76] : Fin 1 → IVec S16 32) a x).toNat < S32768.size a := fun v76 k0_hw17 => k0_hw17

def k0_chk18 (v79 : IVec S16 32) : Prop :=
  (∀ a x, ((![v79] : Fin 1 → IVec S16 32) a x).toNat < S32768.size a)
theorem k0_idx18_inb : ∀ (v79 : IVec S16 32) (k0_hw18 : k0_chk18 v79), ∀ a x, ((![v79] : Fin 1 → IVec S16 32) a x).toNat < S32768.size a := fun v79 k0_hw18 => k0_hw18

def k0_chk19 (v82 : IVec S16 32) : Prop :=
  (∀ a x, ((![v82] : Fin 1 → IVec S16 32) a x).toNat < S32768.size a)
theorem k0_idx19_inb : ∀ (v82 : IVec S16 32) (k0_hw19 : k0_chk19 v82), ∀ a x, ((![v82] : Fin 1 → IVec S16 32) a x).toNat < S32768.size a := fun v82 k0_hw19 => k0_hw19

def k0_chk20 (v85 : IVec S16 32) : Prop :=
  (∀ a x, ((![v85] : Fin 1 → IVec S16 32) a x).toNat < S32768.size a)
theorem k0_idx20_inb : ∀ (v85 : IVec S16 32) (k0_hw20 : k0_chk20 v85), ∀ a x, ((![v85] : Fin 1 → IVec S16 32) a x).toNat < S32768.size a := fun v85 k0_hw20 => k0_hw20

def k0_chk21 (v88 : IVec S16 32) : Prop :=
  (∀ a x, ((![v88] : Fin 1 → IVec S16 32) a x).toNat < S32768.size a)
theorem k0_idx21_inb : ∀ (v88 : IVec S16 32) (k0_hw21 : k0_chk21 v88), ∀ a x, ((![v88] : Fin 1 → IVec S16 32) a x).toNat < S32768.size a := fun v88 k0_hw21 => k0_hw21

def k0_chk22 (v91 : IVec S16 32) : Prop :=
  (∀ a x, ((![v91] : Fin 1 → IVec S16 32) a x).toNat < S32768.size a)
theorem k0_idx22_inb : ∀ (v91 : IVec S16 32) (k0_hw22 : k0_chk22 v91), ∀ a x, ((![v91] : Fin 1 → IVec S16 32) a x).toNat < S32768.size a := fun v91 k0_hw22 => k0_hw22

def k0_chk23 (v94 : IVec S16 32) : Prop :=
  (∀ a x, ((![v94] : Fin 1 → IVec S16 32) a x).toNat < S32768.size a)
theorem k0_idx23_inb : ∀ (v94 : IVec S16 32) (k0_hw23 : k0_chk23 v94), ∀ a x, ((![v94] : Fin 1 → IVec S16 32) a x).toNat < S32768.size a := fun v94 k0_hw23 => k0_hw23

def k0_chk24 (v97 : IVec S16 32) : Prop :=
  (∀ a x, ((![v97] : Fin 1 → IVec S16 32) a x).toNat < S32768.size a)
theorem k0_idx24_inb : ∀ (v97 : IVec S16 32) (k0_hw24 : k0_chk24 v97), ∀ a x, ((![v97] : Fin 1 → IVec S16 32) a x).toNat < S32768.size a := fun v97 k0_hw24 => k0_hw24

def k0_chk25 (v100 : IVec S16 32) : Prop :=
  (∀ a x, ((![v100] : Fin 1 → IVec S16 32) a x).toNat < S32768.size a)
theorem k0_idx25_inb : ∀ (v100 : IVec S16 32) (k0_hw25 : k0_chk25 v100), ∀ a x, ((![v100] : Fin 1 → IVec S16 32) a x).toNat < S32768.size a := fun v100 k0_hw25 => k0_hw25

def k0_chk26 (v103 : IVec S16 32) : Prop :=
  (∀ a x, ((![v103] : Fin 1 → IVec S16 32) a x).toNat < S32768.size a)
theorem k0_idx26_inb : ∀ (v103 : IVec S16 32) (k0_hw26 : k0_chk26 v103), ∀ a x, ((![v103] : Fin 1 → IVec S16 32) a x).toNat < S32768.size a := fun v103 k0_hw26 => k0_hw26

def k0_chk27 (v106 : IVec S16 32) : Prop :=
  (∀ a x, ((![v106] : Fin 1 → IVec S16 32) a x).toNat < S32768.size a)
theorem k0_idx27_inb : ∀ (v106 : IVec S16 32) (k0_hw27 : k0_chk27 v106), ∀ a x, ((![v106] : Fin 1 → IVec S16 32) a x).toNat < S32768.size a := fun v106 k0_hw27 => k0_hw27

def k0_chk28 (v109 : IVec S16 32) : Prop :=
  (∀ a x, ((![v109] : Fin 1 → IVec S16 32) a x).toNat < S32768.size a)
theorem k0_idx28_inb : ∀ (v109 : IVec S16 32) (k0_hw28 : k0_chk28 v109), ∀ a x, ((![v109] : Fin 1 → IVec S16 32) a x).toNat < S32768.size a := fun v109 k0_hw28 => k0_hw28

def k0_chk29 (v112 : IVec S16 32) : Prop :=
  (∀ a x, ((![v112] : Fin 1 → IVec S16 32) a x).toNat < S32768.size a)
theorem k0_idx29_inb : ∀ (v112 : IVec S16 32) (k0_hw29 : k0_chk29 v112), ∀ a x, ((![v112] : Fin 1 → IVec S16 32) a x).toNat < S32768.size a := fun v112 k0_hw29 => k0_hw29

def k0_chk30 (v115 : IVec S16 32) : Prop :=
  (∀ a x, ((![v115] : Fin 1 → IVec S16 32) a x).toNat < S32768.size a)
theorem k0_idx30_inb : ∀ (v115 : IVec S16 32) (k0_hw30 : k0_chk30 v115), ∀ a x, ((![v115] : Fin 1 → IVec S16 32) a x).toNat < S32768.size a := fun v115 k0_hw30 => k0_hw30

def k0_chk31 (v118 : IVec S16 32) : Prop :=
  (∀ a x, ((![v118] : Fin 1 → IVec S16 32) a x).toNat < S32768.size a)
theorem k0_idx31_inb : ∀ (v118 : IVec S16 32) (k0_hw31 : k0_chk31 v118), ∀ a x, ((![v118] : Fin 1 → IVec S16 32) a x).toNat < S32768.size a := fun v118 k0_hw31 => k0_hw31

def k0_chk32 (v121 : IVec S16 32) : Prop :=
  (∀ a x, ((![v121] : Fin 1 → IVec S16 32) a x).toNat < S32768.size a)
theorem k0_idx32_inb : ∀ (v121 : IVec S16 32) (k0_hw32 : k0_chk32 v121), ∀ a x, ((![v121] : Fin 1 → IVec S16 32) a x).toNat < S32768.size a := fun v121 k0_hw32 => k0_hw32

def k0_chk33 (v124 : IVec S16 32) : Prop :=
  (∀ a x, ((![v124] : Fin 1 → IVec S16 32) a x).toNat < S32768.size a)
theorem k0_idx33_inb : ∀ (v124 : IVec S16 32) (k0_hw33 : k0_chk33 v124), ∀ a x, ((![v124] : Fin 1 → IVec S16 32) a x).toNat < S32768.size a := fun v124 k0_hw33 => k0_hw33

def k0_chk34 (v137 : IVec S16 32) : Prop :=
  (∀ a x, ((![v137] : Fin 1 → IVec S16 32) a x).toNat < S65536.size a)
theorem k0_idx34_inb : ∀ (v137 : IVec S16 32) (k0_hw34 : k0_chk34 v137), ∀ a x, ((![v137] : Fin 1 → IVec S16 32) a x).toNat < S65536.size a := fun v137 k0_hw34 => k0_hw34

def k0_chk35 (v147 : IVec S16 32) : Prop :=
  (∀ a x, ((![v147] : Fin 1 → IVec S16 32) a x).toNat < S65536.size a)
theorem k0_idx35_inb : ∀ (v147 : IVec S16 32) (k0_hw35 : k0_chk35 v147), ∀ a x, ((![v147] : Fin 1 → IVec S16 32) a x).toNat < S65536.size a := fun v147 k0_hw35 => k0_hw35

def k0_chk36 (v157 : IVec S16 32) : Prop :=
  (∀ a x, ((![v157] : Fin 1 → IVec S16 32) a x).toNat < S65536.size a)
theorem k0_idx36_inb : ∀ (v157 : IVec S16 32) (k0_hw36 : k0_chk36 v157), ∀ a x, ((![v157] : Fin 1 → IVec S16 32) a x).toNat < S65536.size a := fun v157 k0_hw36 => k0_hw36

def k0_chk37 (v167 : IVec S16 32) : Prop :=
  (∀ a x, ((![v167] : Fin 1 → IVec S16 32) a x).toNat < S65536.size a)
theorem k0_idx37_inb : ∀ (v167 : IVec S16 32) (k0_hw37 : k0_chk37 v167), ∀ a x, ((![v167] : Fin 1 → IVec S16 32) a x).toNat < S65536.size a := fun v167 k0_hw37 => k0_hw37

def k0_chk38 (v177 : IVec S16 32) : Prop :=
  (∀ a x, ((![v177] : Fin 1 → IVec S16 32) a x).toNat < S65536.size a)
theorem k0_idx38_inb : ∀ (v177 : IVec S16 32) (k0_hw38 : k0_chk38 v177), ∀ a x, ((![v177] : Fin 1 → IVec S16 32) a x).toNat < S65536.size a := fun v177 k0_hw38 => k0_hw38

def k0_chk39 (v187 : IVec S16 32) : Prop :=
  (∀ a x, ((![v187] : Fin 1 → IVec S16 32) a x).toNat < S65536.size a)
theorem k0_idx39_inb : ∀ (v187 : IVec S16 32) (k0_hw39 : k0_chk39 v187), ∀ a x, ((![v187] : Fin 1 → IVec S16 32) a x).toNat < S65536.size a := fun v187 k0_hw39 => k0_hw39

def k0_chk40 (v197 : IVec S16 32) : Prop :=
  (∀ a x, ((![v197] : Fin 1 → IVec S16 32) a x).toNat < S65536.size a)
theorem k0_idx40_inb : ∀ (v197 : IVec S16 32) (k0_hw40 : k0_chk40 v197), ∀ a x, ((![v197] : Fin 1 → IVec S16 32) a x).toNat < S65536.size a := fun v197 k0_hw40 => k0_hw40

def k0_chk41 (v207 : IVec S16 32) : Prop :=
  (∀ a x, ((![v207] : Fin 1 → IVec S16 32) a x).toNat < S65536.size a)
theorem k0_idx41_inb : ∀ (v207 : IVec S16 32) (k0_hw41 : k0_chk41 v207), ∀ a x, ((![v207] : Fin 1 → IVec S16 32) a x).toNat < S65536.size a := fun v207 k0_hw41 => k0_hw41

def k0_chk42 (v217 : IVec S16 32) : Prop :=
  (∀ a x, ((![v217] : Fin 1 → IVec S16 32) a x).toNat < S65536.size a)
theorem k0_idx42_inb : ∀ (v217 : IVec S16 32) (k0_hw42 : k0_chk42 v217), ∀ a x, ((![v217] : Fin 1 → IVec S16 32) a x).toNat < S65536.size a := fun v217 k0_hw42 => k0_hw42

def k0_chk43 (v227 : IVec S16 32) : Prop :=
  (∀ a x, ((![v227] : Fin 1 → IVec S16 32) a x).toNat < S65536.size a)
theorem k0_idx43_inb : ∀ (v227 : IVec S16 32) (k0_hw43 : k0_chk43 v227), ∀ a x, ((![v227] : Fin 1 → IVec S16 32) a x).toNat < S65536.size a := fun v227 k0_hw43 => k0_hw43

def k0_chk44 (v237 : IVec S16 32) : Prop :=
  (∀ a x, ((![v237] : Fin 1 → IVec S16 32) a x).toNat < S65536.size a)
theorem k0_idx44_inb : ∀ (v237 : IVec S16 32) (k0_hw44 : k0_chk44 v237), ∀ a x, ((![v237] : Fin 1 → IVec S16 32) a x).toNat < S65536.size a := fun v237 k0_hw44 => k0_hw44

def k0_chk45 (v247 : IVec S16 32) : Prop :=
  (∀ a x, ((![v247] : Fin 1 → IVec S16 32) a x).toNat < S65536.size a)
theorem k0_idx45_inb : ∀ (v247 : IVec S16 32) (k0_hw45 : k0_chk45 v247), ∀ a x, ((![v247] : Fin 1 → IVec S16 32) a x).toNat < S65536.size a := fun v247 k0_hw45 => k0_hw45

def k0_chk46 (v257 : IVec S16 32) : Prop :=
  (∀ a x, ((![v257] : Fin 1 → IVec S16 32) a x).toNat < S65536.size a)
theorem k0_idx46_inb : ∀ (v257 : IVec S16 32) (k0_hw46 : k0_chk46 v257), ∀ a x, ((![v257] : Fin 1 → IVec S16 32) a x).toNat < S65536.size a := fun v257 k0_hw46 => k0_hw46

def k0_chk47 (v267 : IVec S16 32) : Prop :=
  (∀ a x, ((![v267] : Fin 1 → IVec S16 32) a x).toNat < S65536.size a)
theorem k0_idx47_inb : ∀ (v267 : IVec S16 32) (k0_hw47 : k0_chk47 v267), ∀ a x, ((![v267] : Fin 1 → IVec S16 32) a x).toNat < S65536.size a := fun v267 k0_hw47 => k0_hw47

def k0_chk48 (v277 : IVec S16 32) : Prop :=
  (∀ a x, ((![v277] : Fin 1 → IVec S16 32) a x).toNat < S65536.size a)
theorem k0_idx48_inb : ∀ (v277 : IVec S16 32) (k0_hw48 : k0_chk48 v277), ∀ a x, ((![v277] : Fin 1 → IVec S16 32) a x).toNat < S65536.size a := fun v277 k0_hw48 => k0_hw48

def k0_chk49 (v287 : IVec S16 32) : Prop :=
  (∀ a x, ((![v287] : Fin 1 → IVec S16 32) a x).toNat < S65536.size a)
theorem k0_idx49_inb : ∀ (v287 : IVec S16 32) (k0_hw49 : k0_chk49 v287), ∀ a x, ((![v287] : Fin 1 → IVec S16 32) a x).toNat < S65536.size a := fun v287 k0_hw49 => k0_hw49

def k0_chk50 (v297 : IVec S16 32) : Prop :=
  (∀ a x, ((![v297] : Fin 1 → IVec S16 32) a x).toNat < S65536.size a)
theorem k0_idx50_inb : ∀ (v297 : IVec S16 32) (k0_hw50 : k0_chk50 v297), ∀ a x, ((![v297] : Fin 1 → IVec S16 32) a x).toNat < S65536.size a := fun v297 k0_hw50 => k0_hw50

def k0_chk51 (v307 : IVec S16 32) : Prop :=
  (∀ a x, ((![v307] : Fin 1 → IVec S16 32) a x).toNat < S65536.size a)
theorem k0_idx51_inb : ∀ (v307 : IVec S16 32) (k0_hw51 : k0_chk51 v307), ∀ a x, ((![v307] : Fin 1 → IVec S16 32) a x).toNat < S65536.size a := fun v307 k0_hw51 => k0_hw51

def k0_chk52 (v317 : IVec S16 32) : Prop :=
  (∀ a x, ((![v317] : Fin 1 → IVec S16 32) a x).toNat < S65536.size a)
theorem k0_idx52_inb : ∀ (v317 : IVec S16 32) (k0_hw52 : k0_chk52 v317), ∀ a x, ((![v317] : Fin 1 → IVec S16 32) a x).toNat < S65536.size a := fun v317 k0_hw52 => k0_hw52

def k0_chk53 (v327 : IVec S16 32) : Prop :=
  (∀ a x, ((![v327] : Fin 1 → IVec S16 32) a x).toNat < S65536.size a)
theorem k0_idx53_inb : ∀ (v327 : IVec S16 32) (k0_hw53 : k0_chk53 v327), ∀ a x, ((![v327] : Fin 1 → IVec S16 32) a x).toNat < S65536.size a := fun v327 k0_hw53 => k0_hw53

def k0_chk54 (v337 : IVec S16 32) : Prop :=
  (∀ a x, ((![v337] : Fin 1 → IVec S16 32) a x).toNat < S65536.size a)
theorem k0_idx54_inb : ∀ (v337 : IVec S16 32) (k0_hw54 : k0_chk54 v337), ∀ a x, ((![v337] : Fin 1 → IVec S16 32) a x).toNat < S65536.size a := fun v337 k0_hw54 => k0_hw54

def k0_chk55 (v347 : IVec S16 32) : Prop :=
  (∀ a x, ((![v347] : Fin 1 → IVec S16 32) a x).toNat < S65536.size a)
theorem k0_idx55_inb : ∀ (v347 : IVec S16 32) (k0_hw55 : k0_chk55 v347), ∀ a x, ((![v347] : Fin 1 → IVec S16 32) a x).toNat < S65536.size a := fun v347 k0_hw55 => k0_hw55

def k0_chk56 (v357 : IVec S16 32) : Prop :=
  (∀ a x, ((![v357] : Fin 1 → IVec S16 32) a x).toNat < S65536.size a)
theorem k0_idx56_inb : ∀ (v357 : IVec S16 32) (k0_hw56 : k0_chk56 v357), ∀ a x, ((![v357] : Fin 1 → IVec S16 32) a x).toNat < S65536.size a := fun v357 k0_hw56 => k0_hw56

def k0_chk57 (v367 : IVec S16 32) : Prop :=
  (∀ a x, ((![v367] : Fin 1 → IVec S16 32) a x).toNat < S65536.size a)
theorem k0_idx57_inb : ∀ (v367 : IVec S16 32) (k0_hw57 : k0_chk57 v367), ∀ a x, ((![v367] : Fin 1 → IVec S16 32) a x).toNat < S65536.size a := fun v367 k0_hw57 => k0_hw57

def k0_chk58 (v377 : IVec S16 32) : Prop :=
  (∀ a x, ((![v377] : Fin 1 → IVec S16 32) a x).toNat < S65536.size a)
theorem k0_idx58_inb : ∀ (v377 : IVec S16 32) (k0_hw58 : k0_chk58 v377), ∀ a x, ((![v377] : Fin 1 → IVec S16 32) a x).toNat < S65536.size a := fun v377 k0_hw58 => k0_hw58

def k0_chk59 (v379 : IVec S16 32) : Prop :=
  (∀ a x, ((![v379] : Fin 1 → IVec S16 32) a x).toNat < S65536.size a)
theorem k0_idx59_inb : ∀ (v379 : IVec S16 32) (k0_hw59 : k0_chk59 v379), ∀ a x, ((![v379] : Fin 1 → IVec S16 32) a x).toNat < S65536.size a := fun v379 k0_hw59 => k0_hw59

def k0_chk60 (v381 : IVec S16 32) : Prop :=
  (∀ a x, ((![v381] : Fin 1 → IVec S16 32) a x).toNat < S65536.size a)
theorem k0_idx60_inb : ∀ (v381 : IVec S16 32) (k0_hw60 : k0_chk60 v381), ∀ a x, ((![v381] : Fin 1 → IVec S16 32) a x).toNat < S65536.size a := fun v381 k0_hw60 => k0_hw60

def k0_chk61 (v383 : IVec S16 32) : Prop :=
  (∀ a x, ((![v383] : Fin 1 → IVec S16 32) a x).toNat < S65536.size a)
theorem k0_idx61_inb : ∀ (v383 : IVec S16 32) (k0_hw61 : k0_chk61 v383), ∀ a x, ((![v383] : Fin 1 → IVec S16 32) a x).toNat < S65536.size a := fun v383 k0_hw61 => k0_hw61

def k0_chk62 (v385 : IVec S16 32) : Prop :=
  (∀ a x, ((![v385] : Fin 1 → IVec S16 32) a x).toNat < S65536.size a)
theorem k0_idx62_inb : ∀ (v385 : IVec S16 32) (k0_hw62 : k0_chk62 v385), ∀ a x, ((![v385] : Fin 1 → IVec S16 32) a x).toNat < S65536.size a := fun v385 k0_hw62 => k0_hw62

def k0_chk63 (v387 : IVec S16 32) : Prop :=
  (∀ a x, ((![v387] : Fin 1 → IVec S16 32) a x).toNat < S65536.size a)
theorem k0_idx63_inb : ∀ (v387 : IVec S16 32) (k0_hw63 : k0_chk63 v387), ∀ a x, ((![v387] : Fin 1 → IVec S16 32) a x).toNat < S65536.size a := fun v387 k0_hw63 => k0_hw63

def k0_chk64 (v389 : IVec S16 32) : Prop :=
  (∀ a x, ((![v389] : Fin 1 → IVec S16 32) a x).toNat < S65536.size a)
theorem k0_idx64_inb : ∀ (v389 : IVec S16 32) (k0_hw64 : k0_chk64 v389), ∀ a x, ((![v389] : Fin 1 → IVec S16 32) a x).toNat < S65536.size a := fun v389 k0_hw64 => k0_hw64

def k0_chk65 (v391 : IVec S16 32) : Prop :=
  (∀ a x, ((![v391] : Fin 1 → IVec S16 32) a x).toNat < S65536.size a)
theorem k0_idx65_inb : ∀ (v391 : IVec S16 32) (k0_hw65 : k0_chk65 v391), ∀ a x, ((![v391] : Fin 1 → IVec S16 32) a x).toNat < S65536.size a := fun v391 k0_hw65 => k0_hw65
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c32_i32 : BitVec 32 := 32#32
  let v8 : BitVec 32 := Scalar.muli v2 c32_i32
  ![v8.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x512x16 : Shape := ⟨3, ![4, 512, 16]⟩
abbrev S4x512 : Shape := ⟨2, ![4, 512]⟩
abbrev S4x512x32 : Shape := ⟨3, ![4, 512, 32]⟩
abbrev S25 : Shape := ⟨1, ![25]⟩
abbrev S4x512x15 : Shape := ⟨3, ![4, 512, 15]⟩
abbrev S4x512x5x3 : Shape := ⟨4, ![4, 512, 5, 3]⟩
abbrev S5x4x512x3 : Shape := ⟨4, ![5, 4, 512, 3]⟩
abbrev S_ : Shape := ⟨0, ![]⟩
abbrev S25x1 : Shape := ⟨2, ![25, 1]⟩
abbrev S25x4x512x3 : Shape := ⟨4, ![25, 4, 512, 3]⟩
abbrev S25x4x512x1x3 : Shape := ⟨5, ![25, 4, 512, 1, 3]⟩
abbrev S25x4x1x512x3 : Shape := ⟨5, ![25, 4, 1, 512, 3]⟩
abbrev S25x4x512x512x3 : Shape := ⟨5, ![25, 4, 512, 512, 3]⟩
abbrev S25x4x512x512 : Shape := ⟨4, ![25, 4, 512, 512]⟩
abbrev S4x512x32x1 : Shape := ⟨4, ![4, 512, 32, 1]⟩
abbrev S25x4x512x32 : Shape := ⟨4, ![25, 4, 512, 32]⟩
abbrev S512 : Shape := ⟨1, ![512]⟩
abbrev S1x512x1 : Shape := ⟨3, ![1, 512, 1]⟩
abbrev S4x512x1 : Shape := ⟨3, ![4, 512, 1]⟩
abbrev S4x1x512 : Shape := ⟨3, ![4, 1, 512]⟩
abbrev S4x512x512 : Shape := ⟨3, ![4, 512, 512]⟩
abbrev S4x512x32x6 : Shape := ⟨4, ![4, 512, 32, 6]⟩
abbrev S4x512x32x25 : Shape := ⟨4, ![4, 512, 32, 25]⟩
abbrev S4x512x32x32 : Shape := ⟨4, ![4, 512, 32, 32]⟩
abbrev S2097152 : Shape := ⟨1, ![2097152]⟩

abbrev nBuf : Space → Nat
  | .hbm => 84
  | .vmem => 0
  | .smem => 0
  | _ => 0

abbrev bufTy : (tb : Table) → Fin (tcTables nBuf tb) → BufTy
  | .hbm, ⟨0, _⟩ => ⟨S4x512x16, .f32⟩
  | .hbm, ⟨1, _⟩ => ⟨S4x512, .i32⟩
  | .hbm, ⟨2, _⟩ => ⟨S4x512x32, .i32⟩
  | .hbm, ⟨3, _⟩ => ⟨S25, .i32⟩
  | .hbm, ⟨4, _⟩ => ⟨S25, .i1⟩
  | .hbm, ⟨5, _⟩ => ⟨S25, .i32⟩
  | .hbm, ⟨6, _⟩ => ⟨S25, .i1⟩
  | .hbm, ⟨7, _⟩ => ⟨S4x512x15, .f32⟩
  | .hbm, ⟨8, _⟩ => ⟨S4x512x5x3, .f32⟩
  | .hbm, ⟨9, _⟩ => ⟨S5x4x512x3, .f32⟩
  | .hbm, ⟨10, _⟩ => ⟨S_, .i32⟩
  | .hbm, ⟨11, _⟩ => ⟨S25, .i32⟩
  | .hbm, ⟨12, _⟩ => ⟨S25, .i32⟩
  | .hbm, ⟨13, _⟩ => ⟨S25, .i32⟩
  | .hbm, ⟨14, _⟩ => ⟨S25x1, .i32⟩
  | .hbm, ⟨15, _⟩ => ⟨S25x4x512x3, .f32⟩
  | .hbm, ⟨16, _⟩ => ⟨S25x4x512x1x3, .f32⟩
  | .hbm, ⟨17, _⟩ => ⟨S_, .i32⟩
  | .hbm, ⟨18, _⟩ => ⟨S25, .i32⟩
  | .hbm, ⟨19, _⟩ => ⟨S25, .i32⟩
  | .hbm, ⟨20, _⟩ => ⟨S25, .i32⟩
  | .hbm, ⟨21, _⟩ => ⟨S25x1, .i32⟩
  | .hbm, ⟨22, _⟩ => ⟨S25x4x512x3, .f32⟩
  | .hbm, ⟨23, _⟩ => ⟨S25x4x1x512x3, .f32⟩
  | .hbm, ⟨24, _⟩ => ⟨S25x4x512x512x3, .f32⟩
  | .hbm, ⟨25, _⟩ => ⟨S25x4x512x512x3, .f32⟩
  | .hbm, ⟨26, _⟩ => ⟨S25x4x512x512x3, .f32⟩
  | .hbm, ⟨27, _⟩ => ⟨S25x4x512x512x3, .f32⟩
  | .hbm, ⟨28, _⟩ => ⟨S_, .f32⟩
  | .hbm, ⟨29, _⟩ => ⟨S25x4x512x512, .f32⟩
  | .hbm, ⟨30, _⟩ => ⟨S_, .i32⟩
  | .hbm, ⟨31, _⟩ => ⟨S4x512x32, .i32⟩
  | .hbm, ⟨32, _⟩ => ⟨S4x512x32, .i1⟩
  | .hbm, ⟨33, _⟩ => ⟨S_, .i32⟩
  | .hbm, ⟨34, _⟩ => ⟨S4x512x32, .i32⟩
  | .hbm, ⟨35, _⟩ => ⟨S4x512x32, .i32⟩
  | .hbm, ⟨36, _⟩ => ⟨S4x512x32, .i32⟩
  | .hbm, ⟨37, _⟩ => ⟨S4x512x32x1, .i32⟩
  | .hbm, ⟨38, _⟩ => ⟨S25x4x512x32, .f32⟩
  | .hbm, ⟨39, _⟩ => ⟨S512, .i32⟩
  | .hbm, ⟨40, _⟩ => ⟨S1x512x1, .i32⟩
  | .hbm, ⟨41, _⟩ => ⟨S4x512x32, .i32⟩
  | .hbm, ⟨42, _⟩ => ⟨S4x512x32, .i32⟩
  | .hbm, ⟨43, _⟩ => ⟨S4x512x1, .i32⟩
  | .hbm, ⟨44, _⟩ => ⟨S4x1x512, .i32⟩
  | .hbm, ⟨45, _⟩ => ⟨S4x512x512, .i32⟩
  | .hbm, ⟨46, _⟩ => ⟨S4x512x512, .i32⟩
  | .hbm, ⟨47, _⟩ => ⟨S4x512x512, .i1⟩
  | .hbm, ⟨48, _⟩ => ⟨S4x512x512, .i32⟩
  | .hbm, ⟨49, _⟩ => ⟨S_, .i32⟩
  | .hbm, ⟨50, _⟩ => ⟨S4x512x32, .i32⟩
  | .hbm, ⟨51, _⟩ => ⟨S4x512x32, .i1⟩
  | .hbm, ⟨52, _⟩ => ⟨S_, .i32⟩
  | .hbm, ⟨53, _⟩ => ⟨S4x512x32, .i32⟩
  | .hbm, ⟨54, _⟩ => ⟨S4x512x32, .i32⟩
  | .hbm, ⟨55, _⟩ => ⟨S4x512x32, .i32⟩
  | .hbm, ⟨56, _⟩ => ⟨S4x512x32x1, .i32⟩
  | .hbm, ⟨57, _⟩ => ⟨S4x512x32, .i32⟩
  | .hbm, ⟨58, _⟩ => ⟨S_, .i32⟩
  | .hbm, ⟨59, _⟩ => ⟨S4x512x32, .i32⟩
  | .hbm, ⟨60, _⟩ => ⟨S4x512x32, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S4x512x32, .i32⟩
  | .hbm, ⟨65, _⟩ => ⟨S4x512x32, .i32⟩
  | .hbm, ⟨66, _⟩ => ⟨S_, .i32⟩
  | .hbm, ⟨67, _⟩ => ⟨S4x512x32, .i32⟩
  | .hbm, ⟨68, _⟩ => ⟨S4x512x32, .i32⟩
  | .hbm, ⟨69, _⟩ => ⟨S4x512x32, .i32⟩
  | .hbm, ⟨70, _⟩ => ⟨S_, .i32⟩
  | .hbm, ⟨71, _⟩ => ⟨S4x512x32, .i32⟩
  | .hbm, ⟨72, _⟩ => ⟨S4x512x32, .i32⟩
  | .hbm, ⟨73, _⟩ => ⟨S_, .i32⟩
  | .hbm, ⟨74, _⟩ => ⟨S4x512x32, .i32⟩
  | .hbm, ⟨75, _⟩ => ⟨S4x512x32, .i32⟩
  | .hbm, ⟨76, _⟩ => ⟨S4x512x32, .i32⟩
  | .hbm, ⟨77, _⟩ => ⟨S4x512x32, .f32⟩
  | .hbm, ⟨78, _⟩ => ⟨S4x512x32x1, .f32⟩
  | .hbm, ⟨79, _⟩ => ⟨S_, .f32⟩
  | .hbm, ⟨80, _⟩ => ⟨S4x512x32x6, .f32⟩
  | .hbm, ⟨81, _⟩ => ⟨S4x512x32x25, .f32⟩
  | .hbm, ⟨82, _⟩ => ⟨S4x512x32x32, .f32⟩
  | .hbm, ⟨83, _⟩ => ⟨S2097152, .f32⟩
  | _, _ => ⟨S4x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_c_6 : Ref sig .tc := ⟨.hbm, 61, rfl⟩
abbrev main_c_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v34 : Ref sig .tc := ⟨.hbm, 68, rfl⟩
abbrev main_v35 : Ref sig .tc := ⟨.hbm, 69, rfl⟩
abbrev main_c_8 : Ref sig .tc := ⟨.hbm, 70, rfl⟩
abbrev main_v36 : Ref sig .tc := ⟨.hbm, 71, rfl⟩
abbrev main_v37 : Ref sig .tc := ⟨.hbm, 72, rfl⟩
abbrev main_c_9 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_10 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩

abbrev nD : Nat := 1
abbrev τ : Topo := Topo.v7x

variable {F : FTy → Type} [FloatOps F]
-- ==== Edges.lean ====
abbrev S2097152 : Shape := ⟨1, ![2097152]⟩
abbrev S66x16 : Shape := ⟨2, ![66, 16]⟩
abbrev S16 : Shape := ⟨1, ![16]⟩
abbrev S416x128 : Shape := ⟨2, ![416, 128]⟩
abbrev S128 : Shape := ⟨1, ![128]⟩
abbrev S16x128 : Shape := ⟨2, ![16, 128]⟩
abbrev S66x128 : Shape := ⟨2, ![66, 128]⟩
abbrev S1x128 : Shape := ⟨2, ![1, 128]⟩
abbrev S_ : Shape := ⟨0, ![]⟩
abbrev S512x128 : Shape := ⟨2, ![512, 128]⟩
abbrev S400x128 : Shape := ⟨2, ![400, 128]⟩
abbrev S1 : Shape := ⟨1, ![1]⟩
abbrev S15 : Shape := ⟨1, ![15]⟩
abbrev S1x512 : Shape := ⟨2, ![1, 512]⟩
abbrev S1x16 : Shape := ⟨2, ![1, 16]⟩
abbrev S25x16 : Shape := ⟨2, ![25, 16]⟩
abbrev S400 : Shape := ⟨1, ![400]⟩
abbrev S2 : Shape := ⟨1, ![2]⟩
abbrev S66 : Shape := ⟨1, ![66]⟩
abbrev S32x512 : Shape := ⟨2, ![32, 512]⟩
abbrev S400x1 : Shape := ⟨2, ![400, 1]⟩
abbrev S400x2 : Shape := ⟨2, ![400, 2]⟩
abbrev S4x512x32x32 : Shape := ⟨4, ![4, 512, 32, 32]⟩
abbrev S4x512x30x128 : Shape := ⟨4, ![4, 512, 30, 128]⟩
abbrev S1x32x32x32 : Shape := ⟨4, ![1, 32, 32, 32]⟩
abbrev S1x32x30x128 : Shape := ⟨4, ![1, 32, 30, 128]⟩
abbrev S32x32x32 : Shape := ⟨3, ![32, 32, 32]⟩
abbrev S1024x32 : Shape := ⟨2, ![1024, 32]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S32x32x128 : Shape := ⟨3, ![32, 32, 128]⟩
abbrev S32x30x128 : Shape := ⟨3, ![32, 30, 128]⟩

abbrev nBuf : Space → Nat
  | .hbm => 121
  | .vmem => 11
  | .smem => 0
  | _ => 0

abbrev bufTy : (tb : Table) → Fin (tcTables nBuf tb) → BufTy
  | .hbm, ⟨0, _⟩ => ⟨S2097152, .f32⟩
  | .hbm, ⟨1, _⟩ => ⟨S66x16, .f32⟩
  | .hbm, ⟨2, _⟩ => ⟨S16, .f32⟩
  | .hbm, ⟨3, _⟩ => ⟨S416x128, .f32⟩
  | .hbm, ⟨4, _⟩ => ⟨S128, .f32⟩
  | .hbm, ⟨5, _⟩ => ⟨S128, .f32⟩
  | .hbm, ⟨6, _⟩ => ⟨S16x128, .f32⟩
  | .hbm, ⟨7, _⟩ => ⟨S66x128, .f32⟩
  | .hbm, ⟨8, _⟩ => ⟨S16x128, .f32⟩
  | .hbm, ⟨9, _⟩ => ⟨S128, .f32⟩
  | .hbm, ⟨10, _⟩ => ⟨S1x128, .f32⟩
  | .hbm, ⟨11, _⟩ => ⟨S_, .f32⟩
  | .hbm, ⟨12, _⟩ => ⟨S512x128, .f32⟩
  | .hbm, ⟨13, _⟩ => ⟨S400x128, .f32⟩
  | .hbm, ⟨14, _⟩ => ⟨S_, .i32⟩
  | .hbm, ⟨15, _⟩ => ⟨S1, .i32⟩
  | .hbm, ⟨16, _⟩ => ⟨S512x128, .f32⟩
  | .hbm, ⟨17, _⟩ => ⟨S_, .i32⟩
  | .hbm, ⟨18, _⟩ => ⟨S1, .i32⟩
  | .hbm, ⟨19, _⟩ => ⟨S512x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S15, .f32⟩
  | .hbm, ⟨31, _⟩ => ⟨S_, .f32⟩
  | .hbm, ⟨32, _⟩ => ⟨S15, .f32⟩
  | .hbm, ⟨33, _⟩ => ⟨S15, .f32⟩
  | .hbm, ⟨34, _⟩ => ⟨S1, .f32⟩
  | .hbm, ⟨35, _⟩ => ⟨S_, .f32⟩
  | .hbm, ⟨36, _⟩ => ⟨S15, .f32⟩
  | .hbm, ⟨37, _⟩ => ⟨S15, .f32⟩
  | .hbm, ⟨38, _⟩ => ⟨S15, .f32⟩
  | .hbm, ⟨39, _⟩ => ⟨S15, .f32⟩
  | .hbm, ⟨40, _⟩ => ⟨S1, .f32⟩
  | .hbm, ⟨41, _⟩ => ⟨S15, .f32⟩
  | .hbm, ⟨42, _⟩ => ⟨S15, .f32⟩
  | .hbm, ⟨43, _⟩ => ⟨S15, .f32⟩
  | .hbm, ⟨44, _⟩ => ⟨S1, .f32⟩
  | .hbm, ⟨45, _⟩ => ⟨S16, .f32⟩
  | .hbm, ⟨46, _⟩ => ⟨S_, .f32⟩
  | .hbm, ⟨47, _⟩ => ⟨S1x512, .f32⟩
  | .hbm, ⟨48, _⟩ => ⟨S16, .f32⟩
  | .hbm, ⟨49, _⟩ => ⟨S16, .f32⟩
  | .hbm, ⟨50, _⟩ => ⟨S1x16, .f32⟩
  | .hbm, ⟨51, _⟩ => ⟨S25x16, .f32⟩
  | .hbm, ⟨52, _⟩ => ⟨S400, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S1x512, .f32⟩
  | .hbm, ⟨59, _⟩ => ⟨S_, .f32⟩
  | .hbm, ⟨60, _⟩ => ⟨S1x512, .f32⟩
  | .hbm, ⟨61, _⟩ => ⟨S66, .f32⟩
  | .hbm, ⟨62, _⟩ => ⟨S_, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S2, .i32⟩
  | .hbm, ⟨67, _⟩ => ⟨S1x512, .f32⟩
  | .hbm, ⟨68, _⟩ => ⟨S_, .f32⟩
  | .hbm, ⟨69, _⟩ => ⟨S32x512, .f32⟩
  | .hbm, ⟨70, _⟩ => ⟨S400, .i32⟩
  | .hbm, ⟨71, _⟩ => ⟨S_, .i32⟩
  | .hbm, ⟨72, _⟩ => ⟨S_, .i32⟩
  | .hbm, ⟨73, _⟩ => ⟨S400, .i32⟩
  | .hbm, ⟨74, _⟩ => ⟨S400, .i32⟩
  | .hbm, ⟨75, _⟩ => ⟨S400, .i32⟩
  | .hbm, ⟨76, _⟩ => ⟨S_, .i32⟩
  | .hbm, ⟨77, _⟩ => ⟨S400, .i32⟩
  | .hbm, ⟨78, _⟩ => ⟨S400, .i1⟩
  | .hbm, ⟨79, _⟩ => ⟨S400, .i32⟩
  | .hbm, ⟨80, _⟩ => ⟨S400, .i32⟩
  | .hbm, ⟨81, _⟩ => ⟨S_, .i32⟩
  | .hbm, ⟨82, _⟩ => ⟨S400, .i32⟩
  | .hbm, ⟨83, _⟩ => ⟨S400, .i1⟩
  | .hbm, ⟨84, _⟩ => ⟨S400, .i1⟩
  | .hbm, ⟨85, _⟩ => ⟨S_, .i32⟩
  | .hbm, ⟨86, _⟩ => ⟨S400, .i32⟩
  | .hbm, ⟨87, _⟩ => ⟨S400, .i32⟩
  | .hbm, ⟨88, _⟩ => ⟨S400, .i32⟩
  | .hbm, ⟨89, _⟩ => ⟨S400, .i32⟩
  | .hbm, ⟨90, _⟩ => ⟨S_, .i32⟩
  | .hbm, ⟨91, _⟩ => ⟨S400, .i32⟩
  | .hbm, ⟨92, _⟩ => ⟨S400, .i1⟩
  | .hbm, ⟨93, _⟩ => ⟨S_, .i32⟩
  | .hbm, ⟨94, _⟩ => ⟨S400, .i32⟩
  | .hbm, ⟨95, _⟩ => ⟨S400, .i32⟩
  | .hbm, ⟨96, _⟩ => ⟨S400, .i32⟩
  | .hbm, ⟨97, _⟩ => ⟨S_, .i32⟩
  | .hbm, ⟨98, _⟩ => ⟨S400, .i32⟩
  | .hbm, ⟨99, _⟩ => ⟨S400, .i1⟩
  | .hbm, ⟨100, _⟩ => ⟨S_, .i32⟩
  | .hbm, ⟨101, _⟩ => ⟨S400, .i32⟩
  | .hbm, ⟨102, _⟩ => ⟨S400, .i32⟩
  | .hbm, ⟨103, _⟩ => ⟨S400, .i32⟩
  | .hbm, ⟨104, _⟩ => ⟨S400x1, .i32⟩
  | .hbm, ⟨105, _⟩ => ⟨S400x1, .i32⟩
  | .hbm, ⟨106, _⟩ => ⟨S400x2, .i32⟩
  | .hbm, ⟨107, _⟩ => ⟨S400, .f32⟩
  | .hbm, ⟨108, _⟩ => ⟨S32x512, .f32⟩
  | .hbm, ⟨109, _⟩ => ⟨S_, .i32⟩
  | .hbm, ⟨110, _⟩ => ⟨S1, .i32⟩
  | .hbm, ⟨111, _⟩ => ⟨S_, .i32⟩
  | .hbm, ⟨112, _⟩ => ⟨S1, .i32⟩
  | .hbm, ⟨113, _⟩ => ⟨S2, .i32⟩
  | .hbm, ⟨114, _⟩ => ⟨S_, .f32⟩
  | .hbm, ⟨115, _⟩ => ⟨S66, .f32⟩
  | .hbm, ⟨116, _⟩ => ⟨S32x512, .f32⟩
  | .hbm, ⟨117, _⟩ => ⟨S4x512x32x32, .f32⟩
  | .hbm, ⟨118, _⟩ => ⟨S1x128, .f32⟩
  | .hbm, ⟨119, _⟩ => ⟨S1x128, .f32⟩
  | .hbm, ⟨120, _⟩ => ⟨S4x512x30x128, .f32⟩
  | .local _ .vmem, ⟨0, _⟩ => ⟨S1x32x32x32, .f32⟩
  | .local _ .vmem, ⟨1, _⟩ => ⟨S1x32x32x32, .f32⟩
  | .local _ .vmem, ⟨2, _⟩ => ⟨S32x512, .f32⟩
  | .local _ .vmem, ⟨3, _⟩ => ⟨S512x128, .f32⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x32x30x128, .f32⟩
  | .local _ .vmem, ⟨10, _⟩ => ⟨S1x32x30x128, .f32⟩
  | _, _ => ⟨S2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_cst : Ref sig .tc := ⟨.hbm, 28, rfl⟩
abbrev main_call0_v3 : Ref sig .tc := ⟨.hbm, 29, rfl⟩
abbrev main_call0_v4 : Ref sig .tc := ⟨.hbm, 30, rfl⟩
abbrev main_call0_cst_0 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_v15 : Ref sig .tc := ⟨.hbm, 43, rfl⟩
abbrev main_call0_v16 : Ref sig .tc := ⟨.hbm, 44, rfl⟩
abbrev main_v12 : Ref sig .tc := ⟨.hbm, 45, rfl⟩
abbrev main_cst_5 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c_6 : Ref sig .tc := ⟨.hbm, 53, rfl⟩
abbrev main_v19 : Ref sig .tc := ⟨.hbm, 54, rfl⟩
abbrev main_c_7 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_8 : Ref sig .tc := ⟨.hbm, 59, rfl⟩
abbrev main_v23 : Ref sig .tc := ⟨.hbm, 60, rfl⟩
abbrev main_v24 : Ref sig .tc := ⟨.hbm, 61, rfl⟩
abbrev main_c_9 : Ref sig .tc := ⟨.hbm, 62, rfl⟩
abbrev main_v25 : Ref sig .tc := ⟨.hbm, 63, rfl⟩
abbrev main_c_10 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_11 : Ref sig .tc := ⟨.hbm, 68, rfl⟩
abbrev main_v29 : Ref sig .tc := ⟨.hbm, 69, rfl⟩
abbrev main_v30 : Ref sig .tc := ⟨.hbm, 70, rfl⟩
abbrev main_c_12 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v31 : Ref sig .tc := ⟨.hbm, 88, rfl⟩
abbrev main_v32 : Ref sig .tc := ⟨.hbm, 89, rfl⟩
abbrev main_c_13 : Ref sig .tc := ⟨.hbm, 90, rfl⟩
abbrev main_v33 : Ref sig .tc := ⟨.hbm, 91, rfl⟩
abbrev main_v34 : Ref sig .tc := ⟨.hbm, 92, rfl⟩
abbrev main_c_14 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_c_15 : Ref sig .tc := ⟨.hbm, 97, rfl⟩
abbrev main_v38 : Ref sig .tc := ⟨.hbm, 98, rfl⟩
abbrev main_v39 : Ref sig .tc := ⟨.hbm, 99, rfl⟩
abbrev main_c_16 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_c_17 : Ref sig .tc := ⟨.hbm, 109, rfl⟩
abbrev main_v48 : Ref sig .tc := ⟨.hbm, 110, rfl⟩
abbrev main_c_18 : Ref sig .tc := ⟨.hbm, 111, rfl⟩
abbrev main_v49 : Ref sig .tc := ⟨.hbm, 112, rfl⟩
abbrev main_v50 : Ref sig .tc := ⟨.hbm, 113, rfl⟩
abbrev main_cst_19 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x30x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== EdgesReferenceIdeal.lean ====
abbrev S2097152 : Shape := ⟨1, ![2097152]⟩
abbrev S66x16 : Shape := ⟨2, ![66, 16]⟩
abbrev S16 : Shape := ⟨1, ![16]⟩
abbrev S416x128 : Shape := ⟨2, ![416, 128]⟩
abbrev S128 : Shape := ⟨1, ![128]⟩
abbrev S4x512x32x32 : Shape := ⟨4, ![4, 512, 32, 32]⟩
abbrev S4x512x30x32 : Shape := ⟨4, ![4, 512, 30, 32]⟩
abbrev S4x512x30x25 : Shape := ⟨4, ![4, 512, 30, 25]⟩
abbrev S_ : Shape := ⟨0, ![]⟩
abbrev S15 : Shape := ⟨1, ![15]⟩
abbrev S1 : Shape := ⟨1, ![1]⟩
abbrev S4x512x30x25x1 : Shape := ⟨5, ![4, 512, 30, 25, 1]⟩
abbrev S1x1x1x1x16 : Shape := ⟨5, ![1, 1, 1, 1, 16]⟩
abbrev S4x512x30x25x16 : Shape := ⟨5, ![4, 512, 30, 25, 16]⟩
abbrev S4x512x30x400 : Shape := ⟨4, ![4, 512, 30, 400]⟩
abbrev S4x512x30x1 : Shape := ⟨4, ![4, 512, 30, 1]⟩
abbrev S4x512x30 : Shape := ⟨3, ![4, 512, 30]⟩
abbrev S1x1x1x66 : Shape := ⟨4, ![1, 1, 1, 66]⟩
abbrev S4x512x30x66 : Shape := ⟨4, ![4, 512, 30, 66]⟩
abbrev S4x512x30x16 : Shape := ⟨4, ![4, 512, 30, 16]⟩
abbrev S1x1x1x16 : Shape := ⟨4, ![1, 1, 1, 16]⟩
abbrev S4x512x30x416 : Shape := ⟨4, ![4, 512, 30, 416]⟩
abbrev S4x512x30x128 : Shape := ⟨4, ![4, 512, 30, 128]⟩
abbrev S1x1x1x128 : Shape := ⟨4, ![1, 1, 1, 128]⟩

abbrev nBuf : Space → Nat
  | .hbm => 91
  | .vmem => 0
  | .smem => 0
  | _ => 0

abbrev bufTy : (tb : Table) → Fin (tcTables nBuf tb) → BufTy
  | .hbm, ⟨0, _⟩ => ⟨S2097152, .f32⟩
  | .hbm, ⟨1, _⟩ => ⟨S66x16, .f32⟩
  | .hbm, ⟨2, _⟩ => ⟨S16, .f32⟩
  | .hbm, ⟨3, _⟩ => ⟨S416x128, .f32⟩
  | .hbm, ⟨4, _⟩ => ⟨S128, .f32⟩
  | .hbm, ⟨5, _⟩ => ⟨S128, .f32⟩
  | .hbm, ⟨6, _⟩ => ⟨S4x512x32x32, .f32⟩
  | .hbm, ⟨7, _⟩ => ⟨S4x512x30x32, .f32⟩
  | .hbm, ⟨8, _⟩ => ⟨S4x512x30x25, .f32⟩
  | .hbm, ⟨9, _⟩ => ⟨S_, .f32⟩
  | .hbm, ⟨10, _⟩ => ⟨S4x512x30x25, .f32⟩
  | .hbm, ⟨11, _⟩ => ⟨S4x512x30x25, .f32⟩
  | .hbm, ⟨12, _⟩ => ⟨S4x512x30x25, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S15, .f32⟩
  | .hbm, ⟨21, _⟩ => ⟨S_, .f32⟩
  | .hbm, ⟨22, _⟩ => ⟨S15, .f32⟩
  | .hbm, ⟨23, _⟩ => ⟨S15, .f32⟩
  | .hbm, ⟨24, _⟩ => ⟨S1, .f32⟩
  | .hbm, ⟨25, _⟩ => ⟨S_, .f32⟩
  | .hbm, ⟨26, _⟩ => ⟨S15, .f32⟩
  | .hbm, ⟨27, _⟩ => ⟨S15, .f32⟩
  | .hbm, ⟨28, _⟩ => ⟨S15, .f32⟩
  | .hbm, ⟨29, _⟩ => ⟨S15, .f32⟩
  | .hbm, ⟨30, _⟩ => ⟨S1, .f32⟩
  | .hbm, ⟨31, _⟩ => ⟨S15, .f32⟩
  | .hbm, ⟨32, _⟩ => ⟨S15, .f32⟩
  | .hbm, ⟨33, _⟩ => ⟨S15, .f32⟩
  | .hbm, ⟨34, _⟩ => ⟨S1, .f32⟩
  | .hbm, ⟨35, _⟩ => ⟨S16, .f32⟩
  | .hbm, ⟨36, _⟩ => ⟨S4x512x30x25x1, .f32⟩
  | .hbm, ⟨37, _⟩ => ⟨S1x1x1x1x16, .f32⟩
  | .hbm, ⟨38, _⟩ => ⟨S4x512x30x25x16, .f32⟩
  | .hbm, ⟨39, _⟩ => ⟨S4x512x30x25x16, .f32⟩
  | .hbm, ⟨40, _⟩ => ⟨S4x512x30x25x16, .f32⟩
  | .hbm, ⟨41, _⟩ => ⟨S_, .f32⟩
  | .hbm, ⟨42, _⟩ => ⟨S4x512x30x25x16, .f32⟩
  | .hbm, ⟨43, _⟩ => ⟨S4x512x30x25x16, .f32⟩
  | .hbm, ⟨44, _⟩ => ⟨S4x512x30x25x16, .f32⟩
  | .hbm, ⟨45, _⟩ => ⟨S4x512x30x25x16, .f32⟩
  | .hbm, ⟨46, _⟩ => ⟨S4x512x30x25x16, .f32⟩
  | .hbm, ⟨47, _⟩ => ⟨S4x512x30x400, .f32⟩
  | .hbm, ⟨48, _⟩ => ⟨S4x512x30x1, .f32⟩
  | .hbm, ⟨49, _⟩ => ⟨S4x512x30, .f32⟩
  | .hbm, ⟨50, _⟩ => ⟨S4x512x30x1, .f32⟩
  | .hbm, ⟨51, _⟩ => ⟨S1x1x1x66, .f32⟩
  | .hbm, ⟨52, _⟩ => ⟨S4x512x30x66, .f32⟩
  | .hbm, ⟨53, _⟩ => ⟨S4x512x30x66, .f32⟩
  | .hbm, ⟨54, _⟩ => ⟨S4x512x30x66, .i1⟩
  | .hbm, ⟨55, _⟩ => ⟨S4x512x30x66, .f32⟩
  | .hbm, ⟨56, _⟩ => ⟨S4x512x30x16, .f32⟩
  | .hbm, ⟨57, _⟩ => ⟨S1x1x1x16, .f32⟩
  | .hbm, ⟨58, _⟩ => ⟨S4x512x30x16, .f32⟩
  | .hbm, ⟨59, _⟩ => ⟨S4x512x30x16, .f32⟩
  | .hbm, ⟨60, _⟩ => ⟨S4x512x30x416, .f32⟩
  | .hbm, ⟨61, _⟩ => ⟨S4x512x30x128, .f32⟩
  | .hbm, ⟨62, _⟩ => ⟨S_, .f32⟩
  | .hbm, ⟨63, _⟩ => ⟨S4x512x30, .f32⟩
  | .hbm, ⟨64, _⟩ => ⟨S4x512x30x1, .f32⟩
  | .hbm, ⟨65, _⟩ => ⟨S_, .f32⟩
  | .hbm, ⟨66, _⟩ => ⟨S4x512x30x1, .f32⟩
  | .hbm, ⟨67, _⟩ => ⟨S4x512x30x1, .f32⟩
  | .hbm, ⟨68, _⟩ => ⟨S4x512x30x128, .f32⟩
  | .hbm, ⟨69, _⟩ => ⟨S4x512x30x128, .f32⟩
  | .hbm, ⟨70, _⟩ => ⟨S4x512x30x128, .f32⟩
  | .hbm, ⟨71, _⟩ => ⟨S_, .f32⟩
  | .hbm, ⟨72, _⟩ => ⟨S4x512x30, .f32⟩
  | .hbm, ⟨73, _⟩ => ⟨S4x512x30x1, .f32⟩
  | .hbm, ⟨74, _⟩ => ⟨S_, .f32⟩
  | .hbm, ⟨75, _⟩ => ⟨S4x512x30x1, .f32⟩
  | .hbm, ⟨76, _⟩ => ⟨S4x512x30x1, .f32⟩
  | .hbm, ⟨77, _⟩ => ⟨S4x512x30x128, .f32⟩
  | .hbm, ⟨78, _⟩ => ⟨S4x512x30x128, .f32⟩
  | .hbm, ⟨79, _⟩ => ⟨S_, .f32⟩
  | .hbm, ⟨80, _⟩ => ⟨S4x512x30x1, .f32⟩
  | .hbm, ⟨81, _⟩ => ⟨S4x512x30x1, .f32⟩
  | .hbm, ⟨82, _⟩ => ⟨S4x512x30x1, .f32⟩
  | .hbm, ⟨83, _⟩ => ⟨S4x512x30x128, .f32⟩
  | .hbm, ⟨84, _⟩ => ⟨S4x512x30x128, .f32⟩
  | .hbm, ⟨85, _⟩ => ⟨S1x1x1x128, .f32⟩
  | .hbm, ⟨86, _⟩ => ⟨S4x512x30x128, .f32⟩
  | .hbm, ⟨87, _⟩ => ⟨S4x512x30x128, .f32⟩
  | .hbm, ⟨88, _⟩ => ⟨S1x1x1x128, .f32⟩
  | .hbm, ⟨89, _⟩ => ⟨S4x512x30x128, .f32⟩
  | .hbm, ⟨90, _⟩ => ⟨S4x512x30x128, .f32⟩
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_v28 : Ref sig .tc := ⟨.hbm, 64, rfl⟩
abbrev main_cst_4 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_5 : Ref sig .tc := ⟨.hbm, 71, rfl⟩
abbrev main_v34 : Ref sig .tc := ⟨.hbm, 72, rfl⟩
abbrev main_v35 : Ref sig .tc := ⟨.hbm, 73, rfl⟩
abbrev main_cst_6 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_7 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩

abbrev nD : Nat := 1
abbrev τ : Topo := Topo.v7x

variable {F : FTy → Type} [FloatOps F]
-- ==== Topk.lean ====
abbrev S4x512x4x3 : Shape := ⟨4, ![4, 512, 4, 3]⟩
abbrev S4x512 : Shape := ⟨2, ![4, 512]⟩
abbrev S4x512x12 : Shape := ⟨3, ![4, 512, 12]⟩
abbrev S4x512x1x3 : Shape := ⟨4, ![4, 512, 1, 3]⟩
abbrev S4x512x3 : Shape := ⟨3, ![4, 512, 3]⟩
abbrev S4x3x512 : Shape := ⟨3, ![4, 3, 512]⟩
abbrev S4x512x32 : Shape := ⟨3, ![4, 512, 32]⟩
abbrev S4x512x16 : Shape := ⟨3, ![4, 512, 16]⟩
abbrev S1x512x12 : Shape := ⟨3, ![1, 512, 12]⟩
abbrev S1x3x512 : Shape := ⟨3, ![1, 3, 512]⟩
abbrev S1x512x32 : Shape := ⟨3, ![1, 512, 32]⟩
abbrev S1x512x16 : Shape := ⟨3, ![1, 512, 16]⟩
abbrev S512x512 : Shape := ⟨2, ![512, 512]⟩
abbrev S32x512 : Shape := ⟨2, ![32, 512]⟩
abbrev S512x12 : Shape := ⟨2, ![512, 12]⟩
abbrev S512x3 : Shape := ⟨2, ![512, 3]⟩
abbrev S512x1 : Shape := ⟨2, ![512, 1]⟩
abbrev S512x16 : Shape := ⟨2, ![512, 16]⟩
abbrev S3x512 : Shape := ⟨2, ![3, 512]⟩
abbrev S1x512 : Shape := ⟨2, ![1, 512]⟩
abbrev S512 : Shape := ⟨1, ![512]⟩
abbrev S512x32 : Shape := ⟨2, ![512, 32]⟩

abbrev nBuf : Space → Nat
  | .hbm => 8
  | .vmem => 10
  | .smem => 0
  | _ => 0

abbrev bufTy : (tb : Table) → Fin (tcTables nBuf tb) → BufTy
  | .hbm, ⟨0, _⟩ => ⟨S4x512x4x3, .f32⟩
  | .hbm, ⟨1, _⟩ => ⟨S4x512, .f32⟩
  | .hbm, ⟨2, _⟩ => ⟨S4x512x12, .f32⟩
  | .hbm, ⟨3, _⟩ => ⟨S4x512x1x3, .f32⟩
  | .hbm, ⟨4, _⟩ => ⟨S4x512x3, .f32⟩
  | .hbm, ⟨5, _⟩ => ⟨S4x3x512, .f32⟩
  | .hbm, ⟨6, _⟩ => ⟨S4x512x32, .i32⟩
  | .hbm, ⟨7, _⟩ => ⟨S4x512x16, .f32⟩
  | .local _ .vmem, ⟨0, _⟩ => ⟨S1x512x12, .f32⟩
  | .local _ .vmem, ⟨1, _⟩ => ⟨S1x512x12, .f32⟩
  | .local _ .vmem, ⟨2, _⟩ => ⟨S1x3x512, .f32⟩
  | .local _ .vmem, ⟨3, _⟩ => ⟨S1x3x512, .f32⟩
  | .local _ .vmem, ⟨4, _⟩ => ⟨S1x512x32, .i32⟩
  | .local _ .vmem, ⟨5, _⟩ => ⟨S1x512x32, .i32⟩
  | .local _ .vmem, ⟨6, _⟩ => ⟨S1x512x16, .f32⟩
  | .local _ .vmem, ⟨7, _⟩ => ⟨S1x512x16, .f32⟩
  | .local _ .vmem, ⟨8, _⟩ => ⟨S512x512, .f32⟩
  | .local _ .vmem, ⟨9, _⟩ => ⟨S32x512, .i32⟩
  | _, _ => ⟨S4x512x4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c30_i32 : BitVec 32 := 30#32
  let v64 : BitVec 32 := Scalar.addi c0_i32 c30_i32
  let c1_i32 : BitVec 32 := 1#32
  ⟨c0_i32, v64, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let v86 : Index := Scalar.indexCast arg7
  let c0_26 : Index := 0#32
  ![v86.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TopkReferenceIdeal.lean ====
abbrev S4x512x4x3 : Shape := ⟨4, ![4, 512, 4, 3]⟩
abbrev S4x512 : Shape := ⟨2, ![4, 512]⟩
abbrev S4x4x512x3 : Shape := ⟨4, ![4, 4, 512, 3]⟩
abbrev S1x4x512x3 : Shape := ⟨4, ![1, 4, 512, 3]⟩
abbrev S4x512x3 : Shape := ⟨3, ![4, 512, 3]⟩
abbrev S4x512x1 : Shape := ⟨3, ![4, 512, 1]⟩
abbrev S1x4x512 : Shape := ⟨3, ![1, 4, 512]⟩
abbrev S3x4x512 : Shape := ⟨3, ![3, 4, 512]⟩
abbrev S_ : Shape := ⟨0, ![]⟩
abbrev S5x4x512x3 : Shape := ⟨4, ![5, 4, 512, 3]⟩
abbrev S4x1x512 : Shape := ⟨3, ![4, 1, 512]⟩
abbrev S4x512x512 : Shape := ⟨3, ![4, 512, 512]⟩
abbrev S4x1x512x3 : Shape := ⟨4, ![4, 1, 512, 3]⟩
abbrev S4x512x1x3 : Shape := ⟨4, ![4, 512, 1, 3]⟩
abbrev S4x512x512x3 : Shape := ⟨4, ![4, 512, 512, 3]⟩
abbrev S4x512x30 : Shape := ⟨3, ![4, 512, 30]⟩
abbrev S4x512x2 : Shape := ⟨3, ![4, 512, 2]⟩
abbrev S4x512x32 : Shape := ⟨3, ![4, 512, 32]⟩
abbrev S4x512x5x3 : Shape := ⟨4, ![4, 512, 5, 3]⟩
abbrev S4x512x15 : Shape := ⟨3, ![4, 512, 15]⟩
abbrev S4x512x16 : Shape := ⟨3, ![4, 512, 16]⟩

abbrev nBuf : Space → Nat
  | .hbm => 94
  | .vmem => 0
  | .smem => 0
  | _ => 0

abbrev bufTy : (tb : Table) → Fin (tcTables nBuf tb) → BufTy
  | .hbm, ⟨0, _⟩ => ⟨S4x512x4x3, .f32⟩
  | .hbm, ⟨1, _⟩ => ⟨S4x512, .f32⟩
  | .hbm, ⟨2, _⟩ => ⟨S4x4x512x3, .f32⟩
  | .hbm, ⟨3, _⟩ => ⟨S1x4x512x3, .f32⟩
  | .hbm, ⟨4, _⟩ => ⟨S4x512x3, .f32⟩
  | .hbm, ⟨5, _⟩ => ⟨S1x4x512x3, .f32⟩
  | .hbm, ⟨6, _⟩ => ⟨S4x512x3, .f32⟩
  | .hbm, ⟨7, _⟩ => ⟨S4x512x3, .f32⟩
  | .hbm, ⟨8, _⟩ => ⟨S1x4x512x3, .f32⟩
  | .hbm, ⟨9, _⟩ => ⟨S4x512x3, .f32⟩
  | .hbm, ⟨10, _⟩ => ⟨S1x4x512x3, .f32⟩
  | .hbm, ⟨11, _⟩ => ⟨S4x512x3, .f32⟩
  | .hbm, ⟨12, _⟩ => ⟨S4x512x3, .f32⟩
  | .hbm, ⟨13, _⟩ => ⟨S4x512x1, .f32⟩
  | .hbm, ⟨14, _⟩ => ⟨S4x512, .f32⟩
  | .hbm, ⟨15, _⟩ => ⟨S4x512x1, .f32⟩
  | .hbm, ⟨16, _⟩ => ⟨S4x512, .f32⟩
  | .hbm, ⟨17, _⟩ => ⟨S4x512x1, .f32⟩
  | .hbm, ⟨18, _⟩ => ⟨S4x512, .f32⟩
  | .hbm, ⟨19, _⟩ => ⟨S4x512x1, .f32⟩
  | .hbm, ⟨20, _⟩ => ⟨S4x512, .f32⟩
  | .hbm, ⟨21, _⟩ => ⟨S4x512x1, .f32⟩
  | .hbm, ⟨22, _⟩ => ⟨S4x512, .f32⟩
  | .hbm, ⟨23, _⟩ => ⟨S4x512x1, .f32⟩
  | .hbm, ⟨24, _⟩ => ⟨S4x512, .f32⟩
  | .hbm, ⟨25, _⟩ => ⟨S4x512, .f32⟩
  | .hbm, ⟨26, _⟩ => ⟨S4x512, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S1x4x512, .f32⟩
  | .hbm, ⟨35, _⟩ => ⟨S1x4x512, .f32⟩
  | .hbm, ⟨36, _⟩ => ⟨S1x4x512, .f32⟩
  | .hbm, ⟨37, _⟩ => ⟨S3x4x512, .f32⟩
  | .hbm, ⟨38, _⟩ => ⟨S4x512x3, .f32⟩
  | .hbm, ⟨39, _⟩ => ⟨S_, .f32⟩
  | .hbm, ⟨40, _⟩ => ⟨S4x512x3, .f32⟩
  | .hbm, ⟨41, _⟩ => ⟨S4x512x3, .f32⟩
  | .hbm, ⟨42, _⟩ => ⟨S_, .f32⟩
  | .hbm, ⟨43, _⟩ => ⟨S4x512x3, .f32⟩
  | .hbm, ⟨44, _⟩ => ⟨S4x512x3, .f32⟩
  | .hbm, ⟨45, _⟩ => ⟨S4x512x3, .f32⟩
  | .hbm, ⟨46, _⟩ => ⟨S_, .f32⟩
  | .hbm, ⟨47, _⟩ => ⟨S4x512x3, .f32⟩
  | .hbm, ⟨48, _⟩ => ⟨S4x512x3, .f32⟩
  | .hbm, ⟨49, _⟩ => ⟨S4x512x3, .f32⟩
  | .hbm, ⟨50, _⟩ => ⟨S1x4x512x3, .f32⟩
  | .hbm, ⟨51, _⟩ => ⟨S4x512x3, .f32⟩
  | .hbm, ⟨52, _⟩ => ⟨S4x512x3, .f32⟩
  | .hbm, ⟨53, _⟩ => ⟨S1x4x512x3, .f32⟩
  | .hbm, ⟨54, _⟩ => ⟨S5x4x512x3, .f32⟩
  | .hbm, ⟨55, _⟩ => ⟨S1x4x512x3, .f32⟩
  | .hbm, ⟨56, _⟩ => ⟨S4x512x3, .f32⟩
  | .hbm, ⟨57, _⟩ => ⟨S4x1x512, .f32⟩
  | .hbm, ⟨58, _⟩ => ⟨S4x512x1, .f32⟩
  | .hbm, ⟨59, _⟩ => ⟨S4x512x512, .f32⟩
  | .hbm, ⟨60, _⟩ => ⟨S4x512x512, .f32⟩
  | .hbm, ⟨61, _⟩ => ⟨S4x512x512, .f32⟩
  | .hbm, ⟨62, _⟩ => ⟨S4x1x512x3, .f32⟩
  | .hbm, ⟨63, _⟩ => ⟨S4x512x1x3, .f32⟩
  | .hbm, ⟨64, _⟩ => ⟨S4x512x512x3, .f32⟩
  | .hbm, ⟨65, _⟩ => ⟨S4x512x512x3, .f32⟩
  | .hbm, ⟨66, _⟩ => ⟨S4x512x512x3, .f32⟩
  | .hbm, ⟨67, _⟩ => ⟨S4x512x512x3, .f32⟩
  | .hbm, ⟨68, _⟩ => ⟨S_, .f32⟩
  | .hbm, ⟨69, _⟩ => ⟨S4x512x512, .f32⟩
  | .hbm, ⟨70, _⟩ => ⟨S_, .f32⟩
  | .hbm, ⟨71, _⟩ => ⟨S4x512x512, .f32⟩
  | .hbm, ⟨72, _⟩ => ⟨S4x512x512, .f32⟩
  | .hbm, ⟨73, _⟩ => ⟨S4x512x512, .f32⟩
  | .hbm, ⟨74, _⟩ => ⟨S_, .f32⟩
  | .hbm, ⟨75, _⟩ => ⟨S4x512x512, .f32⟩
  | .hbm, ⟨76, _⟩ => ⟨S4x512x512, .i1⟩
  | .hbm, ⟨77, _⟩ => ⟨S4x512x512, .i1⟩
  | .hbm, ⟨78, _⟩ => ⟨S_, .f32⟩
  | .hbm, ⟨79, _⟩ => ⟨S4x512, .f32⟩
  | .hbm, ⟨80, _⟩ => ⟨S4x512x1, .f32⟩
  | .hbm, ⟨81, _⟩ => ⟨S4x512x512, .f32⟩
  | .hbm, ⟨82, _⟩ => ⟨S4x512x512, .f32⟩
  | .hbm, ⟨83, _⟩ => ⟨S4x512x512, .f32⟩
  | .hbm, ⟨84, _⟩ => ⟨S4x512x30, .f32⟩
  | .hbm, ⟨85, _⟩ => ⟨S4x512x30, .i32⟩
  | .hbm, ⟨86, _⟩ => ⟨S_, .i32⟩
  | .hbm, ⟨87, _⟩ => ⟨S4x512x2, .i32⟩
  | .hbm, ⟨88, _⟩ => ⟨S4x512x32, .i32⟩
  | .hbm, ⟨89, _⟩ => ⟨S4x512x5x3, .f32⟩
  | .hbm, ⟨90, _⟩ => ⟨S4x512x15, .f32⟩
  | .hbm, ⟨91, _⟩ => ⟨S_, .f32⟩
  | .hbm, ⟨92, _⟩ => ⟨S4x512x1, .f32⟩
  | .hbm, ⟨93, _⟩ => ⟨S4x512x16, .f32⟩
  | _, _ => ⟨S4x512x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_v11 : Ref sig .tc := ⟨.hbm, 38, rfl⟩
abbrev main_cst : Ref sig .tc := ⟨.hbm, 39, rfl⟩
abbrev main_v12 : Ref sig .tc := ⟨.hbm, 40, rfl⟩
abbrev main_v13 : Ref sig .tc := ⟨.hbm, 41, rfl⟩
abbrev main_cst_0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_2 : Ref sig .tc := ⟨.hbm, 68, rfl⟩
abbrev main_v38 : Ref sig .tc := ⟨.hbm, 69, rfl⟩
abbrev main_cst_3 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_4 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_5 : Ref sig .tc := ⟨.hbm, 78, rfl⟩
abbrev main_v45 : Ref sig .tc := ⟨.hbm, 79, rfl⟩
abbrev main_v46 : Ref sig .tc := ⟨.hbm, 80, rfl⟩
abbrev main_call1_v0 : Ref sig .tc := ⟨.hbm, 81, rfl⟩
abbrev main_v47 : Ref sig .tc := ⟨.hbm, 82, rfl⟩
abbrev main_v48 : Ref sig .tc := ⟨.hbm, 83, rfl⟩
abbrev main_values : Ref sig .tc := ⟨.hbm, 84, rfl⟩
abbrev main_indices : Ref sig .tc := ⟨.hbm, 85, rfl⟩
abbrev main_c : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_6 : Ref sig .tc := ⟨.hbm, 91, rfl⟩
abbrev main_v53 : Ref sig .tc := ⟨.hbm, 92, rfl⟩
abbrev main_v54 : Ref sig .tc := ⟨.hbm, 93, rfl⟩

abbrev nD : Nat := 1
abbrev τ : Topo := Topo.v7x

variable {F : FTy → Type} [FloatOps F]
-- ==== Proof.Spec.lean ====
/-
  What the SparseCore call computes, said once: row `e` of its result holds, for edge `e`, the twenty-five squared
  distances between an atom of the edge's centre and an atom of its neighbour, the clipped residue offset (or 65 across
  chains), and six zeros. Stated for any float values, over the flat atom table, the chain table and the neighbour
  indices. Then the two facts about a scattered store that the run needs, and the step of the loop's invariant.
-/
module

public import proofs.«01_k».proof.Defs
public import Idealize.ShloMosaic.Lib.Pointwise.Index
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic

variable {F : FTy → Type} [FloatOps F]

/-- Entry `n` of the flat atom table, of the chain table and of the neighbour list (read modulo the length). -/
def tAt (T : Vec F S32768 .f32) (n : ℕ) : F .f32 := T (ix1 ⟨n % 32768, Nat.mod_lt _ (by decide)⟩)
def cAt (C : IVec S2048 32) (n : ℕ) : BitVec 32 := C (ix1 ⟨n % 2048, Nat.mod_lt _ (by decide)⟩)
def eAt (E : IVec S65536 32) (n : ℕ) : BitVec 32 := E (ix1 ⟨n % 65536, Nat.mod_lt _ (by decide)⟩)

/-- The row of edge `e`'s centre, thirty-two edges to a residue, -/
def cen (e : ℕ) : ℕ := e / 32
/-- and the row of its neighbour: the index within the batch entry, five hundred and twelve residues to an entry. -/
def nbr (E : IVec S65536 32) (e : ℕ) : ℕ := (eAt E e).toNat + e / 16384 * 512

/-- The residue offset of edge `e`, clipped to `[0, 64]`, and 65 where the two chains differ. -/
def offs (C : IVec S2048 32) (E : IVec S65536 32) (e : ℕ) : BitVec 32 :=
  Scalar.select (IntOp.cmpi .eq (cAt C (cen e)) (cAt C (nbr E e)))
    (IntOp.minsi 64#32 (IntOp.maxsi 0#32 (BitVec.ofNat 32 (cen e) - BitVec.ofNat 32 (nbr E e) + 32#32))) 65#32

/-- The squared difference of the entries `a` and `b` of the table, -/
def sqAt (T : Vec F S32768 .f32) (a b : ℕ) : F .f32 :=
  FloatOps.mulf (FloatOps.subf (tAt T a) (tAt T b)) (FloatOps.subf (tAt T a) (tAt T b))
/-- and the squared distance of the atoms whose coordinates begin there. -/
def sqDist (T : Vec F S32768 .f32) (a b : ℕ) : F .f32 :=
  FloatOps.addf (FloatOps.addf (sqAt T a b) (sqAt T (a + 1) (b + 1))) (sqAt T (a + 2) (b + 2))

/-- The atom of the centre and the atom of the neighbour in each of the twenty-five pairs. -/
def pairA (p : ℕ) : ℕ := [1, 0, 2, 3, 4, 1, 1, 1, 1, 0, 0, 0, 4, 4, 3, 0, 2, 3, 4, 2, 3, 4, 2, 3, 2].getD p 0
def pairB (p : ℕ) : ℕ := [1, 0, 2, 3, 4, 0, 2, 3, 4, 2, 3, 4, 2, 3, 2, 1, 1, 1, 1, 0, 0, 0, 4, 4, 3].getD p 0

/-- Column `p` of edge `e`'s row. -/
def qrow (T : Vec F S32768 .f32) (C : IVec S2048 32) (E : IVec S65536 32) (e p : ℕ) : F .f32 :=
  if p < 25 then sqDist T (cen e * 16 + 3 * pairA p) (nbr E e * 16 + 3 * pairB p)
  else if p = 25 then FloatOps.sitofp .f32 (offs C E e)
  else Scalar.ofBits .f32 0x00000000#32

/-- Entry `n` of the result, thirty-two columns to a row. -/
def qAt (T : Vec F S32768 .f32) (C : IVec S2048 32) (E : IVec S65536 32) (n : ℕ) : F .f32 := qrow T C E (n / 32) (n % 32)

/-! ## A scattered store, lane by lane -/

section Store

variable {α : Type} {P : ℕ → Prop} [DecidablePred P]

theorem fold_miss {n : ℕ} (hit : Fin n → S65536.Idx → Prop) [∀ k j, Decidable (hit k j)] (v : Fin n → α) (j : S65536.Idx) :
    ∀ (ks : List (Fin n)) (g : S65536.Idx → α), (∀ k ∈ ks, ¬hit k j) →
      ks.foldl (fun g k => fun j => if hit k j then v k else g j) g j = g j
  | [], _, _ => rfl
  | k :: ks, g, h => by
    rw [List.foldl_cons, fold_miss hit v j ks _ fun k' hk' => h k' (List.mem_cons_of_mem _ hk')]
    exact if_neg (h k (List.mem_cons_self ..))

theorem fold_hit {n : ℕ} (hit : Fin n → S65536.Idx → Prop) [∀ k j, Decidable (hit k j)] (v : Fin n → α) (j : S65536.Idx) (l : Fin n)
    (hl : hit l j) :
    ∀ (ks : List (Fin n)) (g : S65536.Idx → α), l ∈ ks → (∀ k ∈ ks, hit k j → k = l) →
      ks.foldl (fun g k => fun j => if hit k j then v k else g j) g j = v l
  | [], _, hm, _ => absurd hm List.not_mem_nil
  | k :: ks, g, hm, h => by
    rw [List.foldl_cons]
    by_cases hk : l ∈ ks
    · exact fold_hit hit v j l hl ks _ hk fun k' hk' => h k' (List.mem_cons_of_mem _ hk')
    · have hkl : l = k := (List.mem_cons.mp hm).resolve_right hk
      subst hkl
      rw [fold_miss hit v j ks _ fun k' hk' hh => hk (h k' (List.mem_cons_of_mem _ hk') hh ▸ hk')]
      exact if_pos hl

end Store

theorem storeIdx_fold (f : Vec F S65536 .f32) (idx : IVec S16 32) (v : Vec F S16 .f32)
    (h : ∀ a x, ((![idx] : Fin 1 → IVec S16 32) a x).toNat < S65536.size a) :
    storeIdx f (![idx] : Fin 1 → IVec S16 32) v (fun _ => 1#1) false h
      = (List.finRange 16).foldl (fun g k => fun j =>
          if (j 0).val = (idx (ix1 k)).toNat then v (ix1 k) else g j) f := by
  unfold storeIdx
  congr 1
  funext g k
  have hx : (Shape.ofLane k : S16.Idx) = ix1 k := by
    funext a; match a with | 0 => rfl
  have e1 : (![idx] : Fin 1 → IVec S16 32) 0 (Shape.ofLane k) = idx (ix1 k) := by rw [hx]; rfl
  refine (if_pos (show (1#1 : BitVec 1) = 1 from rfl)).trans ?_
  funext j
  have e2 : (idxAt (s := S65536) (![idx] : Fin 1 → IVec S16 32) h (Shape.ofLane k) 0).val = (idx (ix1 k)).toNat := by
    show ((![idx] : Fin 1 → IVec S16 32) 0 (Shape.ofLane k)).toNat = _
    rw [e1]
  have hiff : (∀ a, (j a).val = (idxAt (s := S65536) (![idx] : Fin 1 → IVec S16 32) h (Shape.ofLane k) a).val) ↔ (j 0).val = (idx (ix1 k)).toNat := by
    constructor
    · intro hh; exact (hh 0).trans e2
    · intro hh a; match a with | 0 => exact hh.trans e2.symm
  by_cases hc : (j 0).val = (idx (ix1 k)).toNat
  · exact (if_pos (hiff.mpr hc)).trans ((congrArg v hx).trans (if_pos hc).symm)
  · exact (if_neg fun hh => hc (hiff.mp hh)).trans (if_neg hc).symm

/-! ## The loop's invariant -/

/-- A tile's result buffer holds the right values on the rows of the groups before `g`, and on the columns before `p` of group `g`. -/
def QInv (T : Vec F S32768 .f32) (C : IVec S2048 32) (E : IVec S65536 32) (w g p : ℕ) (f : Vec F S65536 .f32) : Prop :=
  ∀ j : S65536.Idx, ((j 0).val / 32 < g * 16 ∨ ((j 0).val / 32 < g * 16 + 16 ∧ (j 0).val % 32 < p)) →
    f j = qAt T C E (w * 65536 + (j 0).val)

variable {T : Vec F S32768 .f32} {C : IVec S2048 32} {E : IVec S65536 32} {w g p : ℕ}

/-- Storing column `p` of group `g`. -/
theorem qInv_step (hp : p < 32) {f : Vec F S65536 .f32} (hf : QInv T C E w g p f) {idx : IVec S16 32} {v : Vec F S16 .f32}
    (h : ∀ a x, ((![idx] : Fin 1 → IVec S16 32) a x).toNat < S65536.size a)
    (hidx : ∀ x : S16.Idx, (idx x).toNat = (g * 16 + (x 0).val) * 32 + p)
    (hv : ∀ x : S16.Idx, v x = qrow T C E (w * 2048 + (g * 16 + (x 0).val)) p) :
    QInv T C E w g (p + 1) (storeIdx f (![idx] : Fin 1 → IVec S16 32) v (fun _ => 1#1) false h) := by
  intro j hj
  rw [storeIdx_fold]
  by_cases hc : g * 16 ≤ (j 0).val / 32 ∧ (j 0).val / 32 < g * 16 + 16 ∧ (j 0).val % 32 = p
  · obtain ⟨h1, h2, h3⟩ := hc
    have hl : (j 0).val / 32 - g * 16 < 16 := by omega
    have e := fold_hit (fun (k : Fin 16) (j : S65536.Idx) => (j 0).val = (idx (ix1 k)).toNat) (fun k => v (ix1 k)) j
      ⟨(j 0).val / 32 - g * 16, hl⟩ (by show (j 0).val = _; rw [hidx]; show _ = (g * 16 + ((j 0).val / 32 - g * 16)) * 32 + p; omega)
      (List.finRange 16) f (List.mem_finRange _) (by
        intro k _ hk
        have hk' : (j 0).val = (g * 16 + k.val) * 32 + p := by rw [show (j 0).val = _ from hk, hidx]; rfl
        exact Fin.ext (by show k.val = (j 0).val / 32 - g * 16; omega))
    refine e.trans ?_
    rw [hv]
    show qrow T C E (w * 2048 + (g * 16 + ((j 0).val / 32 - g * 16))) p = _
    unfold qAt
    congr 1 <;> omega
  · have e := fold_miss (fun (k : Fin 16) (j : S65536.Idx) => (j 0).val = (idx (ix1 k)).toNat) (fun k => v (ix1 k)) j
      (List.finRange 16) f (by
        intro k _ hk
        have hk' : (j 0).val = (g * 16 + k.val) * 32 + p := by rw [show (j 0).val = _ from hk, hidx]; rfl
        have := k.isLt
        exact hc ⟨by omega, by omega, by omega⟩)
    refine e.trans (hf j ?_)
    omega

/-- A group's thirty-two columns done, the next group begins. -/
theorem qInv_next {f : Vec F S65536 .f32} (hf : QInv T C E w g 32 f) : QInv T C E w (g + 1) 0 f := by
  intro j hj; exact hf j (by omega)

theorem qInv_zero (f : Vec F S65536 .f32) : QInv T C E w 0 0 f := by
  intro j hj; omega

theorem qInv_last {f : Vec F S65536 .f32} (hf : QInv T C E w 128 0 f) (j : S65536.Idx) : f j = qAt T C E (w * 65536 + (j 0).val) :=
  hf j (.inl (by have := (j 0).isLt; have e : S65536.size 0 = 65536 := rfl; omega))

end Cert.Proof

end
-- ==== Proof.Parts.lean ====
/-
  One trip of the SparseCore call's loop, part by part: sixteen edges' indices, the rows of their centres and of their
  neighbours, the thirty reads of the atom table and the thirty-two scattered stores, over the specification of
  Proof/Spec.lean. Each lemma continues the program from the vectors the reads give, written by their values.
-/
module

public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The algebra the run is stated in -/

abbrev UH : Type := URounds (GSem nD τ sig) ℕ
abbrev UU : Type := UH × Counters

local notation "𝕄" => MT nD τ sig (HIx 1) (Elt F) ℕ UU ℕ

abbrev 𝒱₀ : Variants := Variants.none

local notation "sT" => (Memref.whole Cert.KernelIdeal.cc0_scratch0 : Memref Cert.KernelIdeal.sig Kind.scVector Space.vmem Cert.KernelIdeal.S32768 EltTy.f32)
local notation "sC" => (Memref.whole Cert.KernelIdeal.cc0_scratch1 : Memref Cert.KernelIdeal.sig Kind.scVector Space.vmem Cert.KernelIdeal.S2048 EltTy.i32)
local notation "sE" => (Memref.whole Cert.KernelIdeal.cc0_scratch2 : Memref Cert.KernelIdeal.sig Kind.scVector Space.vmem Cert.KernelIdeal.S2048 EltTy.i32)
local notation "sQ" => (Memref.whole Cert.KernelIdeal.cc0_scratch3 : Memref Cert.KernelIdeal.sig Kind.scVector Space.vmem Cert.KernelIdeal.S65536 EltTy.f32)

abbrev cV (L : grid0.Coords) : Fin τ.nSC := (L 0).castLE hcore0
abbrev jV (L : grid0.Coords) : Fin τ.nSub := (L 1).castLE hsub0

variable [FloatOps F]

/-- Edge of lane `x` in group `g` of tile `w`. -/
def ge (w g : ℕ) (x : S16.Idx) : ℕ := w * 2048 + (g * 16 + (x 0).val)

/-- Coordinate `k` of the centres' rows and of the neighbours' rows, one per lane. -/
abbrev ct (T : Vec F S32768 .f32) (w g k : ℕ) : Vec F S16 .f32 := fun x => tAt T (cen (ge w g x) * 16 + k)
abbrev nb (T : Vec F S32768 .f32) (E : IVec S65536 32) (w g k : ℕ) : Vec F S16 .f32 := fun x => tAt T (nbr E (ge w g x) * 16 + k)

/-! ## Words -/

theorem lane_lt (x : S16.Idx) : (x 0).val < 16 := (x 0).isLt

theorem addi_nat {a : BitVec 32} {n : ℕ} (k : ℕ) (ha : a.toNat = n) (h : n + k < 2 ^ 32) : (IntOp.addi a (BitVec.ofNat 32 k)).toNat = n + k := by
  show (a + BitVec.ofNat 32 k).toNat = _
  rw [BitVec.toNat_add, BitVec.toNat_ofNat, ha]; omega

theorem muli_nat {a : BitVec 32} {n : ℕ} (k : ℕ) (ha : a.toNat = n) (hk : k < 2 ^ 32) (h : n * k < 2 ^ 32) :
    (IntOp.muli a (BitVec.ofNat 32 k)).toNat = n * k := by
  show (a * BitVec.ofNat 32 k).toNat = _
  rw [BitVec.toNat_mul, BitVec.toNat_ofNat, ha, Nat.mod_eq_of_lt hk, Nat.mod_eq_of_lt h]

theorem shr5_nat {a : BitVec 32} {n : ℕ} (ha : a.toNat = n) (h : n < 2 ^ 31) : (IntOp.shrsi .vector a 5#32).toNat = n / 32 := by
  have hm : a.msb = false := by rw [BitVec.msb_eq_false_iff_two_mul_lt]; omega
  unfold IntOp.shrsi
  rw [if_pos (by decide), show a.sshiftRight' 5#32 = a.sshiftRight 5 from rfl, BitVec.sshiftRight_eq_of_msb_false hm, BitVec.toNat_ushiftRight, ha, Nat.shiftRight_eq_div_pow]

section Facts

variable {E : IVec S65536 32} {w g : ℕ}

theorem ge_lt (hw : w < 32) (hg : g < 128) (x : S16.Idx) : ge w g x < 65536 := by
  have := lane_lt x; unfold ge; omega
theorem cen_lt (hw : w < 32) (hg : g < 128) (x : S16.Idx) : cen (ge w g x) < 2048 := by
  have := ge_lt hw hg x; unfold cen; omega
theorem nbr_lt (hw : w < 32) (hg : g < 128) (hE : ∀ n, (eAt E n).toNat < 512) (x : S16.Idx) : nbr E (ge w g x) < 2048 := by
  have := ge_lt hw hg x; have := hE (ge w g x); unfold nbr; omega

variable (hw : w < 32) (hg : g < 128) (hE : ∀ n, (eAt E n).toNat < 512)

include hw hg in
theorem c_nat {v : IVec S16 32} (h : ∀ x, (v x).toNat = cen (ge w g x) * 16) {k : ℕ} (hk : k < 16) (x : S16.Idx) :
    (IntOp.addi (v x) (BitVec.ofNat 32 k)).toNat = cen (ge w g x) * 16 + k :=
  addi_nat k (h x) (by have := cen_lt hw hg x; omega)
include hw hg hE in
theorem n_nat {v : IVec S16 32} (h : ∀ x, (v x).toNat = nbr E (ge w g x) * 16) {k : ℕ} (hk : k < 16) (x : S16.Idx) :
    (IntOp.addi (v x) (BitVec.ofNat 32 k)).toNat = nbr E (ge w g x) * 16 + k :=
  addi_nat k (h x) (by have := nbr_lt hw hg hE x; omega)
theorem q_nat {v : IVec S16 32} (h : ∀ x : S16.Idx, (v x).toNat = (g * 16 + (x 0).val) * 32) (hg : g < 128) {k : ℕ} (hk : k < 32) (x : S16.Idx) :
    (IntOp.addi (v x) (BitVec.ofNat 32 k)).toNat = (g * 16 + (x 0).val) * 32 + k :=
  addi_nat k (h x) (by have := lane_lt x; omega)

/-- The checks: an index vector whose every lane is inside. -/
theorem chk_of {n : ℕ} {idx : IVec S16 32} (h : ∀ x, (idx x).toNat < n) :
    ∀ (a : Fin 1) (x : S16.Idx), ((![idx] : Fin 1 → IVec S16 32) a x).toNat < (⟨1, ![n]⟩ : Shape).size a := by
  intro a x; match a with | 0 => exact h x

include hw hg in
theorem chkT_c {v : IVec S16 32} (h : ∀ x, (v x).toNat = cen (ge w g x) * 16) {k : ℕ} (hk : k < 16) :
    ∀ (a : Fin 1) (x : S16.Idx), ((![fun x => IntOp.addi (v x) (BitVec.ofNat 32 k)] : Fin 1 → IVec S16 32) a x).toNat < S32768.size a :=
  chk_of fun x => by rw [c_nat hw hg h hk x]; have := cen_lt hw hg x; omega
include hw hg hE in
theorem chkT_n {v : IVec S16 32} (h : ∀ x, (v x).toNat = nbr E (ge w g x) * 16) {k : ℕ} (hk : k < 16) :
    ∀ (a : Fin 1) (x : S16.Idx), ((![fun x => IntOp.addi (v x) (BitVec.ofNat 32 k)] : Fin 1 → IVec S16 32) a x).toNat < S32768.size a :=
  chk_of fun x => by rw [n_nat hw hg hE h hk x]; have := nbr_lt hw hg hE x; omega
theorem chk34 {v : IVec S16 32} (h : ∀ x : S16.Idx, (v x).toNat = (g * 16 + (x 0).val) * 32) (hg : g < 128) {k : ℕ} (hk : k < 32) :
    ∀ (a : Fin 1) (x : S16.Idx), ((![fun x => IntOp.addi (v x) (BitVec.ofNat 32 k)] : Fin 1 → IVec S16 32) a x).toNat < S65536.size a :=
  chk_of fun x => by rw [q_nat h hg hk x]; have := lane_lt x; omega

theorem pay40_nat (hg : g < 128) {v11 : IVec S16 32} {x : S16.Idx} (h : (v11 x).toNat = g * 16 + (x 0).val) :
    (k0_pay40 v11 x).toNat = (g * 16 + (x 0).val) * 32 :=
  muli_nat 32 h (by decide) (by have := lane_lt x; omega)

end Facts

/-! ## Steps -/

section Steps

variable (d : Dev nD) (L : grid0.Coords)

/-- A tile's atom table, chain table, edge indices and result buffer, each whole. -/
abbrev tPts (T : Vec F S32768 .f32) : sProp 𝕄 := (V d (cV L) (jV L)).loc cc0_scratch0 ↦{fullShare} T
abbrev cPts (C : IVec S2048 32) : sProp 𝕄 := (V d (cV L) (jV L)).loc cc0_scratch1 ↦{fullShare} C
abbrev ePts (E : IVec S2048 32) : sProp 𝕄 := (V d (cV L) (jV L)).loc cc0_scratch2 ↦{fullShare} E
abbrev qPts (f : Vec F S65536 .f32) : sProp 𝕄 := (V d (cV L) (jV L)).loc cc0_scratch3 ↦{fullShare} f
/-- The result buffer at contents right so far. -/
def qHeld (T : Vec F S32768 .f32) (C : IVec S2048 32) (E : IVec S65536 32) (w g p : ℕ) : sProp 𝕄 :=
  iprop(∃ f, ⌜QInv T C E w g p f⌝ ∗ qPts d L f)

variable {d} {L}

theorem asm {α : Type} {Q : α → sProp 𝕄} {A : Prop} {dc : Decidable A} (h : A) {k : PLift A → Prog (TpuEff nD τ sig (Elt F) Λ₀ (.scVector (cV L) (jV L))) α} :
    wp frame (wpE (defs₀ (F := F)) 𝒱₀ (V d (cV L) (jV L)) none) Set.univ (k ⟨h⟩) Q
      ⊢ wp frame (wpE (defs₀ (F := F)) 𝒱₀ (V d (cV L) (jV L)) none) Set.univ (Prog.lift (TpuEff.assume A dc) >>= k) Q := by
  simp only [Prog.lift, Prog.bind_op, Prog.bind_ret]
  rw [wp_assume_of _ _ _ _ h]

theorem ldT {α : Type} {Q : α → sProp 𝕄} {T : Vec F S32768 .f32} {idx : IVec S16 32} {h : ∀ (a : Fin 1) (x : S16.Idx), ((![idx] : Fin 1 → IVec S16 32) a x).toNat < S32768.size a}
    {hl : (sT : Memref sig .scVector .vmem S32768 .f32).view.Loads} {k : Vec F S16 .f32 → Prog (TpuEff nD τ sig (Elt F) Λ₀ (.scVector (cV L) (jV L))) α}
    (A : S16.Idx → ℕ) (hA : ∀ x, (idx x).toNat = A x) :
    tPts d L T ⊢ iprop((tPts d L T -∗ wp frame (wpE (defs₀ (F := F)) 𝒱₀ (V d (cV L) (jV L)) none) Set.univ (k fun x => tAt T (A x)) Q)
      -∗ wp frame (wpE (defs₀ (F := F)) 𝒱₀ (V d (cV L) (jV L)) none) Set.univ (SparseCore.vectorLoadIdx sT (![idx] : Fin 1 → IVec S16 32) h hl >>= k) Q) := by
  have e : loadIdx (((sT : Memref sig .scVector .vmem S32768 .f32).access (.whole S32768)).read (Elt F) T) (![idx] : Fin 1 → IVec S16 32) h = fun x => tAt T (A x) := by
    funext x
    rw [show (((sT : Memref sig .scVector .vmem S32768 .f32).access (.whole S32768)).read (Elt F) T) = T from Memref.read_access_whole (Elt F) cc0_scratch0 T]
    unfold loadIdx tAt
    congr 1
    funext a
    match a with
    | 0 =>
      apply Fin.ext
      show (idx x).toNat = A x % 32768
      have : (idx x).toNat < 32768 := h 0 x
      rw [← hA x]; exact (Nat.mod_eq_of_lt this).symm
  have H := SparseCore.wp_vectorLoadIdx (defs := defs₀ (F := F)) 𝒱₀ (V d (cV L) (jV L)) none Set.univ (Q := Q) (s := S32768) (e := .f32) (base := (sT : Memref sig .scVector .vmem S32768 .f32))
    (S := Finset.univ) (q := fullShare) (f := T) (h := h) (hl := hl) (k := k) (Finset.subset_univ _)
  rw [e] at H
  exact H

theorem ldI {α : Type} {Q : α → sProp 𝕄} {C : IVec S2048 32} {idx : IVec S16 32} {h : ∀ (a : Fin 1) (x : S16.Idx), ((![idx] : Fin 1 → IVec S16 32) a x).toNat < S2048.size a}
    {hl : (sC : Memref sig .scVector .vmem S2048 .i32).view.Loads} {k : Vec F S16 .i32 → Prog (TpuEff nD τ sig (Elt F) Λ₀ (.scVector (cV L) (jV L))) α}
    (A : S16.Idx → ℕ) (hA : ∀ x, (idx x).toNat = A x) :
    cPts d L C ⊢ iprop((cPts d L C -∗ wp frame (wpE (defs₀ (F := F)) 𝒱₀ (V d (cV L) (jV L)) none) Set.univ (k fun x => cAt C (A x)) Q)
      -∗ wp frame (wpE (defs₀ (F := F)) 𝒱₀ (V d (cV L) (jV L)) none) Set.univ (SparseCore.vectorLoadIdx sC (![idx] : Fin 1 → IVec S16 32) h hl >>= k) Q) := by
  have e : loadIdx (F := F) (((sC : Memref sig .scVector .vmem S2048 .i32).access (.whole S2048)).read (Elt F) C) (![idx] : Fin 1 → IVec S16 32) h = fun x => cAt C (A x) := by
    funext x
    rw [show (((sC : Memref sig .scVector .vmem S2048 .i32).access (.whole S2048)).read (Elt F) C) = C from Memref.read_access_whole (Elt F) cc0_scratch1 C]
    unfold loadIdx cAt
    congr 1
    funext a
    match a with
    | 0 =>
      apply Fin.ext
      show (idx x).toNat = A x % 2048
      have : (idx x).toNat < 2048 := h 0 x
      rw [← hA x]; exact (Nat.mod_eq_of_lt this).symm
  have H := SparseCore.wp_vectorLoadIdx (defs := defs₀ (F := F)) 𝒱₀ (V d (cV L) (jV L)) none Set.univ (Q := Q) (s := S2048) (e := .i32) (base := (sC : Memref sig .scVector .vmem S2048 .i32))
    (S := Finset.univ) (q := fullShare) (f := C) (h := h) (hl := hl) (k := k) (Finset.subset_univ _)
  rw [e] at H
  exact H

theorem ldE {α : Type} {Q : α → sProp 𝕄} {C : IVec S2048 32} {idx : IVec S16 32} {h : ∀ (a : Fin 1) (x : S16.Idx), ((![idx] : Fin 1 → IVec S16 32) a x).toNat < S2048.size a}
    {hl : (sE : Memref sig .scVector .vmem S2048 .i32).view.Loads} {k : Vec F S16 .i32 → Prog (TpuEff nD τ sig (Elt F) Λ₀ (.scVector (cV L) (jV L))) α}
    (A : S16.Idx → ℕ) (hA : ∀ x, (idx x).toNat = A x) :
    ePts d L C ⊢ iprop((ePts d L C -∗ wp frame (wpE (defs₀ (F := F)) 𝒱₀ (V d (cV L) (jV L)) none) Set.univ (k fun x => cAt C (A x)) Q)
      -∗ wp frame (wpE (defs₀ (F := F)) 𝒱₀ (V d (cV L) (jV L)) none) Set.univ (SparseCore.vectorLoadIdx sE (![idx] : Fin 1 → IVec S16 32) h hl >>= k) Q) := by
  have e : loadIdx (F := F) (((sE : Memref sig .scVector .vmem S2048 .i32).access (.whole S2048)).read (Elt F) C) (![idx] : Fin 1 → IVec S16 32) h = fun x => cAt C (A x) := by
    funext x
    rw [show (((sE : Memref sig .scVector .vmem S2048 .i32).access (.whole S2048)).read (Elt F) C) = C from Memref.read_access_whole (Elt F) cc0_scratch2 C]
    unfold loadIdx cAt
    congr 1
    funext a
    match a with
    | 0 =>
      apply Fin.ext
      show (idx x).toNat = A x % 2048
      have : (idx x).toNat < 2048 := h 0 x
      rw [← hA x]; exact (Nat.mod_eq_of_lt this).symm
  have H := SparseCore.wp_vectorLoadIdx (defs := defs₀ (F := F)) 𝒱₀ (V d (cV L) (jV L)) none Set.univ (Q := Q) (s := S2048) (e := .i32) (base := (sE : Memref sig .scVector .vmem S2048 .i32))
    (S := Finset.univ) (q := fullShare) (f := C) (h := h) (hl := hl) (k := k) (Finset.subset_univ _)
  rw [e] at H
  exact H

theorem stQ {α : Type} {Q : α → sProp 𝕄} {T : Vec F S32768 .f32} {C : IVec S2048 32} {E : IVec S65536 32} {w g p : ℕ} {idx : IVec S16 32} {v : Vec F S16 .f32}
    {h : ∀ (a : Fin 1) (x : S16.Idx), ((![idx] : Fin 1 → IVec S16 32) a x).toNat < S65536.size a}
    {hs : ((sQ : Memref sig .scVector .vmem S65536 .f32).access (.whole S65536)).Stores Finset.univ}
    {k : PUnit → Prog (TpuEff nD τ sig (Elt F) Λ₀ (.scVector (cV L) (jV L))) α}
    (hp : p < 32) (hidx : ∀ x : S16.Idx, (idx x).toNat = (g * 16 + (x 0).val) * 32 + p) (hv : ∀ x : S16.Idx, v x = qrow T C E (ge w g x) p) :
    qHeld d L T C E w g p ⊢ iprop((qHeld d L T C E w g (p + 1) -∗ wp frame (wpE (defs₀ (F := F)) 𝒱₀ (V d (cV L) (jV L)) none) Set.univ (k ⟨⟩) Q)
      -∗ wp frame (wpE (defs₀ (F := F)) 𝒱₀ (V d (cV L) (jV L)) none) Set.univ
        (SparseCore.vectorStoreIdx sQ (![idx] : Fin 1 → IVec S16 32) v (fun _ => 1#1) false h hs >>= k) Q) := by
  unfold qHeld
  iintro ⟨%f, %hf, Hq⟩ Hk
  have hset : ((sQ : Memref sig .scVector .vmem S65536 .f32).access (.whole S65536)).set = Finset.univ := Memref.set_access_whole cc0_scratch3
  have H := SparseCore.wp_vectorStoreIdx (defs := defs₀ (F := F)) 𝒱₀ (V d (cV L) (jV L)) none Set.univ (Q := Q) (s := S65536) (e := .f32) (base := (sQ : Memref sig .scVector .vmem S65536 .f32))
    (idxs := (![idx] : Fin 1 → IVec S16 32)) (v := v) (mask := fun _ => 1#1) (add := false) (f := f) (h := h) (hs := hs) (k := k)
  rw [hset, show (((sQ : Memref sig .scVector .vmem S65536 .f32).access (.whole S65536)).read (Elt F) f) = f from Memref.read_access_whole (Elt F) cc0_scratch3 f,
    show (((sQ : Memref sig .scVector .vmem S65536 .f32).access (.whole S65536)).write (Elt F) f (storeIdx f (![idx] : Fin 1 → IVec S16 32) v (fun _ => 1#1) false h) Finset.univ)
      = storeIdx f (![idx] : Fin 1 → IVec S16 32) v (fun _ => 1#1) false h from Memref.write_access_whole_univ (Elt F) cc0_scratch3 f _] at H
  iapply H $$ Hq
  iintro Hq
  iapply Hk
  iexists (storeIdx f (![idx] : Fin 1 → IVec S16 32) v (fun _ => 1#1) false h)
  isplitr
  · ipureintro; exact qInv_step hp hf h hidx hv
  · iexact Hq

end Steps

/-! ## The parts -/

variable {T : Vec F S32768 .f32} {C : IVec S2048 32} {E : IVec S65536 32} {w g : ℕ} {d : Dev nD} {L : grid0.Coords}
variable (hw : w < 32) (hg : g < 128) (hE : ∀ n, (eAt E n).toNat < 512)
include hw hg hE

/-- Part 2 of a trip. -/
theorem part2 {v33 : IVec S16 32} {v35 : IVec S16 32} (h33 : ∀ x, (v33 x).toNat = cen (ge w g x) * 16) (h35 : ∀ x, (v35 x).toNat = nbr E (ge w g x) * 16) {α : Type} {arg2 h2 arg3 h3 arg4 h4 arg5 h5 h6 h7 h8 h9 r0 r1 r2 r3}
    {k : _ → Prog (TpuEff nD τ sig (Elt F) Λ₀ (.scVector (cV L) (jV L))) α} {Q : α → sProp 𝕄} :
    tPts d L T
      ⊢ iprop((tPts d L T -∗ wp frame (wpE (defs₀ (F := F)) 𝒱₀ (V d (cV L) (jV L)) none) Set.univ (k ⟨(ct T w g 4), (ct T w g 5), (ct T w g 6), (ct T w g 7), (ct T w g 8), (ct T w g 9), (ct T w g 10), (ct T w g 11), (ct T w g 12), (ct T w g 13), (ct T w g 14), (nb T E w g 0), 1#32⟩) Q)
        -∗ wp frame (wpE (defs₀ (F := F)) 𝒱₀ (V d (cV L) (jV L)) none) Set.univ
          (k0_part2 L arg2 h2 arg3 h3 arg4 h4 arg5 h5 sT h6 sC h7 sE h8 sQ h9 r0 r1 r2 r3 v33 v35 4#32 >>= k) Q) := by
  rw [k0_part2_eq_skeleton]; unfold k0_part2_skel
  simp only [bind_assoc, pure_bind]
  iintro HT Hk
  iapply (asm (chkT_c hw hg h33 (by decide : 4 < 16)))
  iapply (ldT (fun x => cen (ge w g x) * 16 + 4) (fun x => c_nat hw hg h33 (by decide : 4 < 16) x)) $$ HT; iintro HT
  iapply (asm (chkT_c hw hg h33 (by decide : 5 < 16)))
  iapply (ldT (fun x => cen (ge w g x) * 16 + 5) (fun x => c_nat hw hg h33 (by decide : 5 < 16) x)) $$ HT; iintro HT
  iapply (asm (chkT_c hw hg h33 (by decide : 6 < 16)))
  iapply (ldT (fun x => cen (ge w g x) * 16 + 6) (fun x => c_nat hw hg h33 (by decide : 6 < 16) x)) $$ HT; iintro HT
  iapply (asm (chkT_c hw hg h33 (by decide : 7 < 16)))
  iapply (ldT (fun x => cen (ge w g x) * 16 + 7) (fun x => c_nat hw hg h33 (by decide : 7 < 16) x)) $$ HT; iintro HT
  iapply (asm (chkT_c hw hg h33 (by decide : 8 < 16)))
  iapply (ldT (fun x => cen (ge w g x) * 16 + 8) (fun x => c_nat hw hg h33 (by decide : 8 < 16) x)) $$ HT; iintro HT
  iapply (asm (chkT_c hw hg h33 (by decide : 9 < 16)))
  iapply (ldT (fun x => cen (ge w g x) * 16 + 9) (fun x => c_nat hw hg h33 (by decide : 9 < 16) x)) $$ HT; iintro HT
  iapply (asm (chkT_c hw hg h33 (by decide : 10 < 16)))
  iapply (ldT (fun x => cen (ge w g x) * 16 + 10) (fun x => c_nat hw hg h33 (by decide : 10 < 16) x)) $$ HT; iintro HT
  iapply (asm (chkT_c hw hg h33 (by decide : 11 < 16)))
  iapply (ldT (fun x => cen (ge w g x) * 16 + 11) (fun x => c_nat hw hg h33 (by decide : 11 < 16) x)) $$ HT; iintro HT
  iapply (asm (chkT_c hw hg h33 (by decide : 12 < 16)))
  iapply (ldT (fun x => cen (ge w g x) * 16 + 12) (fun x => c_nat hw hg h33 (by decide : 12 < 16) x)) $$ HT; iintro HT
  iapply (asm (chkT_c hw hg h33 (by decide : 13 < 16)))
  iapply (ldT (fun x => cen (ge w g x) * 16 + 13) (fun x => c_nat hw hg h33 (by decide : 13 < 16) x)) $$ HT; iintro HT
  iapply (asm (chkT_c hw hg h33 (by decide : 14 < 16)))
  iapply (ldT (fun x => cen (ge w g x) * 16 + 14) (fun x => c_nat hw hg h33 (by decide : 14 < 16) x)) $$ HT; iintro HT
  iapply (asm (chkT_n hw hg hE h35 (by decide : 0 < 16)))
  iapply (ldT (fun x => nbr E (ge w g x) * 16 + 0) (fun x => n_nat hw hg hE h35 (by decide : 0 < 16) x)) $$ HT; iintro HT
  iapply Hk $$ HT

/-- Part 3 of a trip. -/
theorem part3 {v35 : IVec S16 32} (h35 : ∀ x, (v35 x).toNat = nbr E (ge w g x) * 16) {α : Type} {arg2 h2 arg3 h3 arg4 h4 arg5 h5 h6 h7 h8 h9 r0 r1 r2 r3}
    {k : _ → Prog (TpuEff nD τ sig (Elt F) Λ₀ (.scVector (cV L) (jV L))) α} {Q : α → sProp 𝕄} :
    tPts d L T
      ⊢ iprop((tPts d L T -∗ wp frame (wpE (defs₀ (F := F)) 𝒱₀ (V d (cV L) (jV L)) none) Set.univ (k ⟨(nb T E w g 1), (nb T E w g 2), (nb T E w g 3), (nb T E w g 4), (nb T E w g 5), (nb T E w g 6), (nb T E w g 7), (nb T E w g 8), (nb T E w g 9), (nb T E w g 10), (nb T E w g 11), (nb T E w g 12), 13#32⟩) Q)
        -∗ wp frame (wpE (defs₀ (F := F)) 𝒱₀ (V d (cV L) (jV L)) none) Set.univ
          (k0_part3 L arg2 h2 arg3 h3 arg4 h4 arg5 h5 sT h6 sC h7 sE h8 sQ h9 r0 r1 r2 r3 v35 1#32 >>= k) Q) := by
  rw [k0_part3_eq_skeleton]; unfold k0_part3_skel
  simp only [bind_assoc, pure_bind]
  iintro HT Hk
  iapply (asm (chkT_n hw hg hE h35 (by decide : 1 < 16)))
  iapply (ldT (fun x => nbr E (ge w g x) * 16 + 1) (fun x => n_nat hw hg hE h35 (by decide : 1 < 16) x)) $$ HT; iintro HT
  iapply (asm (chkT_n hw hg hE h35 (by decide : 2 < 16)))
  iapply (ldT (fun x => nbr E (ge w g x) * 16 + 2) (fun x => n_nat hw hg hE h35 (by decide : 2 < 16) x)) $$ HT; iintro HT
  iapply (asm (chkT_n hw hg hE h35 (by decide : 3 < 16)))
  iapply (ldT (fun x => nbr E (ge w g x) * 16 + 3) (fun x => n_nat hw hg hE h35 (by decide : 3 < 16) x)) $$ HT; iintro HT
  iapply (asm (chkT_n hw hg hE h35 (by decide : 4 < 16)))
  iapply (ldT (fun x => nbr E (ge w g x) * 16 + 4) (fun x => n_nat hw hg hE h35 (by decide : 4 < 16) x)) $$ HT; iintro HT
  iapply (asm (chkT_n hw hg hE h35 (by decide : 5 < 16)))
  iapply (ldT (fun x => nbr E (ge w g x) * 16 + 5) (fun x => n_nat hw hg hE h35 (by decide : 5 < 16) x)) $$ HT; iintro HT
  iapply (asm (chkT_n hw hg hE h35 (by decide : 6 < 16)))
  iapply (ldT (fun x => nbr E (ge w g x) * 16 + 6) (fun x => n_nat hw hg hE h35 (by decide : 6 < 16) x)) $$ HT; iintro HT
  iapply (asm (chkT_n hw hg hE h35 (by decide : 7 < 16)))
  iapply (ldT (fun x => nbr E (ge w g x) * 16 + 7) (fun x => n_nat hw hg hE h35 (by decide : 7 < 16) x)) $$ HT; iintro HT
  iapply (asm (chkT_n hw hg hE h35 (by decide : 8 < 16)))
  iapply (ldT (fun x => nbr E (ge w g x) * 16 + 8) (fun x => n_nat hw hg hE h35 (by decide : 8 < 16) x)) $$ HT; iintro HT
  iapply (asm (chkT_n hw hg hE h35 (by decide : 9 < 16)))
  iapply (ldT (fun x => nbr E (ge w g x) * 16 + 9) (fun x => n_nat hw hg hE h35 (by decide : 9 < 16) x)) $$ HT; iintro HT
  iapply (asm (chkT_n hw hg hE h35 (by decide : 10 < 16)))
  iapply (ldT (fun x => nbr E (ge w g x) * 16 + 10) (fun x => n_nat hw hg hE h35 (by decide : 10 < 16) x)) $$ HT; iintro HT
  iapply (asm (chkT_n hw hg hE h35 (by decide : 11 < 16)))
  iapply (ldT (fun x => nbr E (ge w g x) * 16 + 11) (fun x => n_nat hw hg hE h35 (by decide : 11 < 16) x)) $$ HT; iintro HT
  iapply (asm (chkT_n hw hg hE h35 (by decide : 12 < 16)))
  iapply (ldT (fun x => nbr E (ge w g x) * 16 + 12) (fun x => n_nat hw hg hE h35 (by decide : 12 < 16) x)) $$ HT; iintro HT
  iapply Hk $$ HT

/-- Part 4 of a trip. -/
theorem part4 {v11 : IVec S16 32} {v35 : IVec S16 32} (h35 : ∀ x, (v35 x).toNat = nbr E (ge w g x) * 16) (h11 : ∀ x : S16.Idx, (v11 x).toNat = g * 16 + (x 0).val) {α : Type} {arg2 h2 arg3 h3 arg4 h4 arg5 h5 h6 h7 h8 h9 r0 r1 r2 r3}
    {k : _ → Prog (TpuEff nD τ sig (Elt F) Λ₀ (.scVector (cV L) (jV L))) α} {Q : α → sProp 𝕄} :
    iprop(tPts d L T ∗ qHeld d L T C E w g 0)
      ⊢ iprop((tPts d L T -∗ qHeld d L T C E w g 3 -∗ wp frame (wpE (defs₀ (F := F)) 𝒱₀ (V d (cV L) (jV L)) none) Set.univ (k ⟨(nb T E w g 13), (nb T E w g 14), k0_pay40 v11, k0_pay47 (ct T w g 9) (ct T w g 10) (ct T w g 11) (nb T E w g 9) (nb T E w g 10) (nb T E w g 11), 3#32⟩) Q)
        -∗ wp frame (wpE (defs₀ (F := F)) 𝒱₀ (V d (cV L) (jV L)) none) Set.univ
          (k0_part4 L arg2 h2 arg3 h3 arg4 h4 arg5 h5 sT h6 sC h7 sE h8 sQ h9 r0 r1 r2 r3 v11 v35 (ct T w g 0) (ct T w g 1) (ct T w g 2) (ct T w g 3) (ct T w g 4) (ct T w g 5) (ct T w g 6) (ct T w g 7) (ct T w g 8) (ct T w g 9) (ct T w g 10) (ct T w g 11) (nb T E w g 0) (nb T E w g 1) (nb T E w g 2) (nb T E w g 3) (nb T E w g 4) (nb T E w g 5) (nb T E w g 6) (nb T E w g 7) (nb T E w g 8) (nb T E w g 9) (nb T E w g 10) (nb T E w g 11) 13#32 >>= k) Q) := by
  rw [k0_part4_eq_skeleton]; unfold k0_part4_skel
  simp only [bind_assoc, pure_bind]
  have h127 : ∀ x : S16.Idx, (k0_pay40 v11 x).toNat = (g * 16 + (x 0).val) * 32 := fun x => pay40_nat hg (h11 x)
  iintro ⟨HT, HQ⟩ Hk
  iapply (asm (chkT_n hw hg hE h35 (by decide : 13 < 16)))
  iapply (ldT (fun x => nbr E (ge w g x) * 16 + 13) (fun x => n_nat hw hg hE h35 (by decide : 13 < 16) x)) $$ HT; iintro HT
  iapply (asm (chkT_n hw hg hE h35 (by decide : 14 < 16)))
  iapply (ldT (fun x => nbr E (ge w g x) * 16 + 14) (fun x => n_nat hw hg hE h35 (by decide : 14 < 16) x)) $$ HT; iintro HT
  iapply (asm (chk34 h127 hg (by decide : 0 < 32)))
  iapply (stQ (by decide : 0 < 32) (fun x => q_nat h127 hg (by decide : 0 < 32) x) (fun x => rfl)) $$ HQ; iintro HQ
  iapply (asm (chk34 h127 hg (by decide : 1 < 32)))
  iapply (stQ (by decide : 1 < 32) (fun x => q_nat h127 hg (by decide : 1 < 32) x) (fun x => rfl)) $$ HQ; iintro HQ
  iapply (asm (chk34 h127 hg (by decide : 2 < 32)))
  iapply (stQ (by decide : 2 < 32) (fun x => q_nat h127 hg (by decide : 2 < 32) x) (fun x => rfl)) $$ HQ; iintro HQ
  iapply Hk $$ HT HQ

/-- Part 5 of a trip. -/
theorem part5 {v127 : IVec S16 32} (h127 : ∀ x : S16.Idx, (v127 x).toNat = (g * 16 + (x 0).val) * 32) {α : Type} {arg2 h2 arg3 h3 arg4 h4 arg5 h5 h6 h7 h8 h9 r0 r1 r2 r3}
    {k : _ → Prog (TpuEff nD τ sig (Elt F) Λ₀ (.scVector (cV L) (jV L))) α} {Q : α → sProp 𝕄} :
    qHeld d L T C E w g 3
      ⊢ iprop((qHeld d L T C E w g 8 -∗ wp frame (wpE (defs₀ (F := F)) 𝒱₀ (V d (cV L) (jV L)) none) Set.univ (k ⟨k0_pay57 (ct T w g 3) (nb T E w g 12), k0_pay58 (ct T w g 4) (nb T E w g 13)⟩) Q)
        -∗ wp frame (wpE (defs₀ (F := F)) 𝒱₀ (V d (cV L) (jV L)) none) Set.univ
          (k0_part5 L arg2 h2 arg3 h3 arg4 h4 arg5 h5 sT h6 sC h7 sE h8 sQ h9 r0 r1 r2 r3 (ct T w g 3) (ct T w g 4) (ct T w g 5) (ct T w g 12) (ct T w g 13) (ct T w g 14) (nb T E w g 0) (nb T E w g 1) (nb T E w g 2) (nb T E w g 6) (nb T E w g 7) (nb T E w g 8) (nb T E w g 9) (nb T E w g 10) (nb T E w g 11) (nb T E w g 12) (nb T E w g 13) (nb T E w g 14) v127 (k0_pay47 (ct T w g 9) (ct T w g 10) (ct T w g 11) (nb T E w g 9) (nb T E w g 10) (nb T E w g 11)) 3#32 >>= k) Q) := by
  rw [k0_part5_eq_skeleton]; unfold k0_part5_skel
  simp only [bind_assoc, pure_bind]
  iintro HQ Hk
  iapply (asm (chk34 h127 hg (by decide : 3 < 32)))
  iapply (stQ (by decide : 3 < 32) (fun x => q_nat h127 hg (by decide : 3 < 32) x) (fun x => rfl)) $$ HQ; iintro HQ
  iapply (asm (chk34 h127 hg (by decide : 4 < 32)))
  iapply (stQ (by decide : 4 < 32) (fun x => q_nat h127 hg (by decide : 4 < 32) x) (fun x => rfl)) $$ HQ; iintro HQ
  iapply (asm (chk34 h127 hg (by decide : 5 < 32)))
  iapply (stQ (by decide : 5 < 32) (fun x => q_nat h127 hg (by decide : 5 < 32) x) (fun x => rfl)) $$ HQ; iintro HQ
  iapply (asm (chk34 h127 hg (by decide : 6 < 32)))
  iapply (stQ (by decide : 6 < 32) (fun x => q_nat h127 hg (by decide : 6 < 32) x) (fun x => rfl)) $$ HQ; iintro HQ
  iapply (asm (chk34 h127 hg (by decide : 7 < 32)))
  iapply (stQ (by decide : 7 < 32) (fun x => q_nat h127 hg (by decide : 7 < 32) x) (fun x => rfl)) $$ HQ; iintro HQ
  iapply Hk $$ HQ

/-- Part 6 of a trip. -/
theorem part6 {v127 : IVec S16 32} (h127 : ∀ x : S16.Idx, (v127 x).toNat = (g * 16 + (x 0).val) * 32) {α : Type} {arg2 h2 arg3 h3 arg4 h4 arg5 h5 h6 h7 h8 h9 r0 r1 r2 r3}
    {k : _ → Prog (TpuEff nD τ sig (Elt F) Λ₀ (.scVector (cV L) (jV L))) α} {Q : α → sProp 𝕄} :
    qHeld d L T C E w g 8
      ⊢ iprop((qHeld d L T C E w g 12 -∗ wp frame (wpE (defs₀ (F := F)) 𝒱₀ (V d (cV L) (jV L)) none) Set.univ (k ⟨k0_pay67 (ct T w g 12) (ct T w g 13) (ct T w g 14) (nb T E w g 6) (nb T E w g 7) (nb T E w g 8), (k0_pay68 v127), (chk34 h127 hg (by decide : 12 < 32))⟩) Q)
        -∗ wp frame (wpE (defs₀ (F := F)) 𝒱₀ (V d (cV L) (jV L)) none) Set.univ
          (k0_part6 L arg2 h2 arg3 h3 arg4 h4 arg5 h5 sT h6 sC h7 sE h8 sQ h9 r0 r1 r2 r3 (ct T w g 0) (ct T w g 1) (ct T w g 2) (ct T w g 5) (ct T w g 12) (ct T w g 13) (ct T w g 14) (nb T E w g 6) (nb T E w g 7) (nb T E w g 8) (nb T E w g 9) (nb T E w g 10) (nb T E w g 11) (nb T E w g 12) (nb T E w g 13) (nb T E w g 14) v127 (k0_pay57 (ct T w g 3) (nb T E w g 12)) (k0_pay58 (ct T w g 4) (nb T E w g 13)) >>= k) Q) := by
  rw [k0_part6_eq_skeleton]; unfold k0_part6_skel
  simp only [bind_assoc, pure_bind]
  iintro HQ Hk
  iapply (asm (chk34 h127 hg (by decide : 8 < 32)))
  iapply (stQ (by decide : 8 < 32) (fun x => q_nat h127 hg (by decide : 8 < 32) x) (fun x => rfl)) $$ HQ; iintro HQ
  iapply (asm (chk34 h127 hg (by decide : 9 < 32)))
  iapply (stQ (by decide : 9 < 32) (fun x => q_nat h127 hg (by decide : 9 < 32) x) (fun x => rfl)) $$ HQ; iintro HQ
  iapply (asm (chk34 h127 hg (by decide : 10 < 32)))
  iapply (stQ (by decide : 10 < 32) (fun x => q_nat h127 hg (by decide : 10 < 32) x) (fun x => rfl)) $$ HQ; iintro HQ
  iapply (asm (chk34 h127 hg (by decide : 11 < 32)))
  iapply (stQ (by decide : 11 < 32) (fun x => q_nat h127 hg (by decide : 11 < 32) x) (fun x => rfl)) $$ HQ; iintro HQ
  iapply (asm (chk34 h127 hg (by decide : 12 < 32)))
  iapply Hk $$ HQ

/-- Part 7 of a trip. -/
theorem part7 {v127 : IVec S16 32} (h127 : ∀ x : S16.Idx, (v127 x).toNat = (g * 16 + (x 0).val) * 32) {α : Type} {arg2 h2 arg3 h3 arg4 h4 arg5 h5 h6 h7 h8 h9 r0 r1 r2 r3}
    {k : _ → Prog (TpuEff nD τ sig (Elt F) Λ₀ (.scVector (cV L) (jV L))) α} {Q : α → sProp 𝕄} :
    qHeld d L T C E w g 12
      ⊢ iprop((qHeld d L T C E w g 17 -∗ wp frame (wpE (defs₀ (F := F)) 𝒱₀ (V d (cV L) (jV L)) none) Set.univ (k ⟨k0_pay77 (ct T w g 9) (ct T w g 10) (nb T E w g 3) (nb T E w g 4), k0_pay78 (ct T w g 11) (nb T E w g 5)⟩) Q)
        -∗ wp frame (wpE (defs₀ (F := F)) 𝒱₀ (V d (cV L) (jV L)) none) Set.univ
          (k0_part7 L arg2 h2 arg3 h3 arg4 h4 arg5 h5 sT h6 sC h7 sE h8 sQ h9 r0 r1 r2 r3 (ct T w g 0) (ct T w g 1) (ct T w g 2) (ct T w g 6) (ct T w g 7) (ct T w g 8) (ct T w g 9) (ct T w g 10) (ct T w g 11) (ct T w g 12) (ct T w g 13) (ct T w g 14) (nb T E w g 3) (nb T E w g 4) (nb T E w g 5) (nb T E w g 6) (nb T E w g 7) (nb T E w g 8) (nb T E w g 9) (nb T E w g 10) (nb T E w g 11) v127 (k0_pay67 (ct T w g 12) (ct T w g 13) (ct T w g 14) (nb T E w g 6) (nb T E w g 7) (nb T E w g 8)) (k0_pay68 v127) (chk34 h127 hg (by decide : 12 < 32)) >>= k) Q) := by
  rw [k0_part7_eq_skeleton]; unfold k0_part7_skel
  simp only [bind_assoc, pure_bind]
  iintro HQ Hk
  iapply (stQ (by decide : 12 < 32) (fun x => q_nat h127 hg (by decide : 12 < 32) x) (fun x => rfl)) $$ HQ; iintro HQ
  iapply (asm (chk34 h127 hg (by decide : 13 < 32)))
  iapply (stQ (by decide : 13 < 32) (fun x => q_nat h127 hg (by decide : 13 < 32) x) (fun x => rfl)) $$ HQ; iintro HQ
  iapply (asm (chk34 h127 hg (by decide : 14 < 32)))
  iapply (stQ (by decide : 14 < 32) (fun x => q_nat h127 hg (by decide : 14 < 32) x) (fun x => rfl)) $$ HQ; iintro HQ
  iapply (asm (chk34 h127 hg (by decide : 15 < 32)))
  iapply (stQ (by decide : 15 < 32) (fun x => q_nat h127 hg (by decide : 15 < 32) x) (fun x => rfl)) $$ HQ; iintro HQ
  iapply (asm (chk34 h127 hg (by decide : 16 < 32)))
  iapply (stQ (by decide : 16 < 32) (fun x => q_nat h127 hg (by decide : 16 < 32) x) (fun x => rfl)) $$ HQ; iintro HQ
  iapply Hk $$ HQ

/-- Part 8 of a trip. -/
theorem part8 {v127 : IVec S16 32} (h127 : ∀ x : S16.Idx, (v127 x).toNat = (g * 16 + (x 0).val) * 32) {α : Type} {arg2 h2 arg3 h3 arg4 h4 arg5 h5 h6 h7 h8 h9 r0 r1 r2 r3}
    {k : _ → Prog (TpuEff nD τ sig (Elt F) Λ₀ (.scVector (cV L) (jV L))) α} {Q : α → sProp 𝕄} :
    qHeld d L T C E w g 17
      ⊢ iprop((qHeld d L T C E w g 22 -∗ wp frame (wpE (defs₀ (F := F)) 𝒱₀ (V d (cV L) (jV L)) none) Set.univ (k (k0_pay89 (ct T w g 6) (nb T E w g 12))) Q)
        -∗ wp frame (wpE (defs₀ (F := F)) 𝒱₀ (V d (cV L) (jV L)) none) Set.univ
          (k0_part8 L arg2 h2 arg3 h3 arg4 h4 arg5 h5 sT h6 sC h7 sE h8 sQ h9 r0 r1 r2 r3 (ct T w g 6) (ct T w g 7) (ct T w g 8) (ct T w g 9) (ct T w g 10) (ct T w g 11) (ct T w g 12) (ct T w g 13) (ct T w g 14) (nb T E w g 0) (nb T E w g 1) (nb T E w g 2) (nb T E w g 3) (nb T E w g 4) (nb T E w g 5) (nb T E w g 12) v127 (k0_pay77 (ct T w g 9) (ct T w g 10) (nb T E w g 3) (nb T E w g 4)) (k0_pay78 (ct T w g 11) (nb T E w g 5)) >>= k) Q) := by
  rw [k0_part8_eq_skeleton]; unfold k0_part8_skel
  simp only [bind_assoc, pure_bind]
  iintro HQ Hk
  iapply (asm (chk34 h127 hg (by decide : 17 < 32)))
  iapply (stQ (by decide : 17 < 32) (fun x => q_nat h127 hg (by decide : 17 < 32) x) (fun x => rfl)) $$ HQ; iintro HQ
  iapply (asm (chk34 h127 hg (by decide : 18 < 32)))
  iapply (stQ (by decide : 18 < 32) (fun x => q_nat h127 hg (by decide : 18 < 32) x) (fun x => rfl)) $$ HQ; iintro HQ
  iapply (asm (chk34 h127 hg (by decide : 19 < 32)))
  iapply (stQ (by decide : 19 < 32) (fun x => q_nat h127 hg (by decide : 19 < 32) x) (fun x => rfl)) $$ HQ; iintro HQ
  iapply (asm (chk34 h127 hg (by decide : 20 < 32)))
  iapply (stQ (by decide : 20 < 32) (fun x => q_nat h127 hg (by decide : 20 < 32) x) (fun x => rfl)) $$ HQ; iintro HQ
  iapply (asm (chk34 h127 hg (by decide : 21 < 32)))
  iapply (stQ (by decide : 21 < 32) (fun x => q_nat h127 hg (by decide : 21 < 32) x) (fun x => rfl)) $$ HQ; iintro HQ
  iapply Hk $$ HQ

/-- Part 9 of a trip. -/
theorem part9 {v127 : IVec S16 32} (h127 : ∀ x : S16.Idx, (v127 x).toNat = (g * 16 + (x 0).val) * 32) {α : Type} {arg2 h2 arg3 h3 arg4 h4 arg5 h5 h6 h7 h8 h9 r0 r1 r2 r3}
    {k : _ → Prog (TpuEff nD τ sig (Elt F) Λ₀ (.scVector (cV L) (jV L))) α} {Q : α → sProp 𝕄} :
    qHeld d L T C E w g 22
      ⊢ iprop((qHeld d L T C E w g 29 -∗ wp frame (wpE (defs₀ (F := F)) 𝒱₀ (V d (cV L) (jV L)) none) Set.univ (k (k0_pay100 v127)) Q)
        -∗ wp frame (wpE (defs₀ (F := F)) 𝒱₀ (V d (cV L) (jV L)) none) Set.univ
          (k0_part9 L arg2 h2 arg3 h3 arg4 h4 arg5 h5 sT h6 sC h7 sE h8 sQ h9 r0 r1 r2 r3 (k0_pay1 (F := F)) (fun x => FloatOps.sitofp .f32 (offs C E (ge w g x))) (ct T w g 6) (ct T w g 7) (ct T w g 8) (ct T w g 9) (ct T w g 10) (ct T w g 11) (nb T E w g 9) (nb T E w g 10) (nb T E w g 11) (nb T E w g 12) (nb T E w g 13) (nb T E w g 14) v127 (k0_pay89 (ct T w g 6) (nb T E w g 12)) >>= k) Q) := by
  rw [k0_part9_eq_skeleton]; unfold k0_part9_skel
  simp only [bind_assoc, pure_bind]
  iintro HQ Hk
  iapply (asm (chk34 h127 hg (by decide : 22 < 32)))
  iapply (stQ (by decide : 22 < 32) (fun x => q_nat h127 hg (by decide : 22 < 32) x) (fun x => rfl)) $$ HQ; iintro HQ
  iapply (asm (chk34 h127 hg (by decide : 23 < 32)))
  iapply (stQ (by decide : 23 < 32) (fun x => q_nat h127 hg (by decide : 23 < 32) x) (fun x => rfl)) $$ HQ; iintro HQ
  iapply (asm (chk34 h127 hg (by decide : 24 < 32)))
  iapply (stQ (by decide : 24 < 32) (fun x => q_nat h127 hg (by decide : 24 < 32) x) (fun x => rfl)) $$ HQ; iintro HQ
  iapply (asm (chk34 h127 hg (by decide : 25 < 32)))
  iapply (stQ (by decide : 25 < 32) (fun x => q_nat h127 hg (by decide : 25 < 32) x) (fun x => rfl)) $$ HQ; iintro HQ
  iapply (asm (chk34 h127 hg (by decide : 26 < 32)))
  iapply (stQ (by decide : 26 < 32) (fun x => q_nat h127 hg (by decide : 26 < 32) x) (fun x => rfl)) $$ HQ; iintro HQ
  iapply (asm (chk34 h127 hg (by decide : 27 < 32)))
  iapply (stQ (by decide : 27 < 32) (fun x => q_nat h127 hg (by decide : 27 < 32) x) (fun x => rfl)) $$ HQ; iintro HQ
  iapply (asm (chk34 h127 hg (by decide : 28 < 32)))
  iapply (stQ (by decide : 28 < 32) (fun x => q_nat h127 hg (by decide : 28 < 32) x) (fun x => rfl)) $$ HQ; iintro HQ
  iapply Hk $$ HQ

end Cert.Proof

end
-- ==== Proof.Trip.lean ====
/-
  A whole trip of the SparseCore call's loop: the first part, which makes the lanes' indices, and the nine parts in order.
-/
module

public import proofs.«01_k».proof.Proof.Parts
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "sT" => (Memref.whole Cert.KernelIdeal.cc0_scratch0 : Memref Cert.KernelIdeal.sig Kind.scVector Space.vmem Cert.KernelIdeal.S32768 EltTy.f32)
local notation "sC" => (Memref.whole Cert.KernelIdeal.cc0_scratch1 : Memref Cert.KernelIdeal.sig Kind.scVector Space.vmem Cert.KernelIdeal.S2048 EltTy.i32)
local notation "sE" => (Memref.whole Cert.KernelIdeal.cc0_scratch2 : Memref Cert.KernelIdeal.sig Kind.scVector Space.vmem Cert.KernelIdeal.S2048 EltTy.i32)
local notation "sQ" => (Memref.whole Cert.KernelIdeal.cc0_scratch3 : Memref Cert.KernelIdeal.sig Kind.scVector Space.vmem Cert.KernelIdeal.S65536 EltTy.f32)

variable [FloatOps F]
variable {T : Vec F S32768 .f32} {C : IVec S2048 32} {E : IVec S65536 32} {Et : IVec S2048 32} {w : ℕ} {d : Dev nD} {L : grid0.Coords}

theorem iv_nat (t : Fin k0_t1_loop.trips) (ht : t.val < 128) : (Scalar.muli (Scf.iv 0#32 1#32 t) 16#32).toNat = t.val * 16 := by
  have h0 : (Scf.iv 0#32 1#32 t : BitVec 32).toNat = t.val := by
    unfold Scf.iv
    simp only [BitVec.toNat_add, BitVec.toNat_mul, BitVec.toNat_ofNat]; omega
  exact muli_nat 16 h0 (by decide) (by omega)

theorem add_nat {a b : BitVec 32} {m n : ℕ} (ha : a.toNat = m) (hb : b.toNat = n) (h : m + n < 2 ^ 32) : (IntOp.addi a b).toNat = m + n := by
  show (a + b).toNat = _
  rw [BitVec.toNat_add, ha, hb]; omega

theorem v11_nat (t : Fin k0_t1_loop.trips) (ht : t.val < 128) {v5 : IVec S16 32} (h5 : ∀ x : S16.Idx, (v5 x).toNat = (x 0).val) (x : S16.Idx) :
    (k0_pay4 v5 0#32 1#32 t x).toNat = t.val * 16 + (x 0).val :=
  add_nat (iv_nat t ht) (h5 x) (by have := lane_lt x; omega)

theorem v16_nat {g : ℕ} (hw : w < 32) (hg : g < 128) {v2 : BitVec 32} (h2 : v2.toNat = w * 2048) {v11 : IVec S16 32}
    (h11 : ∀ x : S16.Idx, (v11 x).toNat = g * 16 + (x 0).val) (x : S16.Idx) : (k0_pay5 v2 v11 x).toNat = cen (ge w g x) :=
  shr5_nat (n := ge w g x) (add_nat h2 (h11 x) (by have := lane_lt x; omega)) (by have := ge_lt hw hg x; omega)

theorem v18_nat {g : ℕ} (hw : w < 32) (hg : g < 128) (hE : ∀ n, (eAt E n).toNat < 512) (hEt : ∀ n < 2048, cAt Et n = eAt E (w * 2048 + n))
    {v4 : BitVec 32} (h4 : v4.toNat = w / 8 * 512) (x : S16.Idx) :
    (k0_pay6 (F := F) v4 (fun x => cAt Et (g * 16 + (x 0).val)) x).toNat = nbr E (ge w g x) := by
  have hx := lane_lt x
  have he : (cAt Et (g * 16 + (x 0).val)).toNat = (eAt E (ge w g x)).toNat := by rw [hEt _ (by omega)]; rfl
  have hb := hE (ge w g x)
  refine (add_nat he h4 (by omega)).trans ?_
  unfold nbr ge
  omega

/-- The residue code a lane makes is its edge's. -/
theorem v31_eq {g : ℕ} {v16 v18 : IVec S16 32} (h16 : ∀ x, (v16 x).toNat = cen (ge w g x)) (h18 : ∀ x, (v18 x).toNat = nbr E (ge w g x)) :
    k0_pay7 (F := F) v16 v18 (fun x => cAt C (cen (ge w g x))) (fun x => cAt C (nbr E (ge w g x))) = fun x => FloatOps.sitofp .f32 (offs C E (ge w g x)) := by
  have e16 : ∀ x, v16 x = BitVec.ofNat 32 (cen (ge w g x)) := fun x => by rw [← h16 x, BitVec.ofNat_toNat, BitVec.setWidth_eq]
  have e18 : ∀ x, v18 x = BitVec.ofNat 32 (nbr E (ge w g x)) := fun x => by rw [← h18 x, BitVec.ofNat_toNat, BitVec.setWidth_eq]
  funext x
  unfold offs
  rw [← e16 x, ← e18 x]
  rfl

/-- The first part of a trip. -/
theorem part1 (hw : w < 32) (hE : ∀ n, (eAt E n).toNat < 512) (hEt : ∀ n < 2048, cAt Et n = eAt E (w * 2048 + n))
    {t : Fin k0_t1_loop.trips} (ht : t.val < 128) {v2 v4 : BitVec 32} {v5 : IVec S16 32}
    (h2 : v2.toNat = w * 2048) (h4 : v4.toNat = w / 8 * 512) (h5 : ∀ x : S16.Idx, (v5 x).toNat = (x 0).val)
    {α : Type} {arg2 h2' arg3 h3' arg4 h4' arg5 h5' h6 h7 h8 h9 r0 r1 r2 r3}
    {k : _ → Prog (TpuEff nD τ sig (Elt F) Λ₀ (.scVector (cV L) (jV L))) α} {Q : α → sProp 𝕄} :
    iprop(tPts d L T ∗ cPts d L C ∗ ePts d L Et)
      ⊢ iprop((tPts d L T -∗ cPts d L C -∗ ePts d L Et -∗ wp frame (wpE (defs₀ (F := F)) 𝒱₀ (V d (cV L) (jV L)) none) Set.univ
          (k ⟨k0_pay4 v5 0#32 1#32 t, fun x => FloatOps.sitofp .f32 (offs C E (ge w t.val x)),
            k0_pay8 (k0_pay5 v2 (k0_pay4 v5 0#32 1#32 t)), k0_pay9 (k0_pay6 (F := F) v4 (fun x => cAt Et (t.val * 16 + (x 0).val))),
            ct T w t.val 0, ct T w t.val 1, ct T w t.val 2, ct T w t.val 3, 4#32⟩) Q)
        -∗ wp frame (wpE (defs₀ (F := F)) 𝒱₀ (V d (cV L) (jV L)) none) Set.univ
          (k0_part1 L arg2 h2' arg3 h3' arg4 h4' arg5 h5' sT h6 sC h7 sE h8 sQ h9 r0 r1 r2 r3 v2 v4 v5 0#32 1#32 t >>= k) Q) := by
  have e11 := v11_nat t ht h5
  have e16 := v16_nat (w := w) (g := t.val) hw ht h2 e11
  have e18 := v18_nat (F := F) (g := t.val) hw ht hE hEt h4
  have e31 := v31_eq (F := F) (C := C) (E := E) (w := w) (g := t.val) e16 e18
  have e33 : ∀ x, (k0_pay8 (k0_pay5 v2 (k0_pay4 v5 0#32 1#32 t)) x).toNat = cen (ge w t.val x) * 16 :=
    fun x => muli_nat 16 (e16 x) (by decide) (by have := cen_lt hw ht x; omega)
  rw [k0_part1_eq_skeleton]; unfold k0_part1_skel
  simp only [bind_assoc, pure_bind]
  iintro ⟨HT, HC, HE⟩ Hk
  iapply (asm (chk_of (n := 2048) fun x => by rw [e11 x]; have := lane_lt x; omega))
  iapply (ldE (fun x => t.val * 16 + (x 0).val) e11) $$ HE; iintro HE
  iapply (asm (chk_of (n := 2048) fun x => by rw [e16 x]; exact cen_lt hw ht x))
  iapply (asm (chk_of (n := 2048) fun x => by rw [e18 x]; exact nbr_lt hw ht hE x))
  iapply (ldI (fun x => cen (ge w t.val x)) e16) $$ HC; iintro HC
  iapply (ldI (fun x => nbr E (ge w t.val x)) e18) $$ HC; iintro HC
  iapply (asm (chkT_c hw ht e33 (by decide : 0 < 16)))
  iapply (ldT (fun x => cen (ge w t.val x) * 16 + 0) (fun x => c_nat hw ht e33 (by decide : 0 < 16) x)) $$ HT; iintro HT
  iapply (asm (chkT_c hw ht e33 (by decide : 1 < 16)))
  iapply (ldT (fun x => cen (ge w t.val x) * 16 + 1) (fun x => c_nat hw ht e33 (by decide : 1 < 16) x)) $$ HT; iintro HT
  iapply (asm (chkT_c hw ht e33 (by decide : 2 < 16)))
  iapply (ldT (fun x => cen (ge w t.val x) * 16 + 2) (fun x => c_nat hw ht e33 (by decide : 2 < 16) x)) $$ HT; iintro HT
  iapply (asm (chkT_c hw ht e33 (by decide : 3 < 16)))
  iapply (ldT (fun x => cen (ge w t.val x) * 16 + 3) (fun x => c_nat hw ht e33 (by decide : 3 < 16) x)) $$ HT; iintro HT
  rw [e31]
  iapply Hk $$ HT HC HE

/-- A trip of the loop: sixteen more edges' rows are right. -/
theorem trip (hw : w < 32) (hE : ∀ n, (eAt E n).toNat < 512) (hEt : ∀ n < 2048, cAt Et n = eAt E (w * 2048 + n))
    {t : Fin k0_t1_loop.trips} (ht : t.val < 128) {v2 v4 : BitVec 32} {v5 : IVec S16 32}
    (h2 : v2.toNat = w * 2048) (h4 : v4.toNat = w / 8 * 512) (h5 : ∀ x : S16.Idx, (v5 x).toNat = (x 0).val)
    {arg2 h2' arg3 h3' arg4 h4' arg5 h5' h6 h7 h8 h9 r0 r1 r2 r3} {u : Unit} :
    iprop(tPts d L T ∗ cPts d L C ∗ ePts d L Et ∗ qHeld d L T C E w t.val 0)
      ⊢ wp frame (wpE (defs₀ (F := F)) 𝒱₀ (V d (cV L) (jV L)) none) Set.univ
          (k0_t1_body L arg2 h2' arg3 h3' arg4 h4' arg5 h5' sT h6 sC h7 sE h8 sQ h9 r0 r1 r2 r3 v2 v4 v5 t u)
          fun _ => iprop(tPts d L T ∗ cPts d L C ∗ ePts d L Et ∗ qHeld d L T C E w (t.val + 1) 0) := by
  have e11 := v11_nat t ht h5
  have e16 := v16_nat (w := w) (g := t.val) hw ht h2 e11
  have e18 := v18_nat (F := F) (g := t.val) hw ht hE hEt h4
  have e33 : ∀ x, (k0_pay8 (k0_pay5 v2 (k0_pay4 v5 0#32 1#32 t)) x).toNat = cen (ge w t.val x) * 16 :=
    fun x => muli_nat 16 (e16 x) (by decide) (by have := cen_lt hw ht x; omega)
  have e35 : ∀ x, (k0_pay9 (k0_pay6 (F := F) v4 (fun x => cAt Et (t.val * 16 + (x 0).val))) x).toNat = nbr E (ge w t.val x) * 16 :=
    fun x => muli_nat 16 (e18 x) (by decide) (by have := nbr_lt hw ht hE x; omega)
  have e127 : ∀ x : S16.Idx, (k0_pay40 (k0_pay4 v5 0#32 1#32 t) x).toNat = (t.val * 16 + (x 0).val) * 32 := fun x => pay40_nat ht (e11 x)
  unfold k0_t1_body
  iintro ⟨HT, HC, HE, HQ⟩
  iapply (part1 hw hE hEt ht h2 h4 h5) $$ [HT HC HE]
  · isplitl [HT]; · iexact HT
    isplitl [HC]; · iexact HC
    iexact HE
  iintro HT HC HE
  iapply (part2 hw ht hE e33 e35) $$ HT; iintro HT
  iapply (part3 hw ht hE e35) $$ HT; iintro HT
  iapply (part4 hw ht hE e35 e11) $$ [HT HQ]
  · isplitl [HT]; · iexact HT
    iexact HQ
  iintro HT HQ
  iapply (part5 hw ht hE e127) $$ HQ; iintro HQ
  iapply (part6 hw ht hE e127) $$ HQ; iintro HQ
  iapply (part7 hw ht hE e127) $$ HQ; iintro HQ
  iapply (part8 hw ht hE e127) $$ HQ; iintro HQ
  iapply (part9 hw ht hE e127) $$ HQ; iintro HQ
  iapply (asm (chk34 e127 ht (by decide : 29 < 32)))
  iapply (stQ (by decide : 29 < 32) (fun x => q_nat e127 ht (by decide : 29 < 32) x) (fun x => rfl)) $$ HQ; iintro HQ
  iapply (asm (chk34 e127 ht (by decide : 30 < 32)))
  iapply (stQ (by decide : 30 < 32) (fun x => q_nat e127 ht (by decide : 30 < 32) x) (fun x => rfl)) $$ HQ; iintro HQ
  iapply (asm (chk34 e127 ht (by decide : 31 < 32)))
  iapply (stQ (by decide : 31 < 32) (fun x => q_nat e127 ht (by decide : 31 < 32) x) (fun x => rfl)) $$ HQ; iintro HQ
  sl_step
  isplitl [HT]; · iexact HT
  isplitl [HC]; · iexact HC
  isplitl [HE]; · iexact HE
  unfold qHeld
  icases HQ with ⟨%f, %hf, HQ⟩
  iexists f
  isplitr
  · ipureintro; exact qInv_next hf
  · iexact HQ

end Cert.Proof

end
-- ==== Proof.Tile.lean ====
/-
  One tile of the SparseCore call: the three fetches, the loop of 128 trips and the write-out, from the tile's shares of the
  atom table and of the chain table and its blocks of the neighbour indices and of the result.
-/
module

public import proofs.«01_k».proof.Proof.Trip
public import proofs.«01_k».proof.KernelIdeal
public import Idealize.ShloMosaic.Lib.ShareLeaves
public import Idealize.ShloMosaic.Lib.Tactic
public import Idealize.ShloMosaic.Lib.SparseCore.Stream

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sT" => (Memref.whole Cert.KernelIdeal.cc0_scratch0 : Memref Cert.KernelIdeal.sig Kind.scVector Space.vmem Cert.KernelIdeal.S32768 EltTy.f32)
local notation "sC" => (Memref.whole Cert.KernelIdeal.cc0_scratch1 : Memref Cert.KernelIdeal.sig Kind.scVector Space.vmem Cert.KernelIdeal.S2048 EltTy.i32)
local notation "sE" => (Memref.whole Cert.KernelIdeal.cc0_scratch2 : Memref Cert.KernelIdeal.sig Kind.scVector Space.vmem Cert.KernelIdeal.S2048 EltTy.i32)
local notation "sQ" => (Memref.whole Cert.KernelIdeal.cc0_scratch3 : Memref Cert.KernelIdeal.sig Kind.scVector Space.vmem Cert.KernelIdeal.S65536 EltTy.f32)
local notation "tW" => (Memref.whole Cert.KernelIdeal.main_v0_scv : Memref Cert.KernelIdeal.sig Kind.scVector Space.hbm Cert.KernelIdeal.S32768 EltTy.f32)
local notation "cW" => (Memref.whole Cert.KernelIdeal.main_v1_scv : Memref Cert.KernelIdeal.sig Kind.scVector Space.hbm Cert.KernelIdeal.S2048 EltTy.i32)
local notation "eW" => (Memref.whole Cert.KernelIdeal.main_v2_scv : Memref Cert.KernelIdeal.sig Kind.scVector Space.hbm Cert.KernelIdeal.S65536 EltTy.i32)
local notation "qW" => (Memref.whole Cert.KernelIdeal.main_v3_scv : Memref Cert.KernelIdeal.sig Kind.scVector Space.hbm Cert.KernelIdeal.S2097152 EltTy.f32)

/-- The program's table over this instance, as its launch reads it. -/
abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl

/-- The flat atom table, chain table, neighbour indices and result of the call, as locations of device `d`. -/
abbrev tLoc (d : Dev nD) : Loc nD τ sig := (SparseCore.T d).loc main_v0
abbrev cLoc (d : Dev nD) : Loc nD τ sig := (SparseCore.T d).loc main_v1
abbrev eLoc (d : Dev nD) : Loc nD τ sig := (SparseCore.T d).loc main_v2
abbrev qLoc (d : Dev nD) : Loc nD τ sig := (SparseCore.T d).loc main_v3

theorem hdivE : 32 ∣ S65536.size 0 := ⟨2048, rfl⟩
theorem hdivQ : 32 ∣ S2097152.size 0 := ⟨65536, rfl⟩
/-- Tile `w`'s block of the neighbour indices, and of the result. -/
abbrev eRect (w : Fin 32) : Rect S65536 := Rect.part (s := S65536) (a₀ := 0) hdivE w
abbrev qRect (w : Fin 32) : Rect S2097152 := Rect.part (s := S2097152) (a₀ := 0) hdivQ w
abbrev eSet (w : Fin 32) : Finset S65536.Idx := ((eW).view.slice (eRect w)).set
abbrev qSet (w : Fin 32) : Finset S2097152.Idx := ((qW).view.slice (qRect w)).set

/-- The number of the tile at coordinates `L`. -/
def wL (L : grid0.Coords) : Fin 32 := ⟨(L 1).val * 2 + (L 0).val, by
  have h0 : (L 0).val < 2 := (L 0).isLt
  have h1 : (L 1).val < 16 := (L 1).isLt
  omega⟩

/-- The share of a table one of the thirty-two tiles reads it at. -/
abbrev lf (w : Fin 32) : PosShare TreeShare := ShareLeaves.leaf 5 fullShare w

variable [FloatOps F]
variable (tv : Dev nD → Vec F S32768 .f32) (cv : Dev nD → IVec S2048 32) (ev : Dev nD → IVec S65536 32)

/-- The whole result: every edge's row, flat. -/
def qAll (d : Dev nD) : Vec F S2097152 .f32 := fun j => qAt (tv d) (cv d) (ev d) (j 0).val

/-- What tile `w` is handed, and what it hands back. -/
abbrev tileIn (d : Dev nD) (w : Fin 32) : sProp 𝕄 :=
  iprop(((tLoc d ↦{lf w} tv d) ∗ (cLoc d ↦{lf w} cv d)) ∗ (eLoc d ↦[eSet w]{fullShare} ev d) ∗ ∃ f, qLoc d ↦[qSet w]{fullShare} f)
abbrev tileOut (d : Dev nD) (w : Fin 32) : sProp 𝕄 :=
  iprop(((tLoc d ↦{lf w} tv d) ∗ (cLoc d ↦{lf w} cv d)) ∗ (eLoc d ↦[eSet w]{fullShare} ev d) ∗ (qLoc d ↦[qSet w]{fullShare} qAll tv cv ev d))

section Tile

variable (d : Dev nD) (L : grid0.Coords)

abbrev eRectK : Rect S65536 := Rect.unit (s := S65536) (k0_off1 L) S2048.size (k0_off1_inb L)
abbrev qRectK : Rect S2097152 := Rect.unit (s := S2097152) (k0_off2 L) S65536.size (k0_off2_inb L)
abbrev eK : Memref sig .scVector .hbm S2048 .i32 := (eW).slice (eRectK L) (fun _ => rfl)
abbrev qK : Memref sig .scVector .hbm S65536 .f32 := (qW).slice (qRectK L) (fun _ => rfl)

omit [FloatOps F] in
theorem eRectK_eq : eRectK L = eRect (wL L) := by
  unfold eRectK eRect Rect.part Rect.block
  congr 1 <;> funext a
  · rw [k0_off1_eq]
    match a with
    | 0 => simp [Shape.partIx, Shape.partSize, wL]; omega
  · match a with
    | 0 => simp [Shape.partSize]
omit [FloatOps F] in
theorem qRectK_eq : qRectK L = qRect (wL L) := by
  unfold qRectK qRect Rect.part Rect.block
  congr 1 <;> funext a
  · rw [k0_off2_eq]
    match a with
    | 0 => simp [Shape.partIx, Shape.partSize, wL]; omega
  · match a with
    | 0 => simp [Shape.partSize]

omit [FloatOps F] in
theorem set_eK : (eK L).view.set = eSet (wL L) := by
  show ((eW).view.slice (eRectK L)).set = ((eW).view.slice (eRect (wL L))).set
  exact eRectK_eq L ▸ rfl
omit [FloatOps F] in
theorem set_qK : (qK L).view.set = qSet (wL L) := by
  show ((qW).view.slice (qRectK L)).set = ((qW).view.slice (qRect (wL L))).set
  exact qRectK_eq L ▸ rfl

omit [FloatOps F] in
theorem pts_eK (f : Buf (Elt F) (eLoc d)) :
    ((eK L).view.loc (V d (cV L) (jV L)) ↦[(eK L).view.set]{fullShare} f : sProp 𝕄) = eLoc d ↦[eSet (wL L)]{fullShare} f := by
  rw [set_eK]
omit [FloatOps F] in
theorem pts_qK (f : Buf (Elt F) (qLoc d)) :
    ((qK L).view.loc (V d (cV L) (jV L)) ↦[(qK L).view.set]{fullShare} f : sProp 𝕄) = qLoc d ↦[qSet (wL L)]{fullShare} f := by
  rw [set_qK]
omit [FloatOps F] in
theorem pts_tW (q : PosShare TreeShare) (f : Buf (Elt F) (tLoc d)) :
    ((tW).view.loc (V d (cV L) (jV L)) ↦{q} f : sProp 𝕄) = tLoc d ↦{q} f := rfl
omit [FloatOps F] in
theorem pts_cW (q : PosShare TreeShare) (f : Buf (Elt F) (cLoc d)) :
    ((cW).view.loc (V d (cV L) (jV L)) ↦{q} f : sProp 𝕄) = cLoc d ↦{q} f := rfl
omit [FloatOps F] in
theorem pts_sT (f : Buf (Elt F) ((V d (cV L) (jV L)).loc cc0_scratch0)) :
    ((sT).view.loc (V d (cV L) (jV L)) ↦{fullShare} f : sProp 𝕄) = (V d (cV L) (jV L)).loc cc0_scratch0 ↦{fullShare} f := rfl
omit [FloatOps F] in
theorem pts_sC (f : Buf (Elt F) ((V d (cV L) (jV L)).loc cc0_scratch1)) :
    ((sC).view.loc (V d (cV L) (jV L)) ↦{fullShare} f : sProp 𝕄) = (V d (cV L) (jV L)).loc cc0_scratch1 ↦{fullShare} f := rfl
omit [FloatOps F] in
theorem pts_sE (f : Buf (Elt F) ((V d (cV L) (jV L)).loc cc0_scratch2)) :
    ((sE).view.loc (V d (cV L) (jV L)) ↦{fullShare} f : sProp 𝕄) = (V d (cV L) (jV L)).loc cc0_scratch2 ↦{fullShare} f := rfl
omit [FloatOps F] in
theorem pts_sQ (f : Buf (Elt F) ((V d (cV L) (jV L)).loc cc0_scratch3)) :
    ((sQ).view.loc (V d (cV L) (jV L)) ↦{fullShare} f : sProp 𝕄) = (V d (cV L) (jV L)).loc cc0_scratch3 ↦{fullShare} f := rfl

/-- The four scoped transfer cells the body names. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

omit [FloatOps F] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide, (mem_ownCells (g := cell3 d (cV L) (jV L))).mpr ⟨rfl, by
        show (SemLoc.dma cc0_scoped3.sem : SemLoc sig).isScoped .scVector = true; decide⟩⟩⟩⟩)]

abbrev ref0 (L : grid0.Coords) : DevRef τ sig := (Proc.scVector (cV L) (jV L)).devRef cc0_scratch0
abbrev ref1 (L : grid0.Coords) : DevRef τ sig := (Proc.scVector (cV L) (jV L)).devRef cc0_scratch1
abbrev ref2 (L : grid0.Coords) : DevRef τ sig := (Proc.scVector (cV L) (jV L)).devRef cc0_scratch2
abbrev ref3 (L : grid0.Coords) : DevRef τ sig := (Proc.scVector (cV L) (jV L)).devRef cc0_scratch3

omit [FloatOps F] in
/-- The subcore's own buffers are the four scratches, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (ref0 L)).erase (ref1 L)).erase (ref2 L)).erase (ref3 L))
              fun b => iprop(∃ f, ((d, b) : Loc nD τ sig) ↦{fullShare} f)) := by
  unfold SparseCore.Cfg.ownBufs
  have hm (b : Ref sig .scVector) (h : ((Proc.scVector (cV L) (jV L)).devRef b).owner = .proc (.scVector (cV L) (jV L))) :
      (Proc.scVector (cV L) (jV L)).devRef b ∈ ownRefs (τ := τ) (sig := sig) (.scVector (cV L) (jV L)) := SparseCore.Cfg.mem_ownRefs_of_owner h
  have hne {b b' : Ref sig .scVector} (h : b ≠ b') : (Proc.scVector (cV L) (jV L)).devRef b ≠ (Proc.scVector (cV L) (jV L)).devRef b' :=
    fun e => absurd (Proc.devRef_injective _ e) h
  rw [SparseCore.bigSep_erase' (hm cc0_scratch0 rfl),
    SparseCore.bigSep_erase' (Finset.mem_erase.mpr ⟨hne (show (cc0_scratch1 : Ref sig .scVector) ≠ cc0_scratch0 by decide), hm cc0_scratch1 rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), hm cc0_scratch2 rfl⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
        Finset.mem_erase.mpr ⟨hne (show (cc0_scratch3 : Ref sig .scVector) ≠ cc0_scratch0 by decide), hm cc0_scratch3 rfl⟩⟩⟩)]

omit [FloatOps F] in
theorem eEmb_val (x : S2048.Idx) : ((eK L).view.emb x 0).val = (wL L).val * 2048 + (x 0).val := by
  have h : ((eK L).view.emb x 0).val = k0_off1 L 0 + 1 * (x 0).val := rfl
  rw [h, k0_off1_eq]
  show 4096 * (L 1).val + 2048 * (L 0).val + 1 * (x 0).val = ((L 1).val * 2 + (L 0).val) * 2048 + (x 0).val
  omega
omit [FloatOps F] in
theorem qEmb_val (x : S65536.Idx) : ((qK L).view.emb x 0).val = (wL L).val * 65536 + (x 0).val := by
  have h : ((qK L).view.emb x 0).val = k0_off2 L 0 + 1 * (x 0).val := rfl
  rw [h, k0_off2_eq]
  show 131072 * (L 1).val + 65536 * (L 0).val + 1 * (x 0).val = ((L 1).val * 2 + (L 0).val) * 65536 + (x 0).val
  omega

/-- The tile's own neighbour indices. -/
def eTile (E : IVec S65536 32) : IVec S2048 32 := (eK L).view.read (Elt F) E

theorem eTile_eq (E : IVec S65536 32) : ∀ n < 2048, cAt (eTile (F := F) L E) n = eAt E ((wL L).val * 2048 + n) := by
  intro n hn
  unfold cAt eAt eTile
  rw [View.read_apply]
  show E ((eK L).view.emb _) = E _
  congr 1
  funext a
  match a with
  | 0 =>
    apply Fin.ext
    rw [eEmb_val]
    have hw := (wL L).isLt
    show (wL L).val * 2048 + n % 2048 = ((wL L).val * 2048 + n) % 65536
    omega

/-- What the write-out leaves in the tile's block. -/
theorem qOut {f : Vec F S65536 .f32} (hf : QInv (tv d) (cv d) (ev d) (wL L).val 128 0 f) (fq : Buf (Elt F) (qLoc d))
    {g : Vec F S65536 .f32} (hg : g = f) :
    ((qK L).view.loc (V d (cV L) (jV L)) ↦[(qK L).view.set]{fullShare} (qK L).view.writes (Elt F) fq [⟨Rect.whole S65536, g⟩] : sProp 𝕄)
      = qLoc d ↦[qSet (wL L)]{fullShare} qAll tv cv ev d := by
  subst hg
  rw [← pts_qK d L, ← View.write_univ_eq_writes_whole, View.writes_nil]
  refine pointsTo_congr fun i hi => ?_
  obtain ⟨x, -, rfl⟩ := Finset.mem_map.mp hi
  rw [View.write_emb_of_mem _ _ (Finset.mem_univ x)]
  show g x = qAll tv cv ev d ((qK L).view.emb x)
  rw [qInv_last hf x]
  unfold qAll
  rw [qEmb_val]

theorem v2_nat : (Scalar.muli (Scalar.addi (Scalar.muli (BitVec.ofNat 32 (L 1).val) 2#32) (BitVec.ofNat 32 (L 0).val)) 2048#32).toNat = (wL L).val * 2048 := by
  have h0 : (L 0).val < 2 := (L 0).isLt
  have h1 : (L 1).val < 16 := (L 1).isLt
  have e1 : (BitVec.ofNat 32 (L 1).val).toNat = (L 1).val := by rw [BitVec.toNat_ofNat]; omega
  exact muli_nat 2048 (addi_nat (L 0).val (muli_nat 2 e1 (by decide) (by omega)) (by omega)) (by decide) (by omega)

theorem v4_nat {v2 : BitVec 32} (w : Fin 32) (h2 : v2.toNat = w.val * 2048) : (Scalar.shli (Scalar.shrsi v2 14#32) 9#32).toNat = w.val / 8 * 512 := by
  obtain rfl : v2 = BitVec.ofNat 32 (w.val * 2048) := by rw [← h2, BitVec.ofNat_toNat, BitVec.setWidth_eq]
  clear h2; revert w; decide

theorem v5_nat (x : S16.Idx) : ((iota .scVector S16 32 [0] iota_S16_d0_w32_scVector : IVec S16 32) x).toNat = (x 0).val := by
  have hx := lane_lt x
  have h : (iota .scVector S16 32 [0] iota_S16_d0_w32_scVector : IVec S16 32) x = BitVec.ofNat 32 (0 * 16 + (x 0).val) := rfl
  rw [h, BitVec.toNat_ofNat]; omega

omit [FloatOps F] in
theorem wr_sT (f : Buf (Elt F) ((V d (cV L) (jV L)).loc cc0_scratch0)) {g g' : Buf (Elt F) ((V d (cV L) (jV L)).loc cc0_scratch0)} (h : g = g') :
    (((sT).view.loc (V d (cV L) (jV L)) ↦{fullShare} (sT).view.write (Elt F) f g Finset.univ : sProp 𝕄)) ⊢ tPts d L g' := by
  subst h
  exact Entails.of_eq (congrArg (fun x => ((sT).view.loc (V d (cV L) (jV L)) ↦{fullShare} x : sProp 𝕄)) (View.write_whole_univ (Val := Elt F) cc0_scratch0 f g))
omit [FloatOps F] in
theorem wr_sC (f : Buf (Elt F) ((V d (cV L) (jV L)).loc cc0_scratch1)) {g g' : Buf (Elt F) ((V d (cV L) (jV L)).loc cc0_scratch1)} (h : g = g') :
    (((sC).view.loc (V d (cV L) (jV L)) ↦{fullShare} (sC).view.write (Elt F) f g Finset.univ : sProp 𝕄)) ⊢ cPts d L g' := by
  subst h
  exact Entails.of_eq (congrArg (fun x => ((sC).view.loc (V d (cV L) (jV L)) ↦{fullShare} x : sProp 𝕄)) (View.write_whole_univ (Val := Elt F) cc0_scratch1 f g))
omit [FloatOps F] in
theorem wr_sE (f : Buf (Elt F) ((V d (cV L) (jV L)).loc cc0_scratch2)) {g g' : Buf (Elt F) ((V d (cV L) (jV L)).loc cc0_scratch2)} (h : g = g') :
    (((sE).view.loc (V d (cV L) (jV L)) ↦{fullShare} (sE).view.write (Elt F) f g Finset.univ : sProp 𝕄)) ⊢ ePts d L g' := by
  subst h
  exact Entails.of_eq (congrArg (fun x => ((sE).view.loc (V d (cV L) (jV L)) ↦{fullShare} x : sProp 𝕄)) (View.write_whole_univ (Val := Elt F) cc0_scratch2 f g))

theorem trips_eq : k0_t1_loop.trips = 128 := by decide

/-- The loop's invariant: the tables as fetched, the rows of the first `16 g` edges right. -/
def inv (Et : IVec S2048 32) (g : ℕ) (_ : Unit) : sProp 𝕄 :=
  iprop(tPts d L (tv d) ∗ cPts d L (cv d) ∗ ePts d L Et ∗ qHeld d L (tv d) (cv d) (ev d) (wL L).val g 0)

theorem tile_body (hE : ∀ n, (eAt (ev d) n).toNat < 512) (hF : (K (F := F)).Facts) (O : CellTallies nD τ sig (HIx 1)) (W : Waits sig (HIx 1)) (hO : ∀ g, O g none = 0) :
    iprop(levAts (K (F := F)).L (K (F := F)).lev ∗ emp ∗ tileIn tv cv ev d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tW (Memref.isWhole_whole _) cW (Memref.isWhole_whole _) eW (Memref.isWhole_whole _) qW (Memref.isWhole_whole _)
            sT (Memref.isWhole_whole _) sC (Memref.isWhole_whole _) sE (Memref.isWhole_whole _) sQ (Memref.isWhole_whole _)
            cc0_scoped0 cc0_scoped1 cc0_scoped2 cc0_scoped3)
          fun _ => iprop(tileOut tv cv ev d (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨⟨Ht, Hc⟩, He, ⟨%fq, Hq⟩⟩, ⟨⟨%f0, H0⟩, ⟨%f1, H1⟩, ⟨%f2, H2⟩, ⟨%f3, H3⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tW (F := F) d L _ _).symm) $$ Ht
  ihave Hc' := (Entails.of_eq (pts_cW (F := F) d L _ _).symm) $$ Hc
  ihave He' := (Entails.of_eq (pts_eK (F := F) d L _).symm) $$ He
  ihave Hq' := (Entails.of_eq (pts_qK (F := F) d L _).symm) $$ Hq
  ihave H0' := (Entails.of_eq (pts_sT (F := F) d L _).symm) $$ H0
  ihave H1' := (Entails.of_eq (pts_sC (F := F) d L _).symm) $$ H1
  ihave H2' := (Entails.of_eq (pts_sE (F := F) d L _).symm) $$ H2
  ihave H3' := (Entails.of_eq (pts_sQ (F := F) d L _).symm) $$ H3
  -- the three fetches and their waits
  sl_exec (disch := first
    | exact View.amount_pos _ _ (show 0 < S2048.numel by decide)
    | exact View.amount_pos _ _ (show 0 < S32768.numel by decide))
  ihave HT := (wr_sT d L f0 (g := tile_body.sl.dma0 tv d) (g' := (tv d)) rfl) $$ H0'
  ihave HC := (wr_sC d L f1 (g := tile_body.sl.dma0_1 cv d) (g' := (cv d)) rfl) $$ H1'
  ihave HE := (wr_sE d L f2 (g := tile_body.sl.dma0_2 ev d L) (g' := (eTile (F := F) L (ev d))) rfl) $$ H2'
  -- the loop
  sl_for (inv tv cv ev d L (eTile (F := F) L (ev d))) $$ [HT HC HE H3']
  case region =>
    intro k u
    have hk : k.val < 128 := trips_eq ▸ k.isLt
    unfold inv
    exact trip (wL L).isLt hE (eTile_eq (F := F) L (ev d)) hk (v2_nat L) (v4_nat (wL L) (v2_nat L)) v5_nat
  · unfold inv qHeld
    isplitl [HT]; · iexact HT
    isplitl [HC]; · iexact HC
    isplitl [HE]; · iexact HE
    iexists f3
    isplitr
    · ipureintro; exact qInv_zero f3
    · iexact H3'
  iintro %_ HI
  unfold inv qHeld
  rw [show Scf.trips k0_t1_loop.lb k0_t1_loop.ub k0_t1_loop.st = 128 from trips_eq]
  icases HI with ⟨HT, HC, HE, %f, %hf, HQ⟩
  ihave H3' := (Entails.of_eq (pts_sQ (F := F) d L _).symm) $$ HQ
  -- the write-out
  sl_exec (disch := exact View.amount_pos _ _ (show 0 < S65536.numel by decide))
  sl_step
  isplitl [Ht' Hc' He' Hq']
  · isplitl [Ht' Hc']
    · isplitl [Ht']; · iexact Ht'
      iexact Hc'
    isplitl [He']; · iapply (Entails.of_eq (pts_eK (F := F) d L _)); iexact He'
    iapply (Entails.of_eq (qOut tv cv ev d L hf fq (g := tile_body.sl.dma0_3 f) rfl)); iexact Hq'
  isplitl [HT HC HE H3' Hbufs]
  · isplitl [HT]; · iexists _; iexact HT
    isplitl [HC]; · iexists _; iexact HC
    isplitl [HE]; · iexists _; iexact HE
    isplitl [H3']; · iexists _; iexact H3'
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p _
  rcases p.2 with _ | q
  · exact .inr (.inl rfl)
  · exact .inr (.inr (congrArg some (Subsingleton.elim q 0)))

end Tile

end Cert.Proof

end
-- ==== Proof.Launch.lean ====
/-
  The launch of the gather call: what the host hands the thirty-two tiles and takes back, the host program around the call, and the
  whole program's run at any float values: its arguments end unchanged and its result is every edge's row.
-/
module

public import proofs.«01_k».proof.Proof.Tile
public import proofs.«01_k».proof.Defs
public import Idealize.ShloMosaic.Adequacy
public import Idealize.ShloMosaic.Init
public import Idealize.ShloMosaic.Lib.SparseCore.Quiescent
public import Idealize.ShloMosaic.Lib.StableHlo.Run
public import Idealize.ShloMosaic.Lib.Pipeline.Kit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev v₀ : 𝒱.V := Sum.inl none

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## What passes between the host and the tiles -/

variable (tv : Dev nD → Vec F S32768 .f32) (cv : Dev nD → IVec S2048 32) (ev : Dev nD → IVec S65536 32)

/-- The coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tile number of subcore `s` of core `c`. -/
abbrev wOf (c : Fin 2) (s : Fin 16) : Fin 32 := wL (coordsV c s)

/-- Each subcore's part of the four arrays, core by core. -/
def P : (K (F := F)).Pay (nD := nD) (Val := Elt F) (Name := ℕ) (U := UU) where
  st := fun q d c => match q with | 0 => bigSep Finset.univ fun i : Fin 16 => tileIn tv cv ev d (wOf (Fin.cast nCore_zero c) i)
  dn := fun q d c => match q with | 0 => bigSep Finset.univ fun i : Fin 16 => tileOut tv cv ev d (wOf (Fin.cast nCore_zero c) i)
  go := fun q d c i => match q with | 0 => tileIn tv cv ev d (wOf (Fin.cast nCore_zero c) (Fin.cast nSub_zero i))
  td := fun q d c i => match q with | 0 => tileOut tv cv ev d (wOf (Fin.cast nCore_zero c) (Fin.cast nSub_zero i))
  x := fun _ _ => iprop(emp)

instance P_storable : (P (F := F) tv cv ev).IsStorable where
  st q d c := match q with
    | 0 => (inferInstance : BI.Storable (upEmb : UEmb _ 𝕄) (bigSep Finset.univ fun i : Fin 16 => tileIn tv cv ev d (wOf (Fin.cast nCore_zero c) i)))
  dn q d c := match q with
    | 0 => (inferInstance : BI.Storable (upEmb : UEmb _ 𝕄) (bigSep Finset.univ fun i : Fin 16 => tileOut tv cv ev d (wOf (Fin.cast nCore_zero c) i)))
  go q d c i := match q with
    | 0 => (inferInstance : BI.Storable (upEmb : UEmb _ 𝕄) (tileIn tv cv ev d (wOf (Fin.cast nCore_zero c) (Fin.cast nSub_zero i))))
  td q d c i := match q with
    | 0 => (inferInstance : BI.Storable (upEmb : UEmb _ 𝕄) (tileOut tv cv ev d (wOf (Fin.cast nCore_zero c) (Fin.cast nSub_zero i))))

theorem defs₀_vector (c : Fin τ.nSC) (s : Fin τ.nSub) :
    defs₀ (F := F) (.scVector c s) 0 ()
      = SparseCore.onTile hcore0 hsub0 (fun c s => cc0_k (coordsV c s)
          (Memref.whole main_v0_scv) (Memref.isWhole_whole _) (Memref.whole main_v1_scv) (Memref.isWhole_whole _)
          (Memref.whole main_v2_scv) (Memref.isWhole_whole _) (Memref.whole main_v3_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scoped0 cc0_scoped1 cc0_scoped2 cc0_scoped3) ⟨⟩ c s := rfl

theorem tileObl (hE : ∀ d n, (eAt (ev d) n).toNat < 512) : (K (F := F)).TileObl (D (F := F)) 𝒱 (P tv cv ev) v₀ 0 := by
  intro d c i O W hO _ _
  simp only [show (P tv cv ev).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body tv cv ev d (coordsV ⟨_, hci.1⟩ ⟨_, hci.2⟩) (hE d) facts O W hO

theorem vecSplit : (K (F := F)).VecSplit' (P tv cv ev) 0 := by
  intro d c
  show (bigSep Finset.univ fun i : Fin 16 => tileIn tv cv ev d (wOf (Fin.cast nCore_zero c) i)) ⊢ |={Set.univ}=> iprop(
      (bigSep Finset.univ fun i : Fin 16 => tileIn tv cv ev d (wOf (Fin.cast nCore_zero c) i))
      ∗ ((bigSep Finset.univ fun i : Fin 16 => tileOut tv cv ev d (wOf (Fin.cast nCore_zero c) i))
          -∗ bigSep Finset.univ fun i : Fin 16 => tileOut tv cv ev d (wOf (Fin.cast nCore_zero c) i)))
  iintro H; imodintro
  isplitl [H]; · iexact H
  iintro H; iexact H

/-! ## The arrays, whole and in parts -/

/-- Subcore and core of each tile number. -/
def wEquiv : Fin 2 × Fin 16 ≃ Fin 32 where
  toFun p := wOf p.1 p.2
  invFun w := (⟨w.val % 2, by omega⟩, ⟨w.val / 2, by omega⟩)
  left_inv p := by
    refine Prod.ext (Fin.ext ?_) (Fin.ext ?_)
    · show (p.2.val * 2 + p.1.val) % 2 = p.1.val; omega
    · show (p.2.val * 2 + p.1.val) / 2 = p.2.val; omega
  right_inv w := Fin.ext (by show w.val / 2 * 2 + w.val % 2 = w.val; omega)

omit [FloatOps F] in
theorem tiles_eq (Φ : Fin 32 → sProp 𝕄) :
    (bigSep Finset.univ fun c : Fin ((K (F := F)).nCore 0) => bigSep Finset.univ fun i : Fin 16 => Φ (wOf (Fin.cast nCore_zero c) i)) = bigSep Finset.univ Φ := by
  rw [bigSep_univ_equiv wEquiv, bigSep_univ_prod]; rfl

omit [FloatOps F] in
theorem eSet_eq (w : Fin 32) : eSet w = (eRect w).set := by
  show ((View.whole (main_v2_scv : Ref sig .scVector)).slice (eRect w)).set = _
  rw [View.set_slice]; exact Finset.map_refl
omit [FloatOps F] in
theorem qSet_eq (w : Fin 32) : qSet w = (qRect w).set := by
  show ((View.whole (main_v3_scv : Ref sig .scVector)).slice (qRect w)).set = _
  rw [View.set_slice]; exact Finset.map_refl
omit [FloatOps F] in
theorem e_disjoint : ∀ i ∈ (Finset.univ : Finset (Fin 32)), ∀ j ∈ (Finset.univ : Finset (Fin 32)), i ≠ j → Disjoint (eSet i) (eSet j) :=
  fun i _ j _ h => by rw [eSet_eq, eSet_eq]; exact Rect.part_disjoint hdivE h
omit [FloatOps F] in
theorem q_disjoint : ∀ i ∈ (Finset.univ : Finset (Fin 32)), ∀ j ∈ (Finset.univ : Finset (Fin 32)), i ≠ j → Disjoint (qSet i) (qSet j) :=
  fun i _ j _ h => by rw [qSet_eq, qSet_eq]; exact Rect.part_disjoint hdivQ h
omit [FloatOps F] in
theorem e_cover : (Finset.univ : Finset (Fin 32)).biUnion eSet = Finset.univ :=
  (Finset.biUnion_congr rfl fun i _ => eSet_eq i).trans (Rect.biUnion_part hdivE)
omit [FloatOps F] in
theorem q_cover : (Finset.univ : Finset (Fin 32)).biUnion qSet = Finset.univ :=
  (Finset.biUnion_congr rfl fun i _ => qSet_eq i).trans (Rect.biUnion_part hdivQ)
omit [FloatOps F] in
theorem ePts' (d : Dev nD) (f : Buf (Elt F) (eLoc d)) :
    (eLoc d ↦{fullShare} f : sProp 𝕄) = bigSep Finset.univ fun i : Fin 32 => eLoc d ↦[eSet i]{fullShare} f := by
  rw [← pointsTo_biUnion Finset.univ (ℓ := eLoc d) eSet e_disjoint, e_cover]
omit [FloatOps F] in
theorem qPts' (d : Dev nD) (f : Buf (Elt F) (qLoc d)) :
    (qLoc d ↦{fullShare} f : sProp 𝕄) = bigSep Finset.univ fun i : Fin 32 => qLoc d ↦[qSet i]{fullShare} f := by
  rw [← pointsTo_biUnion Finset.univ (ℓ := qLoc d) qSet q_disjoint, q_cover]
omit [FloatOps F] in
theorem tPts' (d : Dev nD) (f : Buf (Elt F) (tLoc d)) :
    (tLoc d ↦{fullShare} f : sProp 𝕄) = bigSep Finset.univ fun i : Fin 32 => tLoc d ↦{lf i} f := ShareLeaves.pointsTo_leaves _ f 5 fullShare
omit [FloatOps F] in
theorem cPts' (d : Dev nD) (f : Buf (Elt F) (cLoc d)) :
    (cLoc d ↦{fullShare} f : sProp 𝕄) = bigSep Finset.univ fun i : Fin 32 => cLoc d ↦{lf i} f := ShareLeaves.pointsTo_leaves _ f 5 fullShare

omit [FloatOps F] in
theorem qSome (d : Dev nD) (f : Buf (Elt F) (qLoc d)) :
    (bigSep Finset.univ fun w : Fin 32 => qLoc d ↦[qSet w]{fullShare} f) ⊢ (bigSep Finset.univ fun w : Fin 32 => iprop(∃ f, qLoc d ↦[qSet w]{fullShare} f) : sProp 𝕄) :=
  bigSep_mono fun w _ => show (qLoc d ↦[qSet w]{fullShare} f) ⊢ (iprop(∃ f, qLoc d ↦[qSet w]{fullShare} f) : sProp 𝕄) by
    iintro H; iexists f; iexact H

/-- The four arrays whole make what the call takes. -/
theorem st0 (d : Dev nD) (f : Buf (Elt F) (qLoc d)) :
    iprop(((tLoc d ↦{fullShare} tv d) ∗ (cLoc d ↦{fullShare} cv d)) ∗ (eLoc d ↦{fullShare} ev d) ∗ qLoc d ↦{fullShare} f)
      ⊢ (bigSep Finset.univ fun c : Fin ((K (F := F)).nCore 0) => (P tv cv ev).st 0 d c : sProp 𝕄) := by
  rw [show (bigSep Finset.univ fun c : Fin ((K (F := F)).nCore 0) => (P tv cv ev).st 0 d c : sProp 𝕄) = bigSep Finset.univ fun w => tileIn tv cv ev d w from
      tiles_eq (F := F) (fun w => tileIn tv cv ev d w), bigSep_sep', bigSep_sep', bigSep_sep', tPts', cPts', ePts', qPts']
  iintro ⟨⟨Ht, Hc⟩, He, Hq⟩
  isplitl [Ht Hc]
  · isplitl [Ht]; · iexact Ht
    iexact Hc
  isplitl [He]; · iexact He
  iapply (qSome d f)
  iexact Hq
/-- What the call brings back is the four arrays whole, the result at every edge's row. -/
theorem dn0 (d : Dev nD) :
    (bigSep Finset.univ fun c : Fin ((K (F := F)).nCore 0) => (P tv cv ev).dn 0 d c : sProp 𝕄)
      = iprop(((tLoc d ↦{fullShare} tv d) ∗ (cLoc d ↦{fullShare} cv d)) ∗ (eLoc d ↦{fullShare} ev d) ∗ qLoc d ↦{fullShare} qAll tv cv ev d) := by
  refine (tiles_eq (F := F) (fun w => tileOut tv cv ev d w)).trans ?_
  rw [bigSep_sep', bigSep_sep', bigSep_sep', tPts', cPts', ePts', qPts']

omit [FloatOps F] in
theorem bigSep_emp' {I : Type} (s : Finset I) : (bigSep s fun _ => iprop(emp)) = (iprop(emp) : sProp 𝕄) := bigSep_emp_const s

/-! ## The launch element: the handshakes' rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tv cv ev).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) tv cv ev).x q thr) = bigSep Finset.univ fun _ => iprop(emp) from
    bigSep_congr fun _ _ => bigSep_univ_of_subsingleton (0 : Fin 1), bigSep_emp']
  iempintro

/-! ## The host program -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev t' : DevRef τ sig := Proc.devRef .tc (main_v0 : Ref sig .tc)
abbrev c' : DevRef τ sig := Proc.devRef .tc (main_v1 : Ref sig .tc)
abbrev e' : DevRef τ sig := Proc.devRef .tc (main_v2 : Ref sig .tc)
abbrev q' : DevRef τ sig := Proc.devRef .tc (main_v3 : Ref sig .tc)
abbrev opT : HloOp τ sig (Elt F) := StableHlo.reshape main_arg0 main_v0 (rfl : (.f32 : EltTy) = .f32) shapeCasts_S4x512x16_S32768
abbrev opC : HloOp τ sig (Elt F) := StableHlo.reshape main_arg1 main_v1 (rfl : (.i32 : EltTy) = .i32) shapeCasts_S4x512_S2048
abbrev opE : HloOp τ sig (Elt F) := StableHlo.reshape main_arg2 main_v2 (rfl : (.i32 : EltTy) = .i32) shapeCasts_S4x512x32_S65536

/-- The host program's arrays. -/
abbrev S7 : Finset (DevRef τ sig) := {a0', a1', a2', t', c', e', q'}

abbrev aLoc0 (d : Dev nD) : Loc nD τ sig := (SparseCore.T d).loc main_arg0
abbrev aLoc1 (d : Dev nD) : Loc nD τ sig := (SparseCore.T d).loc main_arg1
abbrev aLoc2 (d : Dev nD) : Loc nD τ sig := (SparseCore.T d).loc main_arg2

omit [FloatOps F] in
theorem held_S7 (d : Dev nD) (W : Valuation τ sig (Elt F)) :
    (held (T d) S7 W : sProp 𝕄) = iprop((aLoc0 d ↦{fullShare} W a0') ∗ (aLoc1 d ↦{fullShare} W a1') ∗ (aLoc2 d ↦{fullShare} W a2')
      ∗ (tLoc d ↦{fullShare} W t') ∗ (cLoc d ↦{fullShare} W c') ∗ (eLoc d ↦{fullShare} W e') ∗ qLoc d ↦{fullShare} W q') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays as the launch finds them, and after the three reshapes. -/
def V0 (d : Dev nD) : Valuation τ sig (Elt F) := fun b => m (d, b)
def V3 (d : Dev nD) : Valuation τ sig (Elt F) := (opE (F := F)).result ((opC (F := F)).result ((opT (F := F)).result (V0 m d)))

omit [FloatOps F] in
theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The flat tables the call reads. -/
def tM (d : Dev nD) : Vec F S32768 .f32 := shapeCast S32768 (m (aLoc0 d)) shapeCasts_S4x512x16_S32768
def cM (d : Dev nD) : IVec S2048 32 := shapeCast S2048 (m (aLoc1 d)) shapeCasts_S4x512_S2048
def eM (d : Dev nD) : IVec S65536 32 := shapeCast S65536 (m (aLoc2 d)) shapeCasts_S4x512x32_S65536

theorem V3_keep (d : Dev nD) {b : DevRef τ sig} (h0 : b ≠ t') (h1 : b ≠ c') (h2 : b ≠ e') : V3 m d b = m (d, b) := by
  unfold V3
  rw [HloOp.result_of_not_mem _ _ (show b ∉ ({e'} : Finset (DevRef τ sig)) by simpa using h2),
    HloOp.result_of_not_mem _ _ (show b ∉ ({c'} : Finset (DevRef τ sig)) by simpa using h1),
    HloOp.result_of_not_mem _ _ (show b ∉ ({t'} : Finset (DevRef τ sig)) by simpa using h0)]; rfl
theorem V3_t (d : Dev nD) : V3 m d t' = tM m d := by
  unfold V3
  rw [HloOp.result_of_not_mem _ _ (show t' ∉ ({e'} : Finset (DevRef τ sig)) by decide),
    HloOp.result_of_not_mem _ _ (show t' ∉ ({c'} : Finset (DevRef τ sig)) by decide)]
  exact StableHlo.reshape_result main_arg0 main_v0 _ _ _ _ _
theorem V3_c (d : Dev nD) : V3 m d c' = cM m d := by
  unfold V3
  rw [HloOp.result_of_not_mem _ _ (show c' ∉ ({e'} : Finset (DevRef τ sig)) by decide)]
  refine (StableHlo.reshape_result main_arg1 main_v1 _ _ _ _ _).trans ?_
  rw [HloOp.result_of_not_mem _ _ (show a1' ∉ ({t'} : Finset (DevRef τ sig)) by decide)]; rfl
theorem V3_e (d : Dev nD) : V3 m d e' = eM m d := by
  unfold V3
  refine (StableHlo.reshape_result main_arg2 main_v2 _ _ _ _ _).trans ?_
  rw [HloOp.result_of_not_mem _ _ (show a2' ∉ ({c'} : Finset (DevRef τ sig)) by decide),
    HloOp.result_of_not_mem _ _ (show a2' ∉ ({t'} : Finset (DevRef τ sig)) by decide)]; rfl

theorem held_V3 (d : Dev nD) :
    (held (T d) S7 (V3 m d) : sProp 𝕄) = iprop((aLoc0 d ↦{fullShare} m (aLoc0 d)) ∗ (aLoc1 d ↦{fullShare} m (aLoc1 d)) ∗ (aLoc2 d ↦{fullShare} m (aLoc2 d))
      ∗ (tLoc d ↦{fullShare} tM m d) ∗ (cLoc d ↦{fullShare} cM m d) ∗ (eLoc d ↦{fullShare} eM m d) ∗ qLoc d ↦{fullShare} m (qLoc d)) := by
  rw [held_S7, V3_t, V3_c, V3_e, V3_keep m d (b := a0') (by decide) (by decide) (by decide), V3_keep m d (b := a1') (by decide) (by decide) (by decide),
    V3_keep m d (b := a2') (by decide) (by decide) (by decide), V3_keep m d (b := q') (by decide) (by decide) (by decide)]

theorem hT : (opT (F := F)).bufs ⊆ S7 := show ({a0', t'} : Finset (DevRef τ sig)) ⊆ S7 by decide
theorem hC : (opC (F := F)).bufs ⊆ S7 := show ({a1', c'} : Finset (DevRef τ sig)) ⊆ S7 by decide
theorem hEo : (opE (F := F)).bufs ⊆ S7 := show ({a2', e'} : Finset (DevRef τ sig)) ⊆ S7 by decide

/-- The launch's payloads. -/
abbrev PM : (K (F := F)).Pay (nD := nD) (Val := Elt F) (Name := ℕ) (U := UU) := P (tM m) (cM m) (eM m)

/-- What the host program leaves: the arguments as they were, and the result. -/
abbrev FIN (d : Dev nD) : sProp 𝕄 :=
  iprop((aLoc0 d ↦{fullShare} m (aLoc0 d)) ∗ (aLoc1 d ↦{fullShare} m (aLoc1 d)) ∗ (aLoc2 d ↦{fullShare} m (aLoc2 d))
    ∗ qLoc d ↦{fullShare} qAll (tM m) (cM m) (eM m) d)

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the three reshapes
  iapply (wp_hlo_within 𝒱 (SparseCore.T d) none Set.univ (op := opT) (S := S7) hT (V := V0 m d)) $$ [Hb Hheld]
  · isplitl [Hb] <;> iassumption
  iintro ⟨Hb, Hheld⟩
  rw [wp_ret]; imodintro
  iapply (wp_hlo_within 𝒱 (SparseCore.T d) none Set.univ (op := opC) (S := S7) hC (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opE) (S := S7) hEo (V := (opC (F := F)).result ((opT (F := F)).result (V0 m d)))) $$ [Hb Hheld]
  · isplitl [Hb] <;> iassumption
  iintro ⟨Hb, Hheld⟩
  rw [wp_ret]; imodintro
  ihave Hh := (Entails.of_eq (show (held (T d) S7 ((opE (F := F)).result ((opC (F := F)).result ((opT (F := F)).result (V0 m d)))) : sProp 𝕄) = _
    from held_V3 (F := F) m d)) $$ Hheld
  icases Hh with ⟨H0, H1, H2, Ht, Hc, He, Hq⟩
  -- the call
  iapply ((K (F := F)).wp_run (D (F := F)) 𝒱 (EH := EH) (P := PM m) κ d 0) $$ [Hst H0 H1 H2 Ht Hc He Hq Hb Hts]
  isplitr; · iexact Hctx
  isplitl [Hst]; · iexact Hst
  isplitl [Ht Hc He Hq]
  · iapply (st0 (tM m) (cM m) (eM m) d (m (qLoc d)))
    isplitl [Ht Hc]
    · isplitl [Ht]; · iexact Ht
      iexact Hc
    isplitl [He]; · iexact He
    iexact Hq
  iintro ⟨Hst, Hdn⟩
  ihave Hdn' := (Entails.of_eq (dn0 (tM m) (cM m) (eM m) d)) $$ Hdn
  icases Hdn' with ⟨-, -, Hq⟩
  imodintro
  isplitl [Hst]; · iexact Hst
  isplitr [Hb Hts]
  · isplitl [H0]; · iexact H0
    isplitl [H1]; · iexact H1
    isplitl [H2]; · iexact H2
    iexact Hq
  isplitl [Hb] <;> iassumption

def fin (d : Dev nD) (s' : Phys nD τ sig (Elt F)) : Prop :=
  (s'.mem.mem (aLoc0 d) = m (aLoc0 d) ∧ s'.mem.mem (aLoc1 d) = m (aLoc1 d) ∧ s'.mem.mem (aLoc2 d) = m (aLoc2 d))
    ∧ s'.mem.mem (qLoc d) = qAll (tM m) (cM m) (eM m) d

theorem hfin (d : Dev nD) (s' : Phys nD τ sig (Elt F)) : iprop(FIN m d ∗ SI s') ⊢ (⌜fin m d s'⌝ : sProp 𝕄) := by
  iintro ⟨⟨H0, H1, H2, Hq⟩, HSI⟩
  ihave H := (persistent_entails_right (SI_pointsTo_agree (st := s') (ℓ := aLoc0 d) (I := Finset.univ) (q := fullShare) (f := m (aLoc0 d)))) $$ [HSI H0]
  · isplitl [HSI] <;> iassumption
  icases H with ⟨%h0, HSI, -⟩
  ihave H := (persistent_entails_right (SI_pointsTo_agree (st := s') (ℓ := aLoc1 d) (I := Finset.univ) (q := fullShare) (f := m (aLoc1 d)))) $$ [HSI H1]
  · isplitl [HSI] <;> iassumption
  icases H with ⟨%h1, HSI, -⟩
  ihave H := (persistent_entails_right (SI_pointsTo_agree (st := s') (ℓ := aLoc2 d) (I := Finset.univ) (q := fullShare) (f := m (aLoc2 d)))) $$ [HSI H2]
  · isplitl [HSI] <;> iassumption
  icases H with ⟨%h2, HSI, -⟩
  ihave H := (SI_pointsTo_agree (st := s') (ℓ := qLoc d) (I := Finset.univ) (q := fullShare) (f := qAll (tM m) (cM m) (eM m) d)) $$ [HSI Hq]
  · isplitl [HSI] <;> iassumption
  icases H with %h3
  ipureintro
  exact ⟨⟨funext fun i => h0 i (Finset.mem_univ i), funext fun i => h1 i (Finset.mem_univ i), funext fun i => h2 i (Finset.mem_univ i)⟩,
    funext fun i => h3 i (Finset.mem_univ i)⟩

/-! ## The program's run -/

def QC : PUnit × MemSt nD τ sig (Elt F) → Prop := fun r =>
  (∀ c : Dev nD, (r.2.mem (aLoc0 c) = m (aLoc0 c) ∧ r.2.mem (aLoc1 c) = m (aLoc1 c) ∧ r.2.mem (aLoc2 c) = m (aLoc2 c))
    ∧ r.2.mem (qLoc c) = qAll (tM m) (cM m) (eM m) c) ∧ r.2.sem = fun _ => 0

/-- From neighbour indices within a chain: the arguments end unchanged, the result is every edge's row, every counter at zero. -/
theorem run_main [∀ e, Nonempty (Elt F e)] (hE : ∀ d n, (eAt (eM m d) n).toNat < 512) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tM m) (cM m) (eM m) hE)
    (fun q _ => match q with | 0 => SparseCore.Cfg.VecSplit.of_plain (vecSplit (tM m) (cM m) (eM m)))
    m ρ main (fun _ => iprop(emp)) (FIN m) (u₀ (F := F)) (sep_elim_left.trans (hu₀ (tM m) (cM m) (eM m))) (hmain m ρ) (fin m) (hfin m) (QC m)
    (fun _ h hz => ⟨h, hz⟩)

end Cert.Proof

end
-- ==== Proof.Value.lean ====
/-
  What the reference computes, as one expression over its arguments, and that expression read entry by entry: it is the row of the
  edge the entry belongs to.
-/
module

public import proofs.«01_k».proof.Proof.Spec
public import proofs.«01_k».proof.Proof.Gen.ReferenceIdeal
public import Idealize.ShloMosaic.Lib.Pointwise
public import Idealize.ShloMosaic.Lib.StableHlo.Predicate

@[expose] public section

noncomputable section

namespace Cert.Proof

open Idealize.ShloMosaic
open Cert.ReferenceIdeal Cert.ReferenceIdeal.Gen

/-! ## The three gathers -/

section Gathers

variable {α : Type}

theorem gather_atom (x : S5x4x512x3.Idx → α) (idx : IVec S25x1 32) (j : S25x4x512x3.Idx) :
    Host.gather gather_S5x4x512x3_S25x1_S25x4x512x3_123_0_n_n_0_1_145123 x idx j
      = x (ix4 ⟨min (idx (ix2 (j 0) 0)).toInt.toNat 4, by omega⟩ (j 1) (j 2) (j 3)) := by
  unfold Host.gather
  congr 1
  funext a
  apply Fin.ext
  have e : gather_S5x4x512x3_S25x1_S25x4x512x3_123_0_n_n_0_1_145123.siIdx j ⟨0, Nat.zero_lt_one⟩ = ix2 (j 0) 0 := by
    funext b
    match b with
    | 0 => rfl
    | 1 => rfl
  match a with
  | 0 =>
    show min (idx (gather_S5x4x512x3_S25x1_S25x4x512x3_123_0_n_n_0_1_145123.siIdx j ⟨0, Nat.zero_lt_one⟩)).toInt.toNat 4 + 0 + 0 = _
    rw [e]; rfl
  | 1 => exact Nat.zero_add _
  | 2 => exact Nat.zero_add _
  | 3 => exact Nat.zero_add _

theorem gather_dist (x : S25x4x512x512.Idx → α) (idx : IVec S4x512x32x1 32) (j : S25x4x512x32.Idx) :
    Host.gather gather_S25x4x512x512_S4x512x32x1_S25x4x512x32_0_3_12_01_3_3_25111 x idx j
      = x (ix4 (j 0) (j 1) (j 2) ⟨min (idx (ix4 (j 1) (j 2) (j 3) 0)).toInt.toNat 511, by omega⟩) := by
  unfold Host.gather
  congr 1
  funext a
  apply Fin.ext
  have e : gather_S25x4x512x512_S4x512x32x1_S25x4x512x32_0_3_12_01_3_3_25111.siIdx j ⟨0, Nat.zero_lt_one⟩ = ix4 (j 1) (j 2) (j 3) 0 := by
    funext b
    match b with
    | 0 => rfl
    | 1 => rfl
    | 2 => rfl
    | 3 => rfl
  match a with
  | 0 => exact Nat.zero_add _
  | 1 => exact (Nat.zero_add _).trans (Nat.add_zero _)
  | 2 => exact (Nat.zero_add _).trans (Nat.add_zero _)
  | 3 =>
    show min (idx (gather_S25x4x512x512_S4x512x32x1_S25x4x512x32_0_3_12_01_3_3_25111.siIdx j ⟨0, Nat.zero_lt_one⟩)).toInt.toNat 511 + 0 + 0 = _
    rw [e]; rfl

theorem gather_chain (x : S4x512x512.Idx → α) (idx : IVec S4x512x32x1 32) (j : S4x512x32.Idx) :
    Host.gather gather_S4x512x512_S4x512x32x1_S4x512x32_n_2_01_01_2_3_111 x idx j
      = x (ix3 (j 0) (j 1) ⟨min (idx (ix4 (j 0) (j 1) (j 2) 0)).toInt.toNat 511, by omega⟩) := by
  unfold Host.gather
  congr 1
  funext a
  apply Fin.ext
  have e : gather_S4x512x512_S4x512x32x1_S4x512x32_n_2_01_01_2_3_111.siIdx j ⟨0, Nat.zero_lt_one⟩ = ix4 (j 0) (j 1) (j 2) 0 := by
    funext b
    match b with
    | 0 => rfl
    | 1 => rfl
    | 2 => rfl
    | 3 => rfl
  match a with
  | 0 => exact (Nat.zero_add _).trans (Nat.add_zero _)
  | 1 => exact (Nat.zero_add _).trans (Nat.add_zero _)
  | 2 =>
    show min (idx (gather_S4x512x512_S4x512x32x1_S4x512x32_n_2_01_01_2_3_111.siIdx j ⟨0, Nat.zero_lt_one⟩)).toInt.toNat 511 + 0 + 0 = _
    rw [e]; rfl

end Gathers

/-! ## The reference's expression -/

/-- The atoms' coordinates, atom first. -/
def atoms (T : FVec Ideal S4x512x16 .f32) : FVec Ideal S5x4x512x3 .f32 :=
  transpose S5x4x512x3 [2, 0, 1, 3]
    (shapeCast S4x512x5x3 (extractStridedSlice S4x512x15 ![0, 0, 0] T facts.slices_S4x512x16_S4x512x15_0_0_0) facts.shapeCasts_S4x512x15_S4x512x5x3)
    facts.transposes_S4x512x5x3_S5x4x512x3_2_0_1_3

/-- The coordinates of the atom each pair names. -/
def picked (lit : Fin 25 → BitVec 32) (T : FVec Ideal S4x512x16 .f32) : FVec Ideal S25x4x512x3 .f32 :=
  Host.gather gather_S5x4x512x3_S25x1_S25x4x512x3_123_0_n_n_0_1_145123 (atoms T)
    (broadcastInDim S25x1 ![0] facts.bcast_S25_S25x1_0
      (select (constantI S25 1 0#1) (addi (fun i => lit (S25.rowMajor i)) (broadcastInDim S25 ![] facts.bcast_S_S25 (constantI S_ 32 5#32)))
        (fun i => lit (S25.rowMajor i))))

/-- The coordinate differences of every two residues. -/
def diffs (T : FVec Ideal S4x512x16 .f32) : FVec Ideal S25x4x512x512x3 .f32 :=
  subf
    (broadcastInDim S25x4x512x512x3 ![0, 1, 2, 3, 4] facts.bcast_S25x4x512x1x3_S25x4x512x512x3_0_1_2_3_4
      (broadcastInDim S25x4x512x1x3 ![0, 1, 2, 4] facts.bcast_S25x4x512x3_S25x4x512x1x3_0_1_2_4 (picked lit0 T)))
    (broadcastInDim S25x4x512x512x3 ![0, 1, 2, 3, 4] facts.bcast_S25x4x1x512x3_S25x4x512x512x3_0_1_2_3_4
      (broadcastInDim S25x4x1x512x3 ![0, 1, 3, 4] facts.bcast_S25x4x512x3_S25x4x1x512x3_0_1_3_4 (picked lit1 T)))

/-- The squared distances of every two residues. -/
def dists (T : FVec Ideal S4x512x16 .f32) : FVec Ideal S25x4x512x512 .f32 :=
  Host.reduceAdd (mulf (diffs T) (diffs T)) (constant S_ .f32 0x00000000#32) facts.reducesTo_S25x4x512x512x3_S25x4x512x512_d4 facts.h_S_

/-- The neighbour indices, a negative one counted from the end. -/
def wrapped (E : IVec S4x512x32 32) : IVec S4x512x32x1 32 :=
  shapeCast S4x512x32x1
    (select (cmpi .slt E (broadcastInDim S4x512x32 ![] facts.bcast_S_S4x512x32 (constantI S_ 32 0#32)))
      (addi E (broadcastInDim S4x512x32 ![] facts.bcast_S_S4x512x32 (constantI S_ 32 512#32))) E)
    facts.shapeCasts_S4x512x32_S4x512x32x1

/-- Whether the chains of a residue and its neighbour agree. -/
def sameChain (C : IVec S4x512 32) (E : IVec S4x512x32 32) : IVec S4x512x32 32 :=
  Host.gather gather_S4x512x512_S4x512x32x1_S4x512x32_n_2_01_01_2_3_111
    (extui 32 (cmpi .eq
        (broadcastInDim S4x512x512 ![0, 1, 2] facts.bcast_S4x512x1_S4x512x512_0_1_2 (broadcastInDim S4x512x1 ![0, 1] facts.bcast_S4x512_S4x512x1_0_1 C))
        (broadcastInDim S4x512x512 ![0, 1, 2] facts.bcast_S4x1x512_S4x512x512_0_1_2 (broadcastInDim S4x1x512 ![0, 2] facts.bcast_S4x512_S4x1x512_0_2 C)))
      facts.natLt_1_32)
    (wrapped E)

/-- The residue offsets, clipped. -/
def clipped (E : IVec S4x512x32 32) : IVec S4x512x32 32 :=
  minsi (broadcastInDim S4x512x32 ![] facts.bcast_S_S4x512x32 (constantI S_ 32 64#32))
    (maxsi (broadcastInDim S4x512x32 ![] facts.bcast_S_S4x512x32 (constantI S_ 32 0#32))
      (addi (subi (broadcastInDim S4x512x32 ![0, 1, 2] facts.bcast_S1x512x1_S4x512x32_0_1_2
          (broadcastInDim S1x512x1 ![1] facts.bcast_S512_S1x512x1_1 (iotaInDim S512 32 0))) E)
        (broadcastInDim S4x512x32 ![] facts.bcast_S_S4x512x32 (constantI S_ 32 32#32))))

/-- The offset codes. -/
def codes (C : IVec S4x512 32) (E : IVec S4x512x32 32) : IVec S4x512x32 32 :=
  addi (muli (clipped E) (sameChain C E))
    (muli (subi (broadcastInDim S4x512x32 ![] facts.bcast_S_S4x512x32 (constantI S_ 32 1#32)) (sameChain C E))
      (broadcastInDim S4x512x32 ![] facts.bcast_S_S4x512x32 (constantI S_ 32 65#32)))

/-- The three pieces of a row side by side. -/
def joined (a : FVec Ideal S4x512x32x25 .f32) (b : FVec Ideal S4x512x32x1 .f32) (c : FVec Ideal S4x512x32x6 .f32) : FVec Ideal S4x512x32x32 .f32 :=
  concatenate S4x512x32x32 3 [⟨S4x512x32x25, a⟩, ⟨S4x512x32x1, b⟩, ⟨S4x512x32x6, c⟩] facts.concatenates_S4x512x32x25_S4x512x32x1_S4x512x32x6_S4x512x32x32_d3

/-- The reference's result. -/
def refOut (T : FVec Ideal S4x512x16 .f32) (C : IVec S4x512 32) (E : IVec S4x512x32 32) : FVec Ideal S2097152 .f32 :=
  shapeCast S2097152
    (joined
      (transpose S4x512x32x25 [1, 2, 3, 0]
        (Host.gather gather_S25x4x512x512_S4x512x32x1_S25x4x512x32_0_3_12_01_3_3_25111 (dists T) (wrapped E))
        facts.transposes_S25x4x512x32_S4x512x32x25_1_2_3_0)
      (broadcastInDim S4x512x32x1 ![0, 1, 2] facts.bcast_S4x512x32_S4x512x32x1_0_1_2 (sitofp .f32 (codes C E)))
      (broadcastInDim S4x512x32x6 ![] facts.bcast_S_S4x512x32x6 (constant S_ .f32 0x00000000#32)))
    facts.shapeCasts_S4x512x32x32_S2097152

end Cert.Proof

end
-- ==== Proof.Frames.lean ====
/-
  The index range, read off the predicate, and the frames: the kernel's at the machine's floats and at the extended reals, and the
  reference's.
-/
module

public import proofs.«01_k».proof.Proof.Launch
public import proofs.«01_k».proof.Proof.Value
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import Idealize.ShloMosaic.Lib.ReduceAll
public import Idealize.ShloMosaic.Lib.StableHlo.Predicate
public import Idealize.ShloMosaic.Lib.Claim
public import Idealize.ShloMosaic.Lib.StableHlo.RunRead

@[expose] public section

noncomputable section

namespace Cert.Proof

open Idealize.ShloMosaic Idealize.SL.Sem

/-- The predicate says every neighbour index is below 512. -/
theorem range_of {F : FTy → Type} [FloatOps F] (T : FVec F Pre_in_range.S4x512x16 .f32) (C : IVec Pre_in_range.S4x512 32)
    (E : IVec Pre_in_range.S4x512x32 32) (h : Pre_in_range.fn T C E = fun _ => 1#1) (i : Pre_in_range.S4x512x32.Idx) :
    (E i).toNat < 512 := by
  have : Subsingleton Pre_in_range.S_.Idx := ⟨fun a b => funext fun x => x.elim0⟩
  unfold Pre_in_range.fn at h
  dsimp only at h
  have h0 := Host.reduce_andi_all _ _ _ _ (fun x => x.elim0) (congrFun h (fun x => x.elim0)) i
  obtain ⟨h1, h2⟩ := IntOp.andi_eq_one.1 h0
  have e1 : BitVec.ofBool ((0#32 : BitVec 32).sle (E i)) = 1#1 := h1
  have e2 : BitVec.ofBool ((E i).slt 512#32) = 1#1 := h2
  rw [StableHlo.Predicate.ofBool_eq_one_iff] at e1 e2
  have g1 : (0 : ℤ) ≤ (E i).toInt := by simpa [BitVec.sle] using e1
  have g2 : (E i).toInt < 512 := by simpa [BitVec.slt] using e2
  rw [BitVec.toInt_eq_toNat_cond] at g1 g2
  have := (E i).isLt
  split at g1 <;> omega

theorem frame_kernel : Cert.quiescent_Kernel := fun m ρ hp =>
  (θ_run Cert.KernelIdeal.defs _ _).mono (fun _ h => ⟨fun c => (h.1 c).1, h.2⟩)
    (run_main (F := Bits) m ρ fun d n => range_of _ _ _ (hp d) _)

theorem frame_ideal : Cert.quiescent_KernelIdeal := fun m ρ hp =>
  (θ_run Cert.KernelIdeal.defs _ _).mono (fun _ h => ⟨fun c => (h.1 c).1, h.2⟩)
    (run_main (F := Ideal) m ρ fun d n => range_of _ _ _ (hp d) _)

/-- What the printed concatenation leaves. -/
theorem joined_result (V : Valuation ReferenceIdeal.τ ReferenceIdeal.sig (Elt Ideal)) (hx hy) :
    (StableHlo.nary (τ := ReferenceIdeal.τ) (Val := Elt Ideal) ![ReferenceIdeal.main_v44, ReferenceIdeal.main_v42, ReferenceIdeal.main_v43] ReferenceIdeal.main_v45
      (fun u => (concatenate ReferenceIdeal.S4x512x32x32 3 [⟨ReferenceIdeal.S4x512x32x25, (u 0 : (⟨ReferenceIdeal.S4x512x32x25, .f32⟩ : BufTy).Contents (Elt Ideal))⟩,
        ⟨ReferenceIdeal.S4x512x32x1, (u 1 : (⟨ReferenceIdeal.S4x512x32x1, .f32⟩ : BufTy).Contents (Elt Ideal))⟩,
        ⟨ReferenceIdeal.S4x512x32x6, (u 2 : (⟨ReferenceIdeal.S4x512x32x6, .f32⟩ : BufTy).Contents (Elt Ideal))⟩]
        ReferenceIdeal.Gen.facts.concatenates_S4x512x32x25_S4x512x32x1_S4x512x32x6_S4x512x32x32_d3)) hx hy).result V (no_index (Proc.devRef .tc ReferenceIdeal.main_v45))
      = joined (V (Proc.devRef .tc ReferenceIdeal.main_v44)) (V (Proc.devRef .tc ReferenceIdeal.main_v42)) (V (Proc.devRef .tc ReferenceIdeal.main_v43)) :=
  StableHlo.nary_result _ _ _ _ _ V

open StableHlo in
set_option maxHeartbeats 2000000 in
set_option maxRecDepth 20000 in
theorem ref_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r =>
      ∀ c : Dev ReferenceIdeal.nD, r.2.mem ((c.tc : Thread ReferenceIdeal.nD ReferenceIdeal.τ).loc ReferenceIdeal.main_v46)
          = refOut (m ((c.tc : Thread ReferenceIdeal.nD ReferenceIdeal.τ).loc ReferenceIdeal.main_arg0)) (m ((c.tc : Thread ReferenceIdeal.nD ReferenceIdeal.τ).loc ReferenceIdeal.main_arg1))
              (m ((c.tc : Thread ReferenceIdeal.nD ReferenceIdeal.τ).loc ReferenceIdeal.main_arg2))
        ∧ r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)) := by
  refine θ_run_mono (StableHlo.run_hlo _ _ (by hlo_seq) (by decide) (by decide) (by simp)
    (by intro _ h; (repeat (cases h with | head => rfl | tail _ h => ?_)); exact nomatch h) _ _) ?_
  intro r hr c
  refine ⟨(hr c ReferenceIdeal.main_v46).trans ?_, (hr c ReferenceIdeal.main_arg0).trans ?_, (hr c ReferenceIdeal.main_arg1).trans ?_, (hr c ReferenceIdeal.main_arg2).trans ?_⟩
  · simp (disch := decide) only [readAfter, readUpto, nullary_result', unary_result', binary_result', ternary_result', reshape_result', joined_result]
    simp -implicitDefEqProofs only [StableHlo.TRef.toBuf, StableHlo.TRef.ofBuf, cast_cast, cast_eq]
    rfl
  · after_reads_simp
  · after_reads_simp
  · after_reads_simp

theorem frame_reference : Cert.quiescent_ReferenceIdeal := fun m g _ =>
  θ_run_mono (ref_run m g) fun r h => ⟨fun c => (h c).2, sem_eq_zero_of_no_sems (by decide) r.2⟩

theorem frame_reference_pre : Cert.quiescent_ReferenceIdeal_pre_in_range := fun m g _ => frame_reference m g trivial

end Cert.Proof

end
-- ==== Proof.Reads.lean ====
/-
  The reference's expression read at an entry: each part of it, then a whole row, and so the result as the rows of all edges.
-/
module

public import proofs.«01_k».proof.Proof.Value

@[expose] public section

noncomputable section

namespace Cert.Proof

open Idealize.ShloMosaic
open Cert.ReferenceIdeal Cert.ReferenceIdeal.Gen

theorem atoms_read (T : FVec Ideal S4x512x16 .f32) (a : Fin 5) (b : Fin 4) (l : Fin 512) (c : Fin 3) :
    atoms T (ix4 a b l c) = T (ix3 b l ⟨a.val * 3 + c.val, by omega⟩) := by
  unfold atoms
  pointwise

theorem picked_read (lit : Fin 25 → BitVec 32) (T : FVec Ideal S4x512x16 .f32) (p : Fin 25) (b : Fin 4) (l : Fin 512) (c : Fin 3) :
    picked lit T (ix4 p b l c) = T (ix3 b l ⟨min (lit p).toInt.toNat 4 * 3 + c.val, by omega⟩) := by
  unfold picked
  rw [gather_atom]
  pointwise
  have e : S25.rowMajor (ix1 p) = p := Fin.ext (rowMajor_val1 (ix1 p))
  rw [atoms_read]
  congr 3
  exact congrArg (fun x : Fin 25 => min (lit x).toInt.toNat 4 * 3 + c.val) e

theorem diffs_read (T : FVec Ideal S4x512x16 .f32) (p : Fin 25) (b : Fin 4) (l k : Fin 512) (c : Fin 3) :
    diffs T (ix5 p b l k c) = FloatOps.subf (picked lit0 T (ix4 p b l c)) (picked lit1 T (ix4 p b k c)) := by
  unfold diffs
  pointwise

theorem dists_read (T : FVec Ideal S4x512x16 .f32) (p : Fin 25) (b : Fin 4) (l k : Fin 512) :
    dists T (ix4 p b l k) = FloatOps.addf (FloatOps.addf
       (FloatOps.mulf (diffs T (ix5 p b l k 0)) (diffs T (ix5 p b l k 0))) (FloatOps.mulf (diffs T (ix5 p b l k 1)) (diffs T (ix5 p b l k 1))))
       (FloatOps.mulf (diffs T (ix5 p b l k 2)) (diffs T (ix5 p b l k 2))) := by
  unfold dists
  pointwise
  exact Fin.sum_univ_three _

theorem wrapped_read (E : IVec S4x512x32 32) (hE : ∀ i, (E i).toNat < 512) (b : Fin 4) (l : Fin 512) (k : Fin 32) :
    wrapped E (ix4 b l k 0) = E (ix3 b l k) := by
  unfold wrapped
  pointwise
  have h : ¬IntOp.cmpi .slt (E (ix3 b l k)) 0#32 = 1#1 := by
    rw [StableHlo.Predicate.slt_iff_toNat (by have := hE (ix3 b l k); omega) (by decide)]
    exact Nat.not_lt_zero _
  unfold Scalar.select
  exact if_neg h

/-- The index a gather along the last axis takes for a neighbour: the neighbour itself. -/
theorem wrapped_index (E : IVec S4x512x32 32) (hE : ∀ i, (E i).toNat < 512) (b : Fin 4) (l : Fin 512) (k : Fin 32) :
    min (wrapped E (ix4 b l k 0)).toInt.toNat 511 = (E (ix3 b l k)).toNat := by
  have h := hE (ix3 b l k)
  rw [wrapped_read E hE, StableHlo.Predicate.toInt_eq_toNat_of_lt (by omega)]
  omega

theorem eq_zero_of_ne_one {x : BitVec 1} (h : ¬x = 1#1) : x = 0#1 := by
  revert h; revert x; decide

theorem clipped_read (E : IVec S4x512x32 32) (b : Fin 4) (l : Fin 512) (k : Fin 32) :
    clipped E (ix3 b l k) = IntOp.minsi 64#32 (IntOp.maxsi 0#32 (BitVec.ofNat 32 l.val - E (ix3 b l k) + 32#32)) := by
  unfold clipped
  pointwise
  rfl

theorem sameChain_read (C : IVec S4x512 32) (E : IVec S4x512x32 32) (hE : ∀ i, (E i).toNat < 512) (b : Fin 4) (l : Fin 512) (k : Fin 32) :
    sameChain C E (ix3 b l k) = if C (ix2 b l) = C (ix2 b ⟨(E (ix3 b l k)).toNat, hE _⟩) then 1#32 else 0#32 := by
  unfold sameChain
  rw [gather_chain]
  pointwise
  have e : (⟨min (wrapped E (ix4 b l k 0)).toInt.toNat 511, by omega⟩ : Fin 512) = ⟨(E (ix3 b l k)).toNat, hE _⟩ :=
    Fin.ext (wrapped_index E hE b l k)
  rw [e]
  by_cases h : C (ix2 b l) = C (ix2 b ⟨(E (ix3 b l k)).toNat, hE _⟩)
  · rw [if_pos h, StableHlo.Predicate.cmpi_eq_iff.mpr h]; rfl
  · have h0 := mt StableHlo.Predicate.cmpi_eq_iff.mp h
    rw [if_neg h, eq_zero_of_ne_one h0]; rfl

theorem joined_read (a : FVec Ideal S4x512x32x25 .f32) (b' : FVec Ideal S4x512x32x1 .f32) (c : FVec Ideal S4x512x32x6 .f32)
    (b : Fin 4) (l : Fin 512) (k : Fin 32) (q : Fin 32) :
    joined a b' c (ix4 b l k q) = if h : q.val < 25 then a (ix4 b l k ⟨q.val, h⟩) else if h' : q.val = 25 then b' (ix4 b l k 0) else c (ix4 b l k ⟨q.val - 26, by omega⟩) := by
  unfold joined
  pointwise
  by_cases h1 : q.val < 25
  · rw [dif_pos h1, dif_pos h1]
  · rw [dif_neg h1, dif_neg h1]
    by_cases h2 : q.val = 25
    · rw [dif_pos (by omega), dif_pos h2]; congr 2; exact Subsingleton.elim _ _
    · rw [dif_neg (by omega), dif_neg h2]; congr 2

theorem out_read (x : FVec Ideal S4x512x32x32 .f32) (h) (j : S2097152.Idx) :
    shapeCast S2097152 x h j = x (ix4 ⟨(j 0).val / 524288, by have h : (j 0).val < 2097152 := (j 0).isLt; omega⟩
      ⟨(j 0).val / 1024 % 512, by omega⟩ ⟨(j 0).val / 32 % 32, by omega⟩ ⟨(j 0).val % 32, by omega⟩) := by
  pointwise

/-- The tables laid flat, at a residue's entries. -/
theorem tAt_read (T : FVec Ideal S4x512x16 .f32) (h) (b : Fin 4) (l : Fin 512) (i : Fin 16) :
    tAt (F := Ideal) (shapeCast Cert.KernelIdeal.S32768 T h) ((b.val * 512 + l.val) * 16 + i.val) = T (ix3 b l i) := by
  unfold tAt
  pointwise

theorem cAt_read (C : IVec S4x512 32) (h) (b : Fin 4) (l : Fin 512) :
    cAt (shapeCast Cert.KernelIdeal.S2048 C h) (b.val * 512 + l.val) = C (ix2 b l) := by
  unfold cAt
  pointwise

theorem eAt_read (E : IVec S4x512x32 32) (h) (b : Fin 4) (l : Fin 512) (k : Fin 32) :
    eAt (shapeCast Cert.KernelIdeal.S65536 E h) ((b.val * 512 + l.val) * 32 + k.val) = E (ix3 b l k) := by
  unfold eAt
  pointwise

theorem lit0_eq (p : Fin 25) : min (lit0 p).toInt.toNat 4 = pairA p.val := by
  revert p; decide

theorem lit1_eq (p : Fin 25) : min (lit1 p).toInt.toNat 4 = pairB p.val := by
  revert p; decide

theorem pairA_lt (p : Fin 25) : pairA p.val < 5 := by revert p; decide
theorem pairB_lt (p : Fin 25) : pairB p.val < 5 := by revert p; decide

section Row

variable (T : FVec Ideal S4x512x16 .f32) (C : IVec S4x512 32) (E : IVec S4x512x32 32) (hE : ∀ i, (E i).toNat < 512)
  (h1 : S4x512x16.ShapeCasts Cert.KernelIdeal.S32768) (h2 : S4x512.ShapeCasts Cert.KernelIdeal.S2048) (h3 : S4x512x32.ShapeCasts Cert.KernelIdeal.S65536)
  (b : Fin 4) (l : Fin 512) (k : Fin 32)

include hE

/-- An edge's centre and neighbour, as rows of the tables. -/
theorem cen_read : cen ((b.val * 512 + l.val) * 32 + k.val) = b.val * 512 + l.val := by unfold cen; omega

theorem nbr_read : nbr (shapeCast Cert.KernelIdeal.S65536 E h3) ((b.val * 512 + l.val) * 32 + k.val) = b.val * 512 + (E (ix3 b l k)).toNat := by
  unfold nbr; rw [eAt_read]; omega

/-- The distances of row `e`. -/
theorem dist_row (p : Fin 25) :
    Host.gather gather_S25x4x512x512_S4x512x32x1_S25x4x512x32_0_3_12_01_3_3_25111 (dists T) (wrapped E) (ix4 p b l k)
      = sqDist (F := Ideal) (shapeCast Cert.KernelIdeal.S32768 T h1) ((b.val * 512 + l.val) * 16 + 3 * pairA p.val)
          ((b.val * 512 + (E (ix3 b l k)).toNat) * 16 + 3 * pairB p.val) := by
  have hA := pairA_lt p
  have hB := pairB_lt p
  have e : (⟨min (wrapped E (ix4 b l k 0)).toInt.toNat 511, by omega⟩ : Fin 512) = ⟨(E (ix3 b l k)).toNat, hE _⟩ :=
    Fin.ext (wrapped_index E hE b l k)
  have key : ∀ c : Fin 3, FloatOps.mulf (diffs T (ix5 p b l ⟨(E (ix3 b l k)).toNat, hE _⟩ c)) (diffs T (ix5 p b l ⟨(E (ix3 b l k)).toNat, hE _⟩ c))
      = sqAt (F := Ideal) (shapeCast Cert.KernelIdeal.S32768 T h1) ((b.val * 512 + l.val) * 16 + 3 * pairA p.val + c.val)
          ((b.val * 512 + (E (ix3 b l k)).toNat) * 16 + 3 * pairB p.val + c.val) := by
    intro c
    have ea := tAt_read T h1 b l ⟨3 * pairA p.val + c.val, by omega⟩
    have eb := tAt_read T h1 b ⟨(E (ix3 b l k)).toNat, hE _⟩ ⟨3 * pairB p.val + c.val, by omega⟩
    dsimp only at ea eb
    unfold sqAt
    rw [diffs_read, picked_read, picked_read, Nat.add_assoc, Nat.add_assoc, ea, eb]
    have e0 : (⟨min (lit0 p).toInt.toNat 4 * 3 + c.val, by omega⟩ : Fin 16) = ⟨3 * pairA p.val + c.val, by omega⟩ :=
      Fin.ext (by dsimp only; rw [lit0_eq]; omega)
    have e1 : (⟨min (lit1 p).toInt.toNat 4 * 3 + c.val, by omega⟩ : Fin 16) = ⟨3 * pairB p.val + c.val, by omega⟩ :=
      Fin.ext (by dsimp only; rw [lit1_eq]; omega)
    rw [e0, e1]
  rw [gather_dist]
  show dists T (ix4 p b l ⟨min (wrapped E (ix4 b l k 0)).toInt.toNat 511, by omega⟩) = _
  rw [show (⟨min (wrapped E (ix4 b l k 0)).toInt.toNat 511, by omega⟩ : Fin 512) = ⟨(E (ix3 b l k)).toNat, hE _⟩ from e, dists_read,
    key 0, key 1, key 2]
  rfl

/-- The offset code of row `e`. -/
theorem code_row :
    codes C E (ix3 b l k) = offs (shapeCast Cert.KernelIdeal.S2048 C h2) (shapeCast Cert.KernelIdeal.S65536 E h3) ((b.val * 512 + l.val) * 32 + k.val) := by
  have en := hE (ix3 b l k)
  have hc := cAt_read C h2 b l
  have hn := cAt_read C h2 b ⟨(E (ix3 b l k)).toNat, hE _⟩
  dsimp only at hn
  have hsub : BitVec.ofNat 32 l.val - E (ix3 b l k)
      = BitVec.ofNat 32 (b.val * 512 + l.val) - BitVec.ofNat 32 (b.val * 512 + (E (ix3 b l k)).toNat) := by
    apply BitVec.eq_of_toNat_eq
    simp only [BitVec.toNat_sub, BitVec.toNat_ofNat]
    omega
  have hcode : codes C E (ix3 b l k)
      = clipped E (ix3 b l k) * sameChain C E (ix3 b l k) + (1#32 - sameChain C E (ix3 b l k)) * 65#32 := by
    unfold codes
    pointwise
    rfl
  unfold offs
  rw [cen_read E hE, nbr_read E hE, hc, hn, hcode, clipped_read, sameChain_read C E hE, hsub]
  by_cases h : C (ix2 b l) = C (ix2 b ⟨(E (ix3 b l k)).toNat, hE _⟩)
  · rw [if_pos h, StableHlo.Predicate.cmpi_eq_iff.mpr h]
    refine Eq.trans ?_ (if_pos rfl).symm
    simp
  · rw [if_neg h, eq_zero_of_ne_one (mt StableHlo.Predicate.cmpi_eq_iff.mp h)]
    refine Eq.trans ?_ (if_neg (by decide)).symm
    simp

/-- The reference's result is every edge's row. -/
theorem refOut_eq :
    refOut T C E = fun j => qAt (F := Ideal) (shapeCast Cert.KernelIdeal.S32768 T h1) (shapeCast Cert.KernelIdeal.S2048 C h2)
      (shapeCast Cert.KernelIdeal.S65536 E h3) (j 0).val := by
  funext j
  have hj : (j 0).val < 2097152 := (j 0).isLt
  have e : ((j 0).val / 524288 * 512 + (j 0).val / 1024 % 512) * 32 + (j 0).val / 32 % 32 = (j 0).val / 32 := by omega
  have ed := fun p => dist_row T E hE h1 ⟨(j 0).val / 524288, by omega⟩ ⟨(j 0).val / 1024 % 512, by omega⟩ ⟨(j 0).val / 32 % 32, by omega⟩ p
  have ec := code_row C E hE h2 h3 ⟨(j 0).val / 524288, by omega⟩ ⟨(j 0).val / 1024 % 512, by omega⟩ ⟨(j 0).val / 32 % 32, by omega⟩
  have en := nbr_read E hE h3 ⟨(j 0).val / 524288, by omega⟩ ⟨(j 0).val / 1024 % 512, by omega⟩ ⟨(j 0).val / 32 % 32, by omega⟩
  have el := cen_read E hE ⟨(j 0).val / 524288, by omega⟩ ⟨(j 0).val / 1024 % 512, by omega⟩ ⟨(j 0).val / 32 % 32, by omega⟩
  dsimp only at ec en el
  rw [e] at ec en el
  unfold refOut
  rw [out_read, joined_read]
  unfold qAt qrow
  dsimp only
  by_cases h1 : (j 0).val % 32 < 25
  · rw [dif_pos h1, if_pos h1, en, el]
    refine Eq.trans ?_ (ed ⟨(j 0).val % 32, h1⟩)
    pointwise
  · rw [dif_neg h1, if_neg h1]
    by_cases h2 : (j 0).val % 32 = 25
    · rw [dif_pos h2, if_pos h2, ← ec]
      pointwise
    · rw [dif_neg h2, if_neg h2]
      pointwise

end Row

end Cert.Proof

end
-- ==== Proof.Algebraic.lean ====
/-
  The kernel's result and the reference's are the same extended reals: both are every edge's row.
-/
module

public import proofs.«01_k».proof.Proof.Frames
public import proofs.«01_k».proof.Proof.Reads

@[expose] public section

noncomputable section

namespace Cert.Proof

open Idealize.ShloMosaic Idealize.SL.Sem

theorem algebraic : Cert.algebraic_KernelIdeal_ReferenceIdeal := by
  intro m g m' g' hp hagree
  refine ⟨fun c => qAll (F := Ideal) (tM m) (cM m) (eM m) c,
    θ_run_mono (run_main (F := Ideal) m g fun d n => range_of _ _ _ (hp d) _) fun r h c => ⟨(h.1 c).2, (h.1 c).1⟩,
    θ_run_mono (ref_run m' g') fun r h c => ⟨(h c).1.trans ?_, (h c).2⟩⟩
  obtain ⟨e0, e1, e2⟩ := hagree c
  rw [e0, e1, e2]
  exact refOut_eq _ _ _ (fun i => range_of _ _ _ (hp c) i) _ _ _

end Cert.Proof

end
-- ==== Proof.Stores.lean ====
/-
  `Host.scatter` as `x.at[…].set(v)` prints it, read at one element of a matrix: a block of whole rows, a part of one row, and one
  element per pair of index words.
-/
module

public import Idealize.ShloMosaic.Lib.Routing.OpsOne

@[expose] public section

noncomputable section

namespace Cert.Edge

open Idealize.ShloMosaic Idealize.ShloMosaic.Routing Idealize.ShloMosaic.ValueIdx

/-! ## Whole rows -/

theorem lands_rows {R C A : ℕ} (wf : ScatterDims.WF (shape2 R C) (shape1 1) (shape2 A C) [0, 1] [] [0] 0)
    (k : ℕ) (idx : IVec (shape1 1) 32) (hidx : (idx (ix1 (0 : Fin 1))).toInt = (k : Int)) (a : Fin A) (b : Fin C)
    (r : Fin R) (c : Fin C) :
    (⟨[0, 1], [], [0], 0, wf⟩ : ScatterDims (shape2 R C) (shape1 1) (shape2 A C)).resultIdx? (ix2 a b) idx = some (ix2 r c)
      ↔ k + a.val = r.val ∧ b = c := by
  have w0 : (⟨[0, 1], [], [0], 0, wf⟩ : ScatterDims (shape2 R C) (shape1 1) (shape2 A C)).window (ix2 a b) 0 = a.val := rfl
  have w1 : (⟨[0, 1], [], [0], 0, wf⟩ : ScatterDims (shape2 R C) (shape1 1) (shape2 A C)).window (ix2 a b) 1 = b.val := rfl
  have s0 : (⟨[0, 1], [], [0], 0, wf⟩ : ScatterDims (shape2 R C) (shape1 1) (shape2 A C)).start (ix2 a b) idx 0
      = (idx (ix1 (0 : Fin 1))).toInt := by
    refine Eq.trans (b := (idx ((⟨[0, 1], [], [0], 0, wf⟩ : ScatterDims (shape2 R C) (shape1 1) (shape2 A C)).siIdx (ix2 a b) ⟨0, Nat.one_pos⟩)).toInt) rfl ?_
    exact congrArg (fun i => (idx i).toInt) (funext fun x => by
      match x with
      | ⟨0, _⟩ => rfl)
  have s1 : (⟨[0, 1], [], [0], 0, wf⟩ : ScatterDims (shape2 R C) (shape1 1) (shape2 A C)).start (ix2 a b) idx 1 = 0 := rfl
  refine (resultIdx?_ix2 _ _ _ _ _).trans ?_
  rw [w0, w1, s0, s1, hidx, Fin.ext_iff]
  omega

/-- `x.at[k : k + A].set(v)`: `v`'s rows from row `k` on, the operand's elsewhere. -/
theorem set_rows {α : Type} {R C A : ℕ} (wf : ScatterDims.WF (shape2 R C) (shape1 1) (shape2 A C) [0, 1] [] [0] 0)
    (k : ℕ) (idx : IVec (shape1 1) 32) (hidx : (idx (ix1 (0 : Fin 1))).toInt = (k : Int))
    (x0 : (shape2 R C).Idx → α) (upd : (shape2 A C).Idx → α) (r : Fin R) (c : Fin C) :
    Host.scatter (⟨[0, 1], [], [0], 0, wf⟩ : ScatterDims (shape2 R C) (shape1 1) (shape2 A C)) (fun _ b => b) x0 idx upd (ix2 r c)
      = if h : k ≤ r.val ∧ r.val - k < A then upd (ix2 ⟨r.val - k, h.2⟩ c) else x0 (ix2 r c) := by
  have lands : ∀ j : (shape2 A C).Idx, (⟨[0, 1], [], [0], 0, wf⟩ : ScatterDims (shape2 R C) (shape1 1) (shape2 A C)).resultIdx? j idx = some (ix2 r c)
      → k + (j 0).val = r.val ∧ j 1 = c := fun j hj =>
    (lands_rows wf k idx hidx (j 0) (j 1) r c).1 ((congrArg (fun t => ScatterDims.resultIdx? _ t idx) (eq_ix2 j).symm).trans hj)
  split
  · next h =>
    refine scatter_set_hit _ x0 idx upd _ _ (fun j hj => ?_) (ix2 ⟨r.val - k, h.2⟩ c)
      ((lands_rows wf k idx hidx _ _ r c).2 ⟨by show k + (r.val - k) = r.val; omega, rfl⟩)
    obtain ⟨h0, h1⟩ := lands j hj
    refine congrArg upd ((eq_ix2 j).trans ?_)
    have e0 : j 0 = (⟨r.val - k, h.2⟩ : Fin A) := Fin.ext (by show (j 0).val = r.val - k; omega)
    exact (congrArg (fun t => ix2 t (j 1)) e0).trans (congrArg (fun t => ix2 _ t) h1)
  · next h =>
    refine scatter_set_miss _ x0 idx upd _ fun j hj => h ?_
    obtain ⟨h0, h1⟩ := lands j hj
    have := (j 0).isLt
    exact ⟨by omega, by show r.val - k < A; have : (j 0).val < A := (j 0).isLt; omega⟩

/-! ## A part of a row -/

theorem lands_part {R C A : ℕ} (wf : ScatterDims.WF (shape2 R C) (shape1 2) (shape1 A) [0] [0] [0, 1] 0)
    (p k : ℕ) (idx : IVec (shape1 2) 32) (hp : (idx (ix1 (0 : Fin 2))).toInt = (p : Int)) (hk : (idx (ix1 (1 : Fin 2))).toInt = (k : Int))
    (a : Fin A) (r : Fin R) (c : Fin C) :
    (⟨[0], [0], [0, 1], 0, wf⟩ : ScatterDims (shape2 R C) (shape1 2) (shape1 A)).resultIdx? (ix1 a) idx = some (ix2 r c)
      ↔ p = r.val ∧ k + a.val = c.val := by
  have w0 : (⟨[0], [0], [0, 1], 0, wf⟩ : ScatterDims (shape2 R C) (shape1 2) (shape1 A)).window (ix1 a) 0 = 0 := rfl
  have w1 : (⟨[0], [0], [0, 1], 0, wf⟩ : ScatterDims (shape2 R C) (shape1 2) (shape1 A)).window (ix1 a) 1 = a.val := rfl
  have s0 : (⟨[0], [0], [0, 1], 0, wf⟩ : ScatterDims (shape2 R C) (shape1 2) (shape1 A)).start (ix1 a) idx 0
      = (idx (ix1 (0 : Fin 2))).toInt := by
    refine Eq.trans (b := (idx ((⟨[0], [0], [0, 1], 0, wf⟩ : ScatterDims (shape2 R C) (shape1 2) (shape1 A)).siIdx (ix1 a) ⟨0, Nat.two_pos⟩)).toInt) rfl ?_
    exact congrArg (fun i => (idx i).toInt) (funext fun x => by
      match x with
      | ⟨0, _⟩ => rfl)
  have s1 : (⟨[0], [0], [0, 1], 0, wf⟩ : ScatterDims (shape2 R C) (shape1 2) (shape1 A)).start (ix1 a) idx 1
      = (idx (ix1 (1 : Fin 2))).toInt := by
    refine Eq.trans (b := (idx ((⟨[0], [0], [0, 1], 0, wf⟩ : ScatterDims (shape2 R C) (shape1 2) (shape1 A)).siIdx (ix1 a) ⟨1, Nat.one_lt_two⟩)).toInt) rfl ?_
    exact congrArg (fun i => (idx i).toInt) (funext fun x => by
      match x with
      | ⟨0, _⟩ => rfl)
  refine (resultIdx?_ix2 _ _ _ _ _).trans ?_
  rw [w0, w1, s0, s1, hp, hk]
  omega

/-- `x.at[p, k : k + A].set(v)`: `v` in row `p` from column `k` on, the operand elsewhere. -/
theorem set_part {α : Type} {R C A : ℕ} (wf : ScatterDims.WF (shape2 R C) (shape1 2) (shape1 A) [0] [0] [0, 1] 0)
    (p k : ℕ) (idx : IVec (shape1 2) 32) (hp : (idx (ix1 (0 : Fin 2))).toInt = (p : Int)) (hk : (idx (ix1 (1 : Fin 2))).toInt = (k : Int))
    (x0 : (shape2 R C).Idx → α) (upd : (shape1 A).Idx → α) (r : Fin R) (c : Fin C) :
    Host.scatter (⟨[0], [0], [0, 1], 0, wf⟩ : ScatterDims (shape2 R C) (shape1 2) (shape1 A)) (fun _ b => b) x0 idx upd (ix2 r c)
      = if h : p = r.val ∧ k ≤ c.val ∧ c.val - k < A then upd (ix1 ⟨c.val - k, h.2.2⟩) else x0 (ix2 r c) := by
  have lands : ∀ j : (shape1 A).Idx, (⟨[0], [0], [0, 1], 0, wf⟩ : ScatterDims (shape2 R C) (shape1 2) (shape1 A)).resultIdx? j idx = some (ix2 r c)
      → p = r.val ∧ k + (j 0).val = c.val := fun j hj =>
    (lands_part wf p k idx hp hk (j 0) r c).1 ((congrArg (fun t => ScatterDims.resultIdx? _ t idx) (eq_ix1 j).symm).trans hj)
  split
  · next h =>
    refine scatter_set_hit _ x0 idx upd _ _ (fun j hj => ?_) (ix1 ⟨c.val - k, h.2.2⟩)
      ((lands_part wf p k idx hp hk _ r c).2 ⟨h.1, by show k + (c.val - k) = c.val; omega⟩)
    obtain ⟨h0, h1⟩ := lands j hj
    refine congrArg upd ((eq_ix1 j).trans ?_)
    have e0 : j 0 = (⟨c.val - k, h.2.2⟩ : Fin A) := Fin.ext (by show (j 0).val = c.val - k; omega)
    exact congrArg (fun t => ix1 t) e0
  · next h =>
    refine scatter_set_miss _ x0 idx upd _ fun j hj => h ?_
    obtain ⟨h0, h1⟩ := lands j hj
    have : (j 0).val < A := (j 0).isLt
    exact ⟨h0, by omega, by omega⟩

/-! ## One element per pair of index words -/

theorem lands_pair {R C A : ℕ} (wf : ScatterDims.WF (shape2 R C) (shape2 A 2) (shape1 A) [] [0, 1] [0, 1] 1)
    (idx : IVec (shape2 A 2) 32) (a : Fin A) (r : Fin R) (c : Fin C) :
    (⟨[], [0, 1], [0, 1], 1, wf⟩ : ScatterDims (shape2 R C) (shape2 A 2) (shape1 A)).resultIdx? (ix1 a) idx = some (ix2 r c)
      ↔ (idx (ix2 a (0 : Fin 2))).toInt = (r.val : Int) ∧ (idx (ix2 a (1 : Fin 2))).toInt = (c.val : Int) := by
  have w0 : (⟨[], [0, 1], [0, 1], 1, wf⟩ : ScatterDims (shape2 R C) (shape2 A 2) (shape1 A)).window (ix1 a) 0 = 0 := rfl
  have w1 : (⟨[], [0, 1], [0, 1], 1, wf⟩ : ScatterDims (shape2 R C) (shape2 A 2) (shape1 A)).window (ix1 a) 1 = 0 := rfl
  have s0 : (⟨[], [0, 1], [0, 1], 1, wf⟩ : ScatterDims (shape2 R C) (shape2 A 2) (shape1 A)).start (ix1 a) idx 0
      = (idx (ix2 a (0 : Fin 2))).toInt := by
    refine Eq.trans (b := (idx ((⟨[], [0, 1], [0, 1], 1, wf⟩ : ScatterDims (shape2 R C) (shape2 A 2) (shape1 A)).siIdx (ix1 a) ⟨0, Nat.two_pos⟩)).toInt) rfl ?_
    exact congrArg (fun i => (idx i).toInt) (funext fun x => by
      match x with
      | ⟨0, _⟩ => rfl
      | ⟨1, _⟩ => rfl)
  have s1 : (⟨[], [0, 1], [0, 1], 1, wf⟩ : ScatterDims (shape2 R C) (shape2 A 2) (shape1 A)).start (ix1 a) idx 1
      = (idx (ix2 a (1 : Fin 2))).toInt := by
    refine Eq.trans (b := (idx ((⟨[], [0, 1], [0, 1], 1, wf⟩ : ScatterDims (shape2 R C) (shape2 A 2) (shape1 A)).siIdx (ix1 a) ⟨1, Nat.one_lt_two⟩)).toInt) rfl ?_
    exact congrArg (fun i => (idx i).toInt) (funext fun x => by
      match x with
      | ⟨0, _⟩ => rfl
      | ⟨1, _⟩ => rfl)
  refine (resultIdx?_ix2 _ _ _ _ _).trans ?_
  rw [w0, w1, s0, s1]
  omega

/-- `x.at[f, arange(A)].set(v)` for one value `v`: `v` where the column is below `A` and its row word names the row. -/
theorem set_pairs {α : Type} {R C A : ℕ} (wf : ScatterDims.WF (shape2 R C) (shape2 A 2) (shape1 A) [] [0, 1] [0, 1] 1)
    (idx : IVec (shape2 A 2) 32) (f : ℕ → ℕ) (h0 : ∀ a : Fin A, (idx (ix2 a (0 : Fin 2))).toInt = (f a.val : Int))
    (h1 : ∀ a : Fin A, (idx (ix2 a (1 : Fin 2))).toInt = (a.val : Int))
    (x0 : (shape2 R C).Idx → α) (upd : (shape1 A).Idx → α) (v : α) (hv : ∀ j, upd j = v) (r : Fin R) (c : Fin C) :
    Host.scatter (⟨[], [0, 1], [0, 1], 1, wf⟩ : ScatterDims (shape2 R C) (shape2 A 2) (shape1 A)) (fun _ b => b) x0 idx upd (ix2 r c)
      = if c.val < A ∧ f c.val = r.val then v else x0 (ix2 r c) := by
  have lands : ∀ j : (shape1 A).Idx, (⟨[], [0, 1], [0, 1], 1, wf⟩ : ScatterDims (shape2 R C) (shape2 A 2) (shape1 A)).resultIdx? j idx = some (ix2 r c)
      → f (j 0).val = r.val ∧ (j 0).val = c.val := fun j hj => by
    have e := (lands_pair wf idx (j 0) r c).1 ((congrArg (fun t => ScatterDims.resultIdx? _ t idx) (eq_ix1 j).symm).trans hj)
    have e0 := (h0 (j 0)).symm.trans e.1
    have e1 := (h1 (j 0)).symm.trans e.2
    exact ⟨by omega, by omega⟩
  split
  · next h =>
    refine scatter_set_hit _ x0 idx upd _ _ (fun j _ => hv j) (ix1 ⟨c.val, h.1⟩)
      ((lands_pair wf idx _ r c).2 ⟨(h0 _).trans (by show (f c.val : Int) = r.val; rw [h.2]), h1 _⟩)
  · next h =>
    refine scatter_set_miss _ x0 idx upd _ fun j hj => h ?_
    obtain ⟨e0, e1⟩ := lands j hj
    have : (j 0).val < A := (j 0).isLt
    exact ⟨by omega, by rw [← e1]; exact e0⟩

end Cert.Edge

end
-- ==== Proof.EdgeHost.lean ====
/-
  What the host code hands to the call that makes the edge features, as terms of the arguments.
-/
module

public import proofs.«01_k».proof.Proof.Stores
public import proofs.«01_k».proof.Proof.Gen.EdgesIdeal.Frame
public import Idealize.ShloMosaic.Lib.StableHlo.RunRead
public import Idealize.ShloMosaic.PureOps.Ideal

@[expose] public section

noncomputable section

namespace Cert.Edge

open Idealize.ShloMosaic Idealize.ShloMosaic.TcCoe Idealize.SL.Sem Cert.EdgesIdeal Cert.EdgesIdeal.Gen

variable (m : (ℓ : Loc nD τ sig) → Buf (Elt Ideal) ℓ)

/-- The first sixteen rows of the edge weights. -/
def head (We : FVec Ideal S416x128 .f32) : FVec Ideal S16x128 .f32 :=
  extractStridedSlice S16x128 ![0, 0] We slices_S416x128_S16x128_0_0

def browArr (bp : FVec Ideal S16 .f32) (We : FVec Ideal S416x128 .f32) : FVec Ideal S1x128 .f32 :=
  shapeCast S1x128 (Host.dotGeneral dot_S16_S16x128_S128_0_0_n_1_n_n none bp (head We)) shapeCasts_S128_S1x128

def wArr (Wp : FVec Ideal S66x16 .f32) (We : FVec Ideal S416x128 .f32) : FVec Ideal S512x128 .f32 :=
  Host.scatter scatter_S512x128_S1_S66x128_01_n_0_0 (fun _ b => b)
    (Host.scatter scatter_S512x128_S1_S400x128_01_n_0_0 (fun _ b => b)
      (broadcastInDim S512x128 ![] bcast_S_S512x128 (constant (F := Ideal) S_ .f32 0x00000000#32))
      (broadcastInDim S1 ![] bcast_S_S1 (constantI S_ 32 0#32))
      (extractStridedSlice S400x128 ![16, 0] We slices_S416x128_S400x128_16_0))
    (broadcastInDim S1 ![] bcast_S_S1 (constantI S_ 32 400#32))
    (Host.dotGeneral dot_S66x16_S16x128_S66x128_1_0_0_1_n_n none Wp (head We))

/-- The sixteen centres. -/
def lin : FVec Ideal S16 .f32 :=
  concatenate S16 0 [⟨S15, addf
      (mulf (broadcastInDim S15 ![0] bcast_S1_S15_0 (shapeCast S1 (constant (F := Ideal) S_ .f32 0x40000000#32) shapeCasts_S_S1))
        (subf (broadcastInDim S15 ![] bcast_S_S15 (constant (F := Ideal) S_ .f32 0x3F800000#32))
          (Host.divf (sitofp .f32 (iotaInDim S15 32 0)) (broadcastInDim S15 ![] bcast_S_S15 (constant (F := Ideal) S_ .f32 0x41700000#32)))))
      (mulf (broadcastInDim S15 ![0] bcast_S1_S15_0 (shapeCast S1 (constant (F := Ideal) S_ .f32 0x41B00000#32) shapeCasts_S_S1))
        (Host.divf (sitofp .f32 (iotaInDim S15 32 0)) (broadcastInDim S15 ![] bcast_S_S15 (constant (F := Ideal) S_ .f32 0x41700000#32))))⟩,
    ⟨S1, broadcastInDim S1 ![] bcast_S_S1 (constant (F := Ideal) S_ .f32 0x41B00000#32)⟩] concatenates_S15_S1_S16_d0

/-- One over the width. -/
def inv : FVec Ideal S_ .f32 := Host.divf (constant (F := Ideal) S_ .f32 0x3F800000#32) (constant (F := Ideal) S_ .f32 0x3FA00000#32)

def musArr : FVec Ideal S1x512 .f32 :=
  Host.scatter scatter_S1x512_S2_S400_0_0_01_0 (fun _ b => b)
    (broadcastInDim S1x512 ![] bcast_S_S1x512 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (shapeCast S400 (broadcastInDim S25x16 ![0, 1] bcast_S1x16_S25x16_0_1
      (shapeCast S1x16 (mulf lin (broadcastInDim S16 ![] bcast_S_S16 inv)) shapeCasts_S16_S1x16)) shapeCasts_S25x16_S400)

def colvArr : FVec Ideal S1x512 .f32 :=
  Host.scatter scatter_S1x512_S2_S66_0_0_01_0 (fun _ b => b)
    (broadcastInDim S1x512 ![] bcast_S_S1x512 (constant (F := Ideal) S_ .f32 0xBF800000#32))
    (concatenate S2 0 [⟨S1, broadcastInDim S1 ![] bcast_S_S1 (constantI S_ 32 0#32)⟩, ⟨S1, broadcastInDim S1 ![] bcast_S_S1 (constantI S_ 32 400#32)⟩] concatenates_S1_S1_S2_d0)
    (sitofp .f32 (iotaInDim S66 32 0))

/-- The column's number over sixteen, as the host's floor division prints it. -/
def rowWord : IVec S400 32 :=
  have x : IVec S400 32 := iotaInDim S400 32 0
  have k : IVec S_ 32 := constantI S_ 32 16#32
  have quo : IVec S400 32 := Host.divsi x (broadcastInDim S400 ![] bcast_S_S400 k)
  have sg : IVec S400 1 := cmpi .ne (signi x) (broadcastInDim S400 ![] bcast_S_S400 (signi k))
  have rm : IVec S400 1 := cmpi .ne (Host.remsi x (broadcastInDim S400 ![] bcast_S_S400 k)) (broadcastInDim S400 ![] bcast_S_S400 (constantI S_ 32 0#32))
  select (andi sg rm) (subi quo (broadcastInDim S400 ![] bcast_S_S400 (constantI S_ 32 1#32))) quo

def pairArr : IVec S400x2 32 :=
  concatenate S400x2 1 [⟨S400x1, broadcastInDim S400x1 ![0] bcast_S400_S400x1_0
      (select (cmpi .slt rowWord (broadcastInDim S400 ![] bcast_S_S400 (constantI S_ 32 0#32)))
        (addi rowWord (broadcastInDim S400 ![] bcast_S_S400 (constantI S_ 32 32#32))) rowWord)⟩,
    ⟨S400x1, broadcastInDim S400x1 ![0] bcast_S400_S400x1_0
      (select (cmpi .slt (iotaInDim S400 32 0) (broadcastInDim S400 ![] bcast_S_S400 (constantI S_ 32 0#32)))
        (addi (iotaInDim S400 32 0) (broadcastInDim S400 ![] bcast_S_S400 (constantI S_ 32 512#32))) (iotaInDim S400 32 0))⟩] concatenates_S400x1_S400x1_S400x2_d1

def sArr : FVec Ideal S32x512 .f32 :=
  Host.scatter scatter_S32x512_S2_S66_0_0_01_0 (fun _ b => b)
    (Host.scatter scatter_S32x512_S400x2_S400_n_01_01_1 (fun _ b => b)
      (broadcastInDim S32x512 ![] bcast_S_S32x512 (constant (F := Ideal) S_ .f32 0x00000000#32)) pairArr
      (broadcastInDim S400 ![] bcast_S_S400 inv))
    (concatenate S2 0 [⟨S1, broadcastInDim S1 ![] bcast_S_S1 (constantI S_ 32 25#32)⟩, ⟨S1, broadcastInDim S1 ![] bcast_S_S1 (constantI S_ 32 400#32)⟩] concatenates_S1_S1_S2_d0)
    (broadcastInDim S66 ![] bcast_S_S66 (constant (F := Ideal) S_ .f32 0x3F800000#32))

open StableHlo in
set_option maxHeartbeats 4000000 in
set_option maxRecDepth 20000 in
theorem V_q (c : Dev nD) : V m c main_v53 = shapeCast S4x512x32x32 (m ((c : Thread nD τ).loc main_arg0)) shapeCasts_S2097152_S4x512x32x32 := by
  simp only [V, hostOps0, hostOps0_1, hostOps0_2, hostOps0_3, hostOps0_4, List.flatten_cons, List.flatten_nil, List.append_nil, List.cons_append, List.nil_append]
  after_reads_simp
  try rfl

open StableHlo in
set_option maxHeartbeats 4000000 in
set_option maxRecDepth 20000 in
theorem V_s (c : Dev nD) : V m c main_v52 = sArr := by
  simp only [V, hostOps0, hostOps0_1, hostOps0_2, hostOps0_3, hostOps0_4, List.flatten_cons, List.flatten_nil, List.append_nil, List.cons_append, List.nil_append]
  after_reads_simp
  try rfl

open StableHlo in
set_option maxHeartbeats 4000000 in
set_option maxRecDepth 20000 in
theorem V_w (c : Dev nD) : V m c main_v10 = wArr (m ((c : Thread nD τ).loc main_arg1)) (m ((c : Thread nD τ).loc main_arg3)) := by
  simp only [V, hostOps0, hostOps0_1, hostOps0_2, hostOps0_3, hostOps0_4, List.flatten_cons, List.flatten_nil, List.append_nil, List.cons_append, List.nil_append]
  after_reads_simp
  try rfl

open StableHlo in
set_option maxHeartbeats 4000000 in
set_option maxRecDepth 20000 in
theorem V_mus (c : Dev nD) : V m c main_v22 = musArr := by
  simp only [V, hostOps0, hostOps0_1, hostOps0_2, hostOps0_3, hostOps0_4, List.flatten_cons, List.flatten_nil, List.append_nil, List.cons_append, List.nil_append]
  after_reads_simp
  try rfl

open StableHlo in
set_option maxHeartbeats 4000000 in
set_option maxRecDepth 20000 in
theorem V_colv (c : Dev nD) : V m c main_v28 = colvArr := by
  simp only [V, hostOps0, hostOps0_1, hostOps0_2, hostOps0_3, hostOps0_4, List.flatten_cons, List.flatten_nil, List.append_nil, List.cons_append, List.nil_append]
  after_reads_simp
  try rfl

open StableHlo in
set_option maxHeartbeats 4000000 in
set_option maxRecDepth 20000 in
theorem V_brow (c : Dev nD) : V m c main_v4 = browArr (m ((c : Thread nD τ).loc main_arg2)) (m ((c : Thread nD τ).loc main_arg3)) := by
  simp only [V, hostOps0, hostOps0_1, hostOps0_2, hostOps0_3, hostOps0_4, List.flatten_cons, List.flatten_nil, List.append_nil, List.cons_append, List.nil_append]
  after_reads_simp
  try rfl

open StableHlo in
set_option maxHeartbeats 4000000 in
set_option maxRecDepth 20000 in
theorem V_scale (c : Dev nD) : V m c main_v54 = shapeCast S1x128 (m ((c : Thread nD τ).loc main_arg4)) shapeCasts_S128_S1x128 := by
  simp only [V, hostOps0, hostOps0_1, hostOps0_2, hostOps0_3, hostOps0_4, List.flatten_cons, List.flatten_nil, List.append_nil, List.cons_append, List.nil_append]
  after_reads_simp
  try rfl

open StableHlo in
set_option maxHeartbeats 4000000 in
set_option maxRecDepth 20000 in
theorem V_offset (c : Dev nD) : V m c main_v55 = shapeCast S1x128 (m ((c : Thread nD τ).loc main_arg5)) shapeCasts_S128_S1x128 := by
  simp only [V, hostOps0, hostOps0_1, hostOps0_2, hostOps0_3, hostOps0_4, List.flatten_cons, List.flatten_nil, List.append_nil, List.cons_append, List.nil_append]
  after_reads_simp
  try rfl

end Cert.Edge

end
-- ==== Proof.EdgeReads.lean ====
/-
  The arrays of `EdgeHost.lean` read at an element.
-/
module

public import proofs.«01_k».proof.Proof.EdgeHost
public import Idealize.ShloMosaic.Lib.Pointwise
public import Idealize.ShloMosaic.Lib.StableHlo.Predicate
public import Idealize.ShloMosaic.Lib.Routing.Words
public import Idealize.ShloMosaic.Lib.DynamicIndex
public import Idealize.ShloMosaic.Lib.Affine

@[expose] public section

noncomputable section

namespace Cert.Edge

open Idealize.ShloMosaic Cert.EdgesIdeal Cert.EdgesIdeal.Gen

theorem one_eq : Ideal.ofBits .f32 0x3F800000#32 = 1 := by
  simp [Ideal.ofBits, Ideal.ieee]
  rw [← EReal.coe_mul]
  norm_num

theorem width_eq : Ideal.ofBits .f32 0x3FA00000#32 = ((5 / 4 : ℝ) : EReal) := by
  simp [Ideal.ofBits, Ideal.ieee]
  rw [← EReal.coe_mul]
  norm_num

theorem inv_at (i : S_.Idx) : inv i = ((4 / 5 : ℝ) : EReal) := by
  show Ideal.div (Ideal.ofBits .f32 0x3F800000#32) (Ideal.ofBits .f32 0x3FA00000#32) = _
  rw [one_eq, width_eq, Ideal.div_coe (by norm_num), one_mul]
  norm_num

theorem head_at (We : FVec Ideal S416x128 .f32) (j : Fin 16) (h : Fin 128) : head We (ix2 j h) = We (ix2 (⟨j.val, by omega⟩ : Fin 416) h) := by
  pointwise [head]

theorem brow_at (bp : FVec Ideal S16 .f32) (We : FVec Ideal S416x128 .f32) (h : Fin 128) :
    browArr bp We (ix2 (0 : Fin 1) h) = ∑ j : Fin 16, bp (ix1 j) * We (ix2 (⟨j.val, by omega⟩ : Fin 416) h) := by
  pointwise [browArr, head]

theorem rows66 (r : Fin 512) (h : Fin 128) (x0 : FVec Ideal S512x128 .f32) (upd : FVec Ideal S66x128 .f32) :
    Host.scatter scatter_S512x128_S1_S66x128_01_n_0_0 (fun _ b => b) x0 (broadcastInDim S1 ![] bcast_S_S1 (constantI S_ 32 400#32)) upd (ix2 r h)
      = if hr : 400 ≤ r.val ∧ r.val - 400 < 66 then upd (ix2 (⟨r.val - 400, hr.2⟩ : Fin 66) h) else x0 (ix2 r h) := by
  rw [ix2_eq_valueIdx]
  refine (set_rows (R := 512) (C := 128) (A := 66) Gen.facts.scatter_S512x128_S1_S66x128_01_n_0_0_wf 400 (broadcastInDim S1 ![] bcast_S_S1 (constantI S_ 32 400#32)) (by show (400#32 : BitVec 32).toInt = _; decide) x0 upd r h).trans ?_
  simp only [ix2_eq_valueIdx]

theorem rows400 (r : Fin 512) (h : Fin 128) (x0 : FVec Ideal S512x128 .f32) (upd : FVec Ideal S400x128 .f32) :
    Host.scatter scatter_S512x128_S1_S400x128_01_n_0_0 (fun _ b => b) x0 (broadcastInDim S1 ![] bcast_S_S1 (constantI S_ 32 0#32)) upd (ix2 r h)
      = if hr : 0 ≤ r.val ∧ r.val - 0 < 400 then upd (ix2 (⟨r.val - 0, hr.2⟩ : Fin 400) h) else x0 (ix2 r h) := by
  rw [ix2_eq_valueIdx]
  refine (set_rows (R := 512) (C := 128) (A := 400) Gen.facts.scatter_S512x128_S1_S400x128_01_n_0_0_wf 0 (broadcastInDim S1 ![] bcast_S_S1 (constantI S_ 32 0#32)) (by show (0#32 : BitVec 32).toInt = _; decide) x0 upd r h).trans ?_
  simp only [ix2_eq_valueIdx]

theorem w_at (Wp : FVec Ideal S66x16 .f32) (We : FVec Ideal S416x128 .f32) (r : Fin 512) (h : Fin 128) :
    wArr Wp We (ix2 r h) = if hr : 400 ≤ r.val ∧ r.val - 400 < 66 then
        ∑ j : Fin 16, Wp (ix2 (⟨r.val - 400, hr.2⟩ : Fin 66) j) * We (ix2 (⟨j.val, by omega⟩ : Fin 416) h)
      else if hr : r.val < 400 then We (ix2 (⟨16 + r.val, by omega⟩ : Fin 416) h) else 0 := by
  unfold wArr
  rw [rows66, rows400]
  split
  · pointwise [head]
  · by_cases hr : r.val < 400
    · rw [dif_pos ⟨Nat.zero_le _, hr⟩, dif_pos hr]
      pointwise
    · rw [dif_neg (fun h => hr h.2), dif_neg hr]
      pointwise

/-- Two words one after the other. -/
def two (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem two_0 (a b : BitVec 32) : two a b (ValueIdx.ix1 (0 : Fin 2)) = a := by
  rw [← ix1_eq_valueIdx]
  pointwise [two]

theorem two_1 (a b : BitVec 32) : two a b (ValueIdx.ix1 (1 : Fin 2)) = b := by
  rw [← ix1_eq_valueIdx]
  pointwise [two]

theorem part400 (c : Fin 512) (x0 : FVec Ideal S1x512 .f32) (upd : FVec Ideal S400 .f32) :
    Host.scatter scatter_S1x512_S2_S400_0_0_01_0 (fun _ b => b) x0 (two 0#32 0#32) upd (ix2 (0 : Fin 1) c)
      = if h : 0 = (0 : Fin 1).val ∧ 0 ≤ c.val ∧ c.val - 0 < 400 then upd (ix1 (⟨c.val - 0, h.2.2⟩ : Fin 400)) else x0 (ix2 (0 : Fin 1) c) := by
  rw [ix2_eq_valueIdx]
  refine (set_part (R := 1) (C := 512) (A := 400) Gen.facts.scatter_S1x512_S2_S400_0_0_01_0_wf 0 0 (two 0#32 0#32)
    (by rw [two_0]; decide) (by rw [two_1]; decide) x0 upd 0 c).trans ?_
  simp only [ix1_eq_valueIdx]

theorem part66 (c : Fin 512) (x0 : FVec Ideal S1x512 .f32) (upd : FVec Ideal S66 .f32) :
    Host.scatter scatter_S1x512_S2_S66_0_0_01_0 (fun _ b => b) x0 (two 0#32 400#32) upd (ix2 (0 : Fin 1) c)
      = if h : 0 = (0 : Fin 1).val ∧ 400 ≤ c.val ∧ c.val - 400 < 66 then upd (ix1 (⟨c.val - 400, h.2.2⟩ : Fin 66)) else x0 (ix2 (0 : Fin 1) c) := by
  rw [ix2_eq_valueIdx]
  refine (set_part (R := 1) (C := 512) (A := 66) Gen.facts.scatter_S1x512_S2_S66_0_0_01_0_wf 0 400 (two 0#32 400#32)
    (by rw [two_0]; decide) (by rw [two_1]; decide) x0 upd 0 c).trans ?_
  simp only [ix1_eq_valueIdx]

theorem part25 (k : Fin 32) (c : Fin 512) (x0 : FVec Ideal S32x512 .f32) (upd : FVec Ideal S66 .f32) :
    Host.scatter scatter_S32x512_S2_S66_0_0_01_0 (fun _ b => b) x0 (two 25#32 400#32) upd (ix2 k c)
      = if h : 25 = k.val ∧ 400 ≤ c.val ∧ c.val - 400 < 66 then upd (ix1 (⟨c.val - 400, h.2.2⟩ : Fin 66)) else x0 (ix2 k c) := by
  rw [ix2_eq_valueIdx]
  refine (set_part (R := 32) (C := 512) (A := 66) Gen.facts.scatter_S32x512_S2_S66_0_0_01_0_wf 25 400 (two 25#32 400#32)
    (by rw [two_0]; decide) (by rw [two_1]; decide) x0 upd k c).trans ?_
  simp only [ix1_eq_valueIdx]

theorem mus_at (c : Fin 512) (hc : c.val < 400) :
    musArr (ix2 (0 : Fin 1) c) = lin (ix1 (⟨c.val % 16, Nat.mod_lt _ (by decide)⟩ : Fin 16)) * ((4 / 5 : ℝ) : EReal) := by
  refine (part400 c _ _).trans ?_
  rw [dif_pos ⟨rfl, Nat.zero_le _, hc⟩]
  pointwise
  rw [inv_at]

theorem colv_at (c : Fin 512) :
    colvArr (ix2 (0 : Fin 1) c) = if 400 ≤ c.val ∧ c.val < 466 then (((c.val - 400 : ℕ) : ℝ) : EReal) else ((-1 : ℝ) : EReal) := by
  refine (part66 c _ _).trans ?_
  split
  · next h =>
    rw [if_pos ⟨h.2.1, by omega⟩]
    show (((BitVec.ofNat 32 (c.val - 400)).toInt : ℝ) : EReal) = _
    rw [toInt_ofNat_of_lt (by omega)]
    norm_cast
  · next h =>
    rw [if_neg (fun g => h ⟨rfl, g.1, by omega⟩)]
    show Ideal.ofBits .f32 0xBF800000#32 = _
    simp [Ideal.ofBits, Ideal.ieee]
    rw [← EReal.coe_mul]
    norm_num

theorem rowWord_at (c : Fin 400) : rowWord (ix1 c) = BitVec.ofNat 32 (c.val / 16) :=
  Routing.pyDiv_ap (s := S400) bcast_S_S400 (iotaInDim S400 32 0) (constantI S_ 32 16#32) (ix1 c) (a := c.val) (b := 16) rfl rfl (by omega) (by omega) (by omega)

theorem pair0 (c : Fin 400) : (pairArr (ix2 c (0 : Fin 2))).toInt = ((c.val / 16 : ℕ) : Int) := by
  have e : pairArr (ix2 c (0 : Fin 2)) = rowWord (ix1 c) := by
    pointwise [pairArr]
    rw [rowWord_at]
    exact if_neg (by
      intro h
      have h := IntOp.cmpi_slt.1 h
      rw [toInt_ofNat_of_lt (by omega), show (0#32 : BitVec 32).toInt = 0 from by decide] at h
      omega)
  rw [e, rowWord_at, toInt_ofNat_of_lt (by omega)]

theorem pair1 (c : Fin 400) : (pairArr (ix2 c (1 : Fin 2))).toInt = (c.val : Int) := by
  have e : pairArr (ix2 c (1 : Fin 2)) = BitVec.ofNat 32 c.val := by
    pointwise [pairArr]
    exact if_neg (by
      intro h
      have h := IntOp.cmpi_slt.1 h
      rw [toInt_ofNat_of_lt (by omega), show (0#32 : BitVec 32).toInt = 0 from by decide] at h
      omega)
  rw [e, toInt_ofNat_of_lt (by omega)]

theorem s_at (k : Fin 32) (c : Fin 512) :
    sArr (ix2 k c) = if 400 ≤ c.val ∧ c.val < 466 then (if k.val = 25 then 1 else 0)
      else if c.val < 400 ∧ c.val / 16 = k.val then ((4 / 5 : ℝ) : EReal) else 0 := by
  refine (part25 k c _ _).trans ?_
  have inner := set_pairs (R := 32) (C := 512) (A := 400) Gen.facts.scatter_S32x512_S400x2_S400_n_01_01_1_wf pairArr (fun n => n / 16)
    (fun a => by rw [← ix2_eq_valueIdx]; exact pair0 a) (fun a => by rw [← ix2_eq_valueIdx]; exact pair1 a)
    (broadcastInDim S32x512 ![] bcast_S_S32x512 (constant (F := Ideal) S_ .f32 0x00000000#32))
    (broadcastInDim S400 ![] bcast_S_S400 inv) ((4 / 5 : ℝ) : EReal) (fun j => inv_at _) k c
  rw [← ix2_eq_valueIdx] at inner
  have zero : broadcastInDim S32x512 ![] bcast_S_S32x512 (constant (F := Ideal) S_ .f32 0x00000000#32) (ix2 k c) = 0 := by pointwise
  rw [zero] at inner
  split
  · next h =>
    rw [if_pos ⟨h.2.1, by omega⟩, if_pos h.1.symm]
    exact one_eq
  · next h =>
    refine inner.trans ?_
    by_cases h1 : 400 ≤ c.val ∧ c.val < 466
    · rw [if_pos h1, if_neg (by omega), if_neg (by omega)]
    · rw [if_neg h1]

theorem ofBits_real : Ideal.ofBits .f32 0x40000000#32 = ((2 : ℝ) : EReal) ∧ Ideal.ofBits .f32 0x41B00000#32 = ((22 : ℝ) : EReal) ∧ Ideal.ofBits .f32 0x41700000#32 = ((15 : ℝ) : EReal) := by
  refine ⟨?_, ?_, ?_⟩ <;> (simp [Ideal.ofBits, Ideal.ieee]; rw [← EReal.coe_mul]; norm_num)

theorem lin_real (j : Fin 16) : ∃ r : ℝ, lin (ix1 j) = (r : EReal) := by
  by_cases hj : j.val < 15
  · have e : lin (ix1 j) = ((2 : ℝ) : EReal) * (1 - Ideal.div (((BitVec.ofNat 32 j.val).toInt : ℝ) : EReal) ((15 : ℝ) : EReal))
        + ((22 : ℝ) : EReal) * Ideal.div (((BitVec.ofNat 32 j.val).toInt : ℝ) : EReal) ((15 : ℝ) : EReal) := by
      rw [← ofBits_real.1, ← ofBits_real.2.1, ← ofBits_real.2.2, ← one_eq]
      pointwise [lin]
      rw [dif_pos hj]
      rfl
    rw [e, Ideal.div_coe (by norm_num)]
    exact ⟨2 * (1 - ((BitVec.ofNat 32 j.val).toInt : ℝ) * (1 / 15)) + 22 * (((BitVec.ofNat 32 j.val).toInt : ℝ) * (1 / 15)), by push_cast; rfl⟩
  · refine ⟨22, ?_⟩
    rw [← ofBits_real.2.1]
    pointwise [lin]
    rw [dif_neg hj]

end Cert.Edge

end
-- ==== Proof.EdgeMath.lean ====
/-
  The edge features over the extended reals: the reference's order of sums and the kernel's give one value.
-/
module

public import proofs.«01_k».proof.Proof.EdgeReads

@[expose] public section

noncomputable section

namespace Cert.Edge

open Idealize.ShloMosaic Cert.EdgesIdeal Cert.EdgesIdeal.Gen

/-- The distance of an atom pair from its squared distance. -/
def dist (x : EReal) : EReal := Ideal.sqrt (x + Ideal.ofBits .f32 0x358637BD#32)

/-- Column `c` of the radial basis: pair `c / 16`, centre `c % 16`. -/
def rbf (q : Fin 32 → EReal) (c : Fin 400) : EReal :=
  let z := Ideal.div (dist (q ⟨c.val / 16, by omega⟩) - lin (ix1 (⟨c.val % 16, Nat.mod_lt _ (by decide)⟩ : Fin 16))) (Ideal.ofBits .f32 0x3FA00000#32)
  Ideal.exp (-(z * z))

/-- Column `r` of the one-hot row of `x`. -/
def oneh (x : EReal) (r : Fin 66) : EReal := if x = ((r.val : ℝ) : EReal) then 1 else 0

/-- One output feature before the normalisation. -/
def feat (q : Fin 32 → EReal) (Wp : FVec Ideal S66x16 .f32) (bp : FVec Ideal S16 .f32) (We : FVec Ideal S416x128 .f32) (h : Fin 128) : EReal :=
  (∑ j : Fin 16, ((∑ r : Fin 66, oneh (q 25) r * Wp (ix2 r j)) + bp (ix1 j)) * We (ix2 (⟨j.val, by omega⟩ : Fin 416) h))
    + ∑ c : Fin 400, rbf q c * We (ix2 (⟨16 + c.val, by omega⟩ : Fin 416) h)

theorem scaled_sub (D : EReal) (r : ℝ) :
    D * ((4 / 5 : ℝ) : EReal) - (r : EReal) * ((4 / 5 : ℝ) : EReal) = Ideal.div (D - r) (Ideal.ofBits .f32 0x3FA00000#32) := by
  rw [width_eq, Ideal.div_coe (by norm_num), show (1 / (5 / 4) : ℝ) = 4 / 5 from by norm_num]
  have h : (0 : ℝ) < 4 / 5 := by norm_num
  induction D using EReal.rec with
  | bot => rw [EReal.bot_sub, EReal.bot_mul_coe_of_pos h, ← EReal.coe_mul, EReal.bot_sub]
  | top => rw [EReal.top_sub_coe, EReal.top_mul_coe_of_pos h, ← EReal.coe_mul, EReal.top_sub_coe]
  | coe d =>
    norm_cast
    ring

theorem add_mul_real (x : EReal) (b w : ℝ) : (x + b) * (w : EReal) = x * w + (b : EReal) * w := by
  induction x using EReal.rec with
  | bot =>
    rw [EReal.bot_add]
    rcases lt_trichotomy w 0 with h | h | h
    · rw [EReal.bot_mul_coe_of_neg h, ← EReal.coe_mul, EReal.top_add_coe]
    · subst h; simp
    · rw [EReal.bot_mul_coe_of_pos h, EReal.bot_add]
  | top =>
    rw [EReal.top_add_coe]
    rcases lt_trichotomy w 0 with h | h | h
    · rw [EReal.top_mul_coe_of_neg h, EReal.bot_add]
    · subst h; simp
    · rw [EReal.top_mul_coe_of_pos h, ← EReal.coe_mul, EReal.top_add_coe]
  | coe x =>
    norm_cast
    ring

theorem oneh_sum (x : EReal) (g : Fin 66 → EReal) (r : Fin 66) (h : x = ((r.val : ℝ) : EReal)) : ∑ i : Fin 66, oneh x i * g i = g r := by
  rw [Finset.sum_eq_single r]
  · rw [oneh, if_pos h, one_mul]
  · intro i _ hi
    rw [oneh, if_neg, zero_mul]
    intro hx
    rw [h] at hx
    have : (r.val : ℝ) = i.val := by exact_mod_cast hx
    exact hi (Fin.ext (by exact_mod_cast this.symm))
  · intro h
    exact absurd (Finset.mem_univ _) h

theorem oneh_zero (x : EReal) (g : Fin 66 → EReal) (h : ∀ r : Fin 66, x ≠ ((r.val : ℝ) : EReal)) : ∑ i : Fin 66, oneh x i * g i = 0 :=
  Finset.sum_eq_zero fun i _ => by rw [oneh, if_neg (h i), zero_mul]

/-- The position features through the edge weights: the kernel multiplies the weights first. -/
theorem swap (x : EReal) (Wp : Fin 66 → Fin 16 → EReal) (bp we : Fin 16 → EReal) (hb : ∀ j, (∃ r : ℝ, bp j = r) ∨ we j = 0) (hw : ∀ j, ∃ r : ℝ, we j = r) :
    ∑ j : Fin 16, ((∑ r : Fin 66, oneh x r * Wp r j) + bp j) * we j
      = (∑ r : Fin 66, oneh x r * ∑ j : Fin 16, Wp r j * we j) + ∑ j : Fin 16, bp j * we j := by
  have split : ∀ y : Fin 16 → EReal, ∑ j : Fin 16, (y j + bp j) * we j = (∑ j : Fin 16, y j * we j) + ∑ j : Fin 16, bp j * we j := by
    intro y
    rw [← Finset.sum_add_distrib]
    refine Finset.sum_congr rfl fun j _ => ?_
    rcases hb j with ⟨b, eb⟩ | e
    · obtain ⟨w, ew⟩ := hw j
      rw [eb, ew, add_mul_real]
    · rw [e, mul_zero, mul_zero, mul_zero, add_zero]
  rw [split]
  congr 1
  by_cases h : ∃ r : Fin 66, x = ((r.val : ℝ) : EReal)
  · obtain ⟨r, h⟩ := h
    rw [oneh_sum x _ r h]
    exact Finset.sum_congr rfl fun j _ => by rw [oneh_sum x (fun i => Wp i j) r h]
  · have h : ∀ r : Fin 66, x ≠ ((r.val : ℝ) : EReal) := fun r e => h ⟨r, e⟩
    rw [oneh_zero x _ h]
    exact Finset.sum_eq_zero fun j _ => by rw [oneh_zero x (fun i => Wp i j) h, zero_mul]

theorem sq_nonneg (d : EReal) : 0 ≤ d * d := by
  induction d using EReal.rec with
  | bot => rw [EReal.bot_mul_bot]; exact le_top
  | top => rw [EReal.top_mul_top]; exact le_top
  | coe d => rw [← EReal.coe_mul]; exact_mod_cast mul_self_nonneg d

theorem rows_eq : Ideal.ofBits .f32 0x43000000#32 = ((128 : ℝ) : EReal) := by
  simp [Ideal.ofBits, Ideal.ieee]
  try rw [← EReal.coe_mul]
  try norm_num

theorem eps_pos : ∃ e : ℝ, 0 < e ∧ Ideal.ofBits .f32 0x3727C5AC#32 = (e : EReal) := by
  refine ⟨10995116 / 2 ^ 40, by norm_num, ?_⟩
  simp [Ideal.ofBits, Ideal.ieee]
  try rw [← EReal.coe_mul]
  try norm_num

theorem mul_rsqrt (x y : EReal) (hy : 0 < y) : x * Ideal.rsqrt y = Ideal.div x (Ideal.sqrt y) := by
  induction y using EReal.rec with
  | bot => exact absurd hy (by simp)
  | top => rw [Ideal.rsqrt_top, Ideal.sqrt_top, Ideal.div, if_neg (by simp), EReal.inv_top]
  | coe r =>
    have h : 0 < r := by exact_mod_cast hy
    have hs : Real.sqrt r ≠ 0 := (Real.sqrt_pos.2 h).ne'
    rw [Ideal.rsqrt_coe, Ideal.sqrt_coe, if_neg h.le.not_gt, if_neg h.ne', if_neg h.le.not_gt, Ideal.div_coe hs, one_div]

/-- The normalised row, as the reference has it. -/
def norm (v : Fin 128 → EReal) (h : Fin 128) (g o : EReal) : EReal :=
  let mu := Ideal.div (∑ x, v x) (Ideal.ofBits .f32 0x43000000#32)
  Ideal.div (v h - mu) (Ideal.sqrt (Ideal.div (∑ x, (v x - mu) * (v x - mu)) (Ideal.ofBits .f32 0x43000000#32) + Ideal.ofBits .f32 0x3727C5AC#32)) * g + o

theorem norm_rsqrt (v : Fin 128 → EReal) (h : Fin 128) (g o : EReal) :
    (v h - Ideal.div (∑ x, v x) (Ideal.ofBits .f32 0x43000000#32))
        * Ideal.rsqrt (Ideal.div (∑ x, (v x - Ideal.div (∑ x, v x) (Ideal.ofBits .f32 0x43000000#32)) * (v x - Ideal.div (∑ x, v x) (Ideal.ofBits .f32 0x43000000#32)))
            (Ideal.ofBits .f32 0x43000000#32) + Ideal.ofBits .f32 0x3727C5AC#32) * g + o = norm v h g o := by
  rw [mul_rsqrt]
  · rfl
  · obtain ⟨e, he, ee⟩ := eps_pos
    rw [ee, rows_eq, Ideal.div_coe (by norm_num)]
    have h0 : 0 ≤ (∑ x, (v x - Ideal.div (∑ x, v x) ((128 : ℝ) : EReal)) * (v x - Ideal.div (∑ x, v x) ((128 : ℝ) : EReal))) * ((1 / 128 : ℝ) : EReal) :=
      mul_nonneg (Finset.sum_nonneg fun x _ => sq_nonneg _) (by exact_mod_cast (by norm_num : (0 : ℝ) ≤ 1 / 128))
    have h1 : (0 : EReal) < (e : EReal) := by exact_mod_cast he
    exact lt_of_lt_of_le h1 (le_add_of_nonneg_left h0)

/-- Infinite, of either sign. -/
def Inf (x : EReal) : Prop := x = ⊤ ∨ x = ⊥

theorem inf_of_not_real {x : EReal} (h : ¬ ∃ r : ℝ, x = r) : Inf x := by
  induction x using EReal.rec with
  | bot => exact Or.inr rfl
  | top => exact Or.inl rfl
  | coe r => exact absurd ⟨r, rfl⟩ h

theorem Inf.add_left {x : EReal} (hx : Inf x) (y : EReal) : Inf (x + y) := by
  rcases hx with rfl | rfl
  · induction y using EReal.rec with
    | bot => exact Or.inr (EReal.add_bot _)
    | top => exact Or.inl rfl
    | coe r => exact Or.inl (EReal.top_add_coe r)
  · exact Or.inr (EReal.bot_add _)

theorem Inf.add_right {x : EReal} (hx : Inf x) (y : EReal) : Inf (y + x) := add_comm x y ▸ hx.add_left y

theorem Inf.sum {ι : Type} [Fintype ι] [DecidableEq ι] {f : ι → EReal} (i : ι) (h : Inf (f i)) : Inf (∑ x, f x) := by
  rw [← Finset.add_sum_erase _ _ (Finset.mem_univ i)]
  exact h.add_left _

theorem Inf.mul_real {x : EReal} (hx : Inf x) {r : ℝ} (hr : r ≠ 0) : Inf (x * (r : EReal)) := by
  rcases lt_or_gt_of_ne hr with h | h
  · rcases hx with rfl | rfl
    · exact Or.inr (EReal.top_mul_coe_of_neg h)
    · exact Or.inl (EReal.bot_mul_coe_of_neg h)
  · rcases hx with rfl | rfl
    · exact Or.inl (EReal.top_mul_coe_of_pos h)
    · exact Or.inr (EReal.bot_mul_coe_of_pos h)

theorem Inf.sub {x : EReal} (hx : Inf x) (y : EReal) : Inf (y - x) := by
  rw [sub_eq_add_neg]
  refine Inf.add_right ?_ y
  rcases hx with rfl | rfl
  · exact Or.inr EReal.neg_top
  · exact Or.inl EReal.neg_bot

theorem Inf.sq {x : EReal} (hx : Inf x) : x * x = ⊤ := by
  rcases hx with rfl | rfl
  · exact EReal.top_mul_top
  · exact EReal.bot_mul_bot

/-- A row with an infinite entry normalises to its offset. -/
theorem norm_inf {v : Fin 128 → EReal} (i : Fin 128) (hv : Inf (v i)) (h : Fin 128) (g o : EReal) : norm v h g o = 0 * g + o := by
  have hmu : Inf (Ideal.div (∑ x, v x) (Ideal.ofBits .f32 0x43000000#32)) := by
    rw [rows_eq, Ideal.div_coe (by norm_num)]
    exact (Inf.sum i hv).mul_real (by norm_num)
  unfold norm
  dsimp only
  generalize Ideal.div (∑ x, v x) (Ideal.ofBits .f32 0x43000000#32) = mu at hmu ⊢
  have hs : ∑ x, (v x - mu) * (v x - mu) = ⊤ := by
    have e : ∀ x, (v x - mu) * (v x - mu) = ⊤ := fun x => (hmu.sub _).sq
    refine (Inf.sum (f := fun x => (v x - mu) * (v x - mu)) i (Or.inl (e i))).resolve_right fun hb => ?_
    have h0 : (0 : EReal) ≤ ∑ x, (v x - mu) * (v x - mu) := Finset.sum_nonneg fun x _ => sq_nonneg _
    rw [hb] at h0
    exact absurd h0 (by simp)
  obtain ⟨e, -, ee⟩ := eps_pos
  rw [hs, ee, rows_eq, Ideal.div_coe (by norm_num), EReal.top_mul_coe_of_pos (by norm_num), EReal.top_add_coe, Ideal.sqrt_top, Ideal.div,
    if_neg (by simp), EReal.inv_top, mul_zero]

/-- One output feature in the kernel's order of sums. -/
def raw (q : Fin 32 → EReal) (Wp : FVec Ideal S66x16 .f32) (bp : FVec Ideal S16 .f32) (We : FVec Ideal S416x128 .f32) (h : Fin 128) : EReal :=
  ((∑ r : Fin 66, oneh (q 25) r * ∑ j : Fin 16, Wp (ix2 r j) * We (ix2 (⟨j.val, by omega⟩ : Fin 416) h))
      + ∑ j : Fin 16, bp (ix1 j) * We (ix2 (⟨j.val, by omega⟩ : Fin 416) h))
    + ∑ c : Fin 400, rbf q c * We (ix2 (⟨16 + c.val, by omega⟩ : Fin 416) h)

/-- Both orders normalise to one row: they agree at every feature, or each has an infinite one. -/
theorem norm_raw (q : Fin 32 → EReal) (Wp : FVec Ideal S66x16 .f32) (bp : FVec Ideal S16 .f32) (We : FVec Ideal S416x128 .f32)
    (hw : ∀ (j : Fin 16) (h : Fin 128), ∃ r : ℝ, We (ix2 (⟨j.val, by omega⟩ : Fin 416) h) = r) (h : Fin 128) (g o : EReal) :
    norm (raw q Wp bp We) h g o = norm (feat q Wp bp We) h g o := by
  by_cases hbad : ∃ (j : Fin 16) (x : Fin 128), Inf (bp (ix1 j)) ∧ We (ix2 (⟨j.val, by omega⟩ : Fin 416) x) ≠ 0
  · obtain ⟨j, x, hj, hx⟩ := hbad
    obtain ⟨r, hr⟩ := hw j x
    have hr0 : r ≠ 0 := fun e => hx (by rw [hr, e, EReal.coe_zero])
    rw [norm_inf x, norm_inf x]
    · refine Inf.add_left (Inf.sum j ?_) _
      rw [hr]
      exact (hj.add_right _).mul_real hr0
    · refine Inf.add_left (Inf.add_right (Inf.sum j ?_) _) _
      rw [hr]
      exact hj.mul_real hr0
  · refine congrArg (fun f => norm f h g o) (funext fun x => ?_)
    unfold raw feat
    refine congrArg (· + _) (swap (q 25) (fun r j => Wp (ix2 r j)) (fun j => bp (ix1 j)) (fun j => We (ix2 (⟨j.val, by omega⟩ : Fin 416) x)) (fun j => ?_) (fun j => hw j x)).symm
    by_cases hr : ∃ r : ℝ, bp (ix1 j) = r
    · exact Or.inl hr
    · exact Or.inr (not_not.1 fun hx => hbad ⟨j, x, inf_of_not_real hr, hx⟩)

end Cert.Edge

end
-- ==== Proof.EdgeBody.lean ====
/-
  One tile of the body, at one element.
-/
module

public import proofs.«01_k».proof.Proof.EdgeMath

@[expose] public section

noncomputable section

namespace Cert.Edge

open Idealize.ShloMosaic Cert.EdgesIdeal Cert.EdgesIdeal.Gen

/-- The kernel's row: distances where the column is a pair's, the code as it is. -/
def mix (q : Fin 32 → EReal) (x : Fin 32) : EReal :=
  Scalar.select (IntOp.cmpi .slt (BitVec.ofNat 32 x.val) 25#32) (Ideal.sqrt (q x + Ideal.ofBits .f32 0x358637BD#32)) (q x)

theorem below_iff (n k : ℕ) (hn : n < 2 ^ 31) (hk : k < 2 ^ 31) : IntOp.cmpi .slt (BitVec.ofNat 32 n) (BitVec.ofNat 32 k) = 1 ↔ n < k := by
  refine (IntOp.cmpi_slt (x := BitVec.ofNat 32 n) (y := BitVec.ofNat 32 k)).trans ?_
  rw [toInt_ofNat_of_lt hn, toInt_ofNat_of_lt hk]
  omega

theorem mix_lt (q : Fin 32 → EReal) (x : Fin 32) (h : x.val < 25) : mix q x = dist (q x) :=
  if_pos ((below_iff x.val 25 (by omega) (by omega)).2 h)

theorem mix_ge (q : Fin 32 → EReal) (x : Fin 32) (h : ¬ x.val < 25) : mix q x = q x :=
  if_neg (fun e => h ((below_iff x.val 25 (by omega) (by omega)).1 e))

/-- The row spread over the 512 columns. -/
def spread (q : Fin 32 → EReal) (c : Fin 512) : EReal := ∑ x : Fin 32, mix q x * sArr (ix2 x c)

theorem spread_lt (q : Fin 32 → EReal) (c : Fin 512) (h : c.val < 400) :
    spread q c = dist (q ⟨c.val / 16, by omega⟩) * ((4 / 5 : ℝ) : EReal) := by
  unfold spread
  rw [Finset.sum_eq_single (⟨c.val / 16, by omega⟩ : Fin 32)]
  · rw [s_at, if_neg (by omega), if_pos ⟨h, rfl⟩, mix_lt q _ (by show c.val / 16 < 25; omega)]
  · intro x _ hx
    rw [s_at, if_neg (by omega), if_neg (fun e => hx (Fin.ext e.2.symm)), mul_zero]
  · intro h
    exact absurd (Finset.mem_univ _) h

theorem spread_mid (q : Fin 32 → EReal) (c : Fin 512) (h : 400 ≤ c.val ∧ c.val < 466) : spread q c = q 25 := by
  unfold spread
  rw [Finset.sum_eq_single (25 : Fin 32)]
  · rw [s_at, if_pos h, if_pos (show (25 : Fin 32).val = 25 from rfl), mix_ge q _ (show ¬ (25 : Fin 32).val < 25 by decide), mul_one]
  · intro x _ hx
    rw [s_at, if_pos h, if_neg (fun e : x.val = 25 => hx (Fin.ext e)), mul_zero]
  · intro h
    exact absurd (Finset.mem_univ _) h

/-- The kernel's features: the radial basis below column 400, the comparison with the codes from there on. -/
def cell (q : Fin 32 → EReal) (c : Fin 512) : EReal :=
  Scalar.select (IntOp.cmpi .slt (BitVec.ofNat 32 c.val) 400#32)
    (Ideal.exp (0 - (spread q c - musArr (ix2 (0 : Fin 1) c)) * (spread q c - musArr (ix2 (0 : Fin 1) c))))
    (FloatOps.sitofp (F := Ideal) FTy.f32 (BitVec.setWidth 32 (BitVec.ofBool (decide (spread q c = colvArr (ix2 (0 : Fin 1) c))))))

theorem cell_lt (q : Fin 32 → EReal) (c : Fin 400) : cell q ⟨c.val, by omega⟩ = rbf q c := by
  unfold cell
  refine (if_pos ((below_iff c.val 400 (by omega) (by omega)).2 c.isLt)).trans ?_
  obtain ⟨r, hr⟩ := lin_real (⟨c.val % 16, Nat.mod_lt _ (by decide)⟩ : Fin 16)
  rw [spread_lt q _ c.isLt, mus_at _ c.isLt]
  unfold rbf
  rw [zero_sub]
  simp only [hr]
  rw [scaled_sub]

theorem cell_mid (q : Fin 32 → EReal) (r : Fin 66) : cell q ⟨400 + r.val, by omega⟩ = oneh (q 25) r := by
  unfold cell
  refine (if_neg (fun e => absurd ((below_iff (400 + r.val) 400 (by omega) (by omega)).1 e) (by omega))).trans ?_
  have hm : 400 ≤ (⟨400 + r.val, by omega⟩ : Fin 512).val ∧ (⟨400 + r.val, by omega⟩ : Fin 512).val < 466 :=
    ⟨by show 400 ≤ 400 + r.val; omega, by show 400 + r.val < 466; omega⟩
  rw [spread_mid q _ hm, colv_at, if_pos hm]
  have e : (⟨400 + r.val, by omega⟩ : Fin 512).val - 400 = r.val := by show 400 + r.val - 400 = r.val; omega
  rw [e]
  unfold oneh
  by_cases h : q 25 = ((r.val : ℝ) : EReal)
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

theorem sum_512 (f : Fin 512 → EReal) :
    ∑ c : Fin 512, f c = (∑ c : Fin 400, f ⟨c.val, by omega⟩) + ((∑ c : Fin 66, f ⟨400 + c.val, by omega⟩) + ∑ c : Fin 46, f ⟨466 + c.val, by omega⟩) := by
  refine (Fin.sum_univ_add (a := 400) (b := 112) f).trans ?_
  congr 1
  refine (Fin.sum_univ_add (a := 66) (b := 46) (fun c => f (Fin.natAdd 400 c))).trans ?_
  refine congrArg₂ (· + ·) rfl (Finset.sum_congr rfl fun (c : Fin 46) _ => congrArg f (Fin.ext ?_))
  show 400 + (66 + c.val) = 466 + c.val
  omega

theorem cells_sum (q : Fin 32 → EReal) (Wp : FVec Ideal S66x16 .f32) (bp : FVec Ideal S16 .f32) (We : FVec Ideal S416x128 .f32)
    (h : Fin 128) :
    (∑ c : Fin 512, cell q c * wArr Wp We (ix2 c h)) + browArr bp We (ix2 (0 : Fin 1) h) = raw q Wp bp We h := by
  rw [sum_512]
  have e0 : ∀ c : Fin 400, cell q ⟨c.val, by omega⟩ * wArr Wp We (ix2 (⟨c.val, by omega⟩ : Fin 512) h) = rbf q c * We (ix2 (⟨16 + c.val, by omega⟩ : Fin 416) h) := by
    intro c
    rw [cell_lt, w_at, dif_neg (by show ¬ (400 ≤ c.val ∧ c.val - 400 < 66); omega), dif_pos (by show c.val < 400; omega)]
  have e1 : ∀ r : Fin 66, cell q ⟨400 + r.val, by omega⟩ * wArr Wp We (ix2 (⟨400 + r.val, by omega⟩ : Fin 512) h)
      = oneh (q 25) r * ∑ j : Fin 16, Wp (ix2 r j) * We (ix2 (⟨j.val, by omega⟩ : Fin 416) h) := by
    intro r
    rw [cell_mid, w_at, dif_pos (show 400 ≤ 400 + r.val ∧ 400 + r.val - 400 < 66 by omega)]
    have e : (⟨400 + r.val - 400, by omega⟩ : Fin 66) = r := Fin.ext (by show 400 + r.val - 400 = r.val; omega)
    simp only [e]
  have e2 : ∀ c : Fin 46, cell q ⟨466 + c.val, by omega⟩ * wArr Wp We (ix2 (⟨466 + c.val, by omega⟩ : Fin 512) h) = 0 := by
    intro c
    rw [w_at, dif_neg (by show ¬ (400 ≤ 466 + c.val ∧ 466 + c.val - 400 < 66); omega), dif_neg (by show ¬ 466 + c.val < 400; omega), mul_zero]
  rw [Finset.sum_congr rfl fun c _ => e0 c, Finset.sum_congr rfl fun c _ => e1 c, Finset.sum_congr rfl fun c _ => e2 c, Finset.sum_const_zero, add_zero, brow_at]
  unfold raw
  rw [add_assoc, add_comm]

set_option maxHeartbeats 2000000 in
theorem acc_at (v0 : FVec Ideal S1x32x32x32 .f32) (Wp : FVec Ideal S66x16 .f32) (bp : FVec Ideal S16 .f32) (We : FVec Ideal S416x128 .f32)
    (a k : Fin 32) (h : Fin 128) :
    k0_pay2 (F := Ideal) v0 sArr musArr colvArr (wArr Wp We) (browArr bp We) (ix2 (⟨a.val * 32 + k.val, by omega⟩ : Fin 1024) h)
      = raw (fun x => v0 (ix4 (0 : Fin 1) a k x)) Wp bp We h := by
  refine Eq.trans ?_ (cells_sum (fun x => v0 (ix4 (0 : Fin 1) a k x)) Wp bp We h)
  pointwise [k0_pay2]
  rfl

set_option maxHeartbeats 2000000 in
theorem pay1_at (v : FVec Ideal S1024x128 .f32) (g o : FVec Ideal S1x128 .f32) (a : Fin 32) (k : Fin 30) (h : Fin 128) :
    k0_pay1 (F := Ideal) v g o (ix4 (0 : Fin 1) a k h)
      = norm (fun x => v (ix2 (⟨a.val * 32 + k.val, by omega⟩ : Fin 1024) x)) h (g (ix2 (0 : Fin 1) h)) (o (ix2 (0 : Fin 1) h)) := by
  refine Eq.trans ?_ (norm_rsqrt _ _ _ _)
  pointwise [k0_pay1]

/-- One tile's output block at an element. -/
theorem tile_at (v0 : FVec Ideal S1x32x32x32 .f32) (Wp : FVec Ideal S66x16 .f32) (bp : FVec Ideal S16 .f32) (We : FVec Ideal S416x128 .f32)
    (g o : FVec Ideal S1x128 .f32)
    (hw : ∀ (j : Fin 16) (h : Fin 128), ∃ r : ℝ, We (ix2 (⟨j.val, by omega⟩ : Fin 416) h) = r)
    (a : Fin 32) (k : Fin 30) (h : Fin 128) :
    k0_pay1 (F := Ideal) (k0_pay2 (F := Ideal) v0 sArr musArr colvArr (wArr Wp We) (browArr bp We)) g o (ix4 (0 : Fin 1) a k h)
      = norm (feat (fun x => v0 (ix4 (0 : Fin 1) a (⟨k.val, by omega⟩ : Fin 32) x)) Wp bp We) h (g (ix2 (0 : Fin 1) h)) (o (ix2 (0 : Fin 1) h)) := by
  rw [pay1_at]
  exact (congrArg (fun f => norm f h _ _) (funext fun x => acc_at v0 Wp bp We a ⟨k.val, by omega⟩ x)).trans (norm_raw _ Wp bp We hw h _ _)

end Cert.Edge

end
-- ==== Proof.EdgeValue.lean ====
/-
  The array the call leaves.
-/
module

public import proofs.«01_k».proof.Proof.EdgeBody
public import Idealize.ShloMosaic.Lib.Pipeline.ValueKit
public import Idealize.ShloMosaic.Lib.Claim

@[expose] public section

noncomputable section

namespace Cert.Edge

open Idealize.ShloMosaic Idealize.ShloMosaic.TcCoe Idealize.SL.Sem Cert.EdgesIdeal Cert.EdgesIdeal.Gen

/-- The edge features of the gathered distances and codes. -/
def edges (q : FVec Ideal S4x512x32x32 .f32) (Wp : FVec Ideal S66x16 .f32) (bp : FVec Ideal S16 .f32) (We : FVec Ideal S416x128 .f32)
    (g o : FVec Ideal S128 .f32) : FVec Ideal S4x512x30x128 .f32 := fun i =>
  norm (feat (fun x => q (ix4 (i 0 : Fin 4) (i 1 : Fin 512) (⟨(i 2).val, Nat.lt_trans (i 2).isLt (by decide)⟩ : Fin 32) x)) Wp bp We) (i 3)
    (g (ix1 (i 3 : Fin 128))) (o (ix1 (i 3 : Fin 128)))

variable (m : (ℓ : Loc nD τ sig) → Buf (Elt Ideal) ℓ)

theorem idx0 : ∀ t : Fin cfg0.N, win0_0.index t = ![(grid0.coords t 0).val, (grid0.coords t 1).val, 0, 0] :=
  (by decide +kernel : ∀ t : Fin grid0.N, _)
theorem idx8 : ∀ t : Fin cfg0.N, win0_8.index t = ![(grid0.coords t 0).val, (grid0.coords t 1).val, 0, 0] :=
  (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

theorem blk1 (c : Dev nD) (t : Fin cfg0.N) : (iblk m c 1 t : FVec Ideal S32x512 .f32) = sArr := by
  funext y
  blk_simp [iblk, idx1]
  refine (congrFun (V_s m c) _).trans (congrArg sArr ?_)
  blk_ext [idx1]

theorem blk2 (c : Dev nD) (t : Fin cfg0.N) : (iblk m c 2 t : FVec Ideal S512x128 .f32) = wArr (m ((c : Thread nD τ).loc main_arg1)) (m ((c : Thread nD τ).loc main_arg3)) := by
  funext y
  blk_simp [iblk, idx2]
  refine (congrFun (V_w m c) _).trans (congrArg (wArr _ _) ?_)
  blk_ext [idx2]

theorem blk3 (c : Dev nD) (t : Fin cfg0.N) : (iblk m c 3 t : FVec Ideal S1x512 .f32) = musArr := by
  funext y
  blk_simp [iblk, idx3]
  refine (congrFun (V_mus m c) _).trans (congrArg musArr ?_)
  blk_ext [idx3]

theorem blk4 (c : Dev nD) (t : Fin cfg0.N) : (iblk m c 4 t : FVec Ideal S1x512 .f32) = colvArr := by
  funext y
  blk_simp [iblk, idx4]
  refine (congrFun (V_colv m c) _).trans (congrArg colvArr ?_)
  blk_ext [idx4]

theorem blk5 (c : Dev nD) (t : Fin cfg0.N) : (iblk m c 5 t : FVec Ideal S1x128 .f32) = browArr (m ((c : Thread nD τ).loc main_arg2)) (m ((c : Thread nD τ).loc main_arg3)) := by
  funext y
  blk_simp [iblk, idx5]
  refine (congrFun (V_brow m c) _).trans (congrArg (browArr _ _) ?_)
  blk_ext [idx5]

theorem blk6 (c : Dev nD) (t : Fin cfg0.N) : (iblk m c 6 t : FVec Ideal S1x128 .f32) = shapeCast S1x128 (m ((c : Thread nD τ).loc main_arg4)) shapeCasts_S128_S1x128 := by
  funext y
  blk_simp [iblk, idx6]
  refine (congrFun (V_scale m c) _).trans (congrArg (shapeCast S1x128 _ _) ?_)
  blk_ext [idx6]

theorem blk7 (c : Dev nD) (t : Fin cfg0.N) : (iblk m c 7 t : FVec Ideal S1x128 .f32) = shapeCast S1x128 (m ((c : Thread nD τ).loc main_arg5)) shapeCasts_S128_S1x128 := by
  funext y
  blk_simp [iblk, idx7]
  refine (congrFun (V_offset m c) _).trans (congrArg (shapeCast S1x128 _ _) ?_)
  blk_ext [idx7]

theorem norm_congr {v v' : Fin 128 → EReal} {h h' : Fin 128} {g g' o o' : EReal} (hv : v = v') (hh : h = h') (hg : g = g') (ho : o = o') :
    norm v h g o = norm v' h' g' o' := by
  subst hv hh hg ho
  rfl

theorem tile_congr {x0 : FVec Ideal S1x32x32x32 .f32} {x1 y1 : FVec Ideal S32x512 .f32} {x2 y2 : FVec Ideal S512x128 .f32} {x3 y3 x4 y4 : FVec Ideal S1x512 .f32}
    {x5 y5 x6 y6 x7 y7 : FVec Ideal S1x128 .f32} {i j : S1x32x30x128.Idx} (h1 : x1 = y1) (h2 : x2 = y2) (h3 : x3 = y3) (h4 : x4 = y4) (h5 : x5 = y5)
    (h6 : x6 = y6) (h7 : x7 = y7) (hi : i = j) :
    k0_pay1 (F := Ideal) (k0_pay2 (F := Ideal) x0 x1 x3 x4 x2 x5) x6 x7 i = k0_pay1 (F := Ideal) (k0_pay2 (F := Ideal) x0 y1 y3 y4 y2 y5) y6 y7 j := by
  subst h1 h2 h3 h4 h5 h6 h7 hi
  rfl

set_option maxHeartbeats 2000000 in
theorem arr_eq (c : Dev nD)
    (hw : ∀ (j : Fin 16) (h : Fin 128), ∃ r : ℝ, m ((c : Thread nD τ).loc main_arg3) (ix2 (⟨j.val, by omega⟩ : Fin 416) h) = (r : EReal)) :
    (dats m 0 c).arrAt 8 cfg0.N = edges (shapeCast S4x512x32x32 (m ((c : Thread nD τ).loc main_arg0)) shapeCasts_S2097152_S4x512x32x32)
      (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 8 _ (by decide +kernel) fun t hf y => ?_
  blk_simp
  rw [after0_8]
  frame_out
  have e := tile_at (iblk m c 0 t) (m ((c : Thread nD τ).loc main_arg1)) (m ((c : Thread nD τ).loc main_arg2)) (m ((c : Thread nD τ).loc main_arg3))
    (shapeCast S1x128 (m ((c : Thread nD τ).loc main_arg4)) shapeCasts_S128_S1x128) (shapeCast S1x128 (m ((c : Thread nD τ).loc main_arg5)) shapeCasts_S128_S1x128)
    hw (y 1) (y 2) (y 3)
  refine Eq.trans ?_ (e.trans ?_)
  · refine tile_congr (blk1 m c t) (blk2 m c t) (blk3 m c t) (blk4 m c t) (blk5 m c t) (blk6 m c t) (blk7 m c t) ?_
    have h0 : y 0 = (0 : Fin 1) := Subsingleton.elim (α := Fin 1) _ _
    funext i
    match i with
    | ⟨0, _⟩ => exact h0
    | ⟨1, _⟩ => rfl
    | ⟨2, _⟩ => rfl
    | ⟨3, _⟩ => rfl
  · unfold edges
    blk_simp [iblk, idx0, idx8]
    have e3 : (win0_8.blk t).view.emb y 3 = y 3 := Fin.ext (by blk_simp [idx8])
    refine norm_congr (congrArg (fun q => feat q _ _ _) (funext fun x => ?_)) e3.symm ?_ ?_
    · refine (congrFun (V_q m c) _).trans (congrArg (shapeCast S4x512x32x32 _ _) ?_)
      blk_ext [idx0, idx8]
    · rw [e3]
      pointwise
    · rw [e3]
      pointwise

end Cert.Edge

end
-- ==== Proof.EdgeRef.lean ====
/-
  The reference's edge features: its run, and its result read at an element.
-/
module

public import proofs.«01_k».proof.Proof.EdgeValue
public import proofs.«01_k».proof.Proof.Gen.EdgesReferenceIdeal
public import Idealize.ShloMosaic.Lib.StableHlo.RunRead
public import Idealize.ShloMosaic.Lib.Claim

@[expose] public section

noncomputable section

namespace Cert.Edge

open Idealize.ShloMosaic Idealize.SL.Sem Cert.EdgesReferenceIdeal Cert.EdgesReferenceIdeal.Gen

/-- The 400 radial columns of every edge. -/
def refRbf (Q : FVec Ideal S4x512x30x32 .f32) : FVec Ideal S4x512x30x400 .f32 :=
  have d : FVec Ideal S4x512x30x25 .f32 := Host.sqrt (addf (extractStridedSlice S4x512x30x25 ![0, 0, 0, 0] Q slices_S4x512x30x32_S4x512x30x25_0_0_0_0)
    (broadcastInDim S4x512x30x25 ![] bcast_S_S4x512x30x25 (constant (F := Ideal) S_ .f32 0x358637BD#32)))
  have z : FVec Ideal S4x512x30x25x16 .f32 := Host.divf (subf
      (broadcastInDim S4x512x30x25x16 ![0, 1, 2, 3, 4] bcast_S4x512x30x25x1_S4x512x30x25x16_0_1_2_3_4
        (broadcastInDim S4x512x30x25x1 ![0, 1, 2, 3] bcast_S4x512x30x25_S4x512x30x25x1_0_1_2_3 d))
      (broadcastInDim S4x512x30x25x16 ![0, 1, 2, 3, 4] bcast_S1x1x1x1x16_S4x512x30x25x16_0_1_2_3_4
        (broadcastInDim S1x1x1x1x16 ![4] bcast_S16_S1x1x1x1x16_4 lin)))
    (broadcastInDim S4x512x30x25x16 ![] bcast_S_S4x512x30x25x16 (constant (F := Ideal) S_ .f32 0x3FA00000#32))
  shapeCast S4x512x30x400 (Host.exp (Host.negf (mulf z z))) shapeCasts_S4x512x30x25x16_S4x512x30x400

/-- The sixteen position columns of every edge. -/
def refPos (Q : FVec Ideal S4x512x30x32 .f32) (Wp : FVec Ideal S66x16 .f32) (bp : FVec Ideal S16 .f32) : FVec Ideal S4x512x30x16 .f32 :=
  have x : FVec Ideal S4x512x30 .f32 := shapeCast S4x512x30 (extractStridedSlice S4x512x30x1 ![0, 0, 0, 25] Q slices_S4x512x30x32_S4x512x30x1_0_0_0_25) shapeCasts_S4x512x30x1_S4x512x30
  have oh : FVec Ideal S4x512x30x66 .f32 := uitofp .f32 (cmpf .oeq
    (broadcastInDim S4x512x30x66 ![0, 1, 2, 3] bcast_S4x512x30x1_S4x512x30x66_0_1_2_3 (broadcastInDim S4x512x30x1 ![0, 1, 2] bcast_S4x512x30_S4x512x30x1_0_1_2 x))
    (broadcastInDim S4x512x30x66 ![0, 1, 2, 3] bcast_S1x1x1x66_S4x512x30x66_0_1_2_3 (sitofp .f32 (iotaInDim S1x1x1x66 32 3))))
  addf (Host.dotGeneral dot_S4x512x30x66_S66x16_S4x512x30x16_3_0_012_1_n_n none oh Wp)
    (broadcastInDim S4x512x30x16 ![0, 1, 2, 3] bcast_S1x1x1x16_S4x512x30x16_0_1_2_3 (broadcastInDim S1x1x1x16 ![3] bcast_S16_S1x1x1x16_3 bp))

/-- Every edge's features before the normalisation. -/
def refFeat (q : FVec Ideal S2097152 .f32) (Wp : FVec Ideal S66x16 .f32) (bp : FVec Ideal S16 .f32) (We : FVec Ideal S416x128 .f32) : FVec Ideal S4x512x30x128 .f32 :=
  have Q : FVec Ideal S4x512x30x32 .f32 := extractStridedSlice S4x512x30x32 ![0, 0, 0, 0] (shapeCast S4x512x32x32 q shapeCasts_S2097152_S4x512x32x32) slices_S4x512x32x32_S4x512x30x32_0_0_0_0
  Host.dotGeneral dot_S4x512x30x416_S416x128_S4x512x30x128_3_0_012_1_n_n none
    (concatenate S4x512x30x416 3 [⟨S4x512x30x16, refPos Q Wp bp⟩, ⟨S4x512x30x400, refRbf Q⟩] concatenates_S4x512x30x16_S4x512x30x400_S4x512x30x416_d3) We

/-- The normalisation over the last axis. -/
def refNorm (x : FVec Ideal S4x512x30x128 .f32) (g o : FVec Ideal S128 .f32) : FVec Ideal S4x512x30x128 .f32 :=
  have mean : FVec Ideal S4x512x30x128 .f32 → FVec Ideal S4x512x30x1 .f32 := fun y => Host.divf
    (broadcastInDim S4x512x30x1 ![0, 1, 2] bcast_S4x512x30_S4x512x30x1_0_1_2
      (Host.reduceAdd y (constant (F := Ideal) S_ .f32 0x00000000#32) reducesTo_S4x512x30x128_S4x512x30_d3 h_S_))
    (broadcastInDim S4x512x30x1 ![] bcast_S_S4x512x30x1 (constant (F := Ideal) S_ .f32 0x43000000#32))
  have wide : FVec Ideal S4x512x30x1 .f32 → FVec Ideal S4x512x30x128 .f32 := fun y => broadcastInDim S4x512x30x128 ![0, 1, 2, 3] bcast_S4x512x30x1_S4x512x30x128_0_1_2_3 y
  have row : FVec Ideal S128 .f32 → FVec Ideal S4x512x30x128 .f32 := fun y =>
    broadcastInDim S4x512x30x128 ![0, 1, 2, 3] bcast_S1x1x1x128_S4x512x30x128_0_1_2_3 (broadcastInDim S1x1x1x128 ![3] bcast_S128_S1x1x1x128_3 y)
  have d : FVec Ideal S4x512x30x128 .f32 := subf x (wide (mean x))
  have s : FVec Ideal S4x512x30x1 .f32 := Host.sqrt (addf (mean (mulf d d))
    (broadcastInDim S4x512x30x1 ![] bcast_S_S4x512x30x1 (constant (F := Ideal) S_ .f32 0x3727C5AC#32)))
  addf (mulf (Host.divf d (wide s)) (row g)) (row o)

/-- The two groups of columns beside one another. -/
def beside (x : FVec Ideal S4x512x30x16 .f32) (y : FVec Ideal S4x512x30x400 .f32) : FVec Ideal S4x512x30x416 .f32 :=
  concatenate S4x512x30x416 3 [⟨S4x512x30x16, x⟩, ⟨S4x512x30x400, y⟩] concatenates_S4x512x30x16_S4x512x30x400_S4x512x30x416_d3

theorem beside_eq (x : FVec Ideal S4x512x30x16 .f32) (y : FVec Ideal S4x512x30x400 .f32) :
    concatenate S4x512x30x416 3 [⟨S4x512x30x16, x⟩, ⟨S4x512x30x400, y⟩] concatenates_S4x512x30x16_S4x512x30x400_S4x512x30x416_d3 = beside x y := rfl

/-- The last centre after the fifteen before it. -/
def ended (x : FVec Ideal S15 .f32) (y : FVec Ideal S1 .f32) : FVec Ideal S16 .f32 :=
  concatenate S16 0 [⟨S15, x⟩, ⟨S1, y⟩] concatenates_S15_S1_S16_d0

theorem ended_eq (x : FVec Ideal S15 .f32) (y : FVec Ideal S1 .f32) :
    concatenate S16 0 [⟨S15, x⟩, ⟨S1, y⟩] concatenates_S15_S1_S16_d0 = ended x y := rfl

open StableHlo in
set_option maxHeartbeats 8000000 in
set_option maxRecDepth 20000 in
theorem ref_run (m : (ℓ : Loc nD τ sig) → Buf (Elt Ideal) ℓ) (g : Dev nD → PrngReg) :
    θ_run (defs (F := Ideal)) (onTc (τ := τ) (main (F := Ideal))) ⟨m, fun _ => 0, g⟩ (fun r =>
      ∀ c : Dev nD, r.2.mem ((c.tc : Thread nD τ).loc main_v50)
          = refNorm (refFeat (m ((c.tc : Thread nD τ).loc main_arg0)) (m ((c.tc : Thread nD τ).loc main_arg1)) (m ((c.tc : Thread nD τ).loc main_arg2))
              (m ((c.tc : Thread nD τ).loc main_arg3))) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) := by
  refine θ_run_mono (StableHlo.run_hlo _ _ (by hlo_seq) (by decide) (by decide) (by simp)
    (by intro _ h; (repeat (cases h with | head => rfl | tail _ h => ?_)); exact nomatch h) _ _) ?_
  intro r hr c
  refine ⟨(hr c main_v50).trans ?_, (hr c main_arg0).trans ?_, (hr c main_arg1).trans ?_, (hr c main_arg2).trans ?_,
    (hr c main_arg3).trans ?_, (hr c main_arg4).trans ?_, (hr c main_arg5).trans ?_⟩
  · simp (disch := decide) only [readAfter, readUpto, nullary_result', unary_result', binary_result', ternary_result', reshape_result', beside_eq, ended_eq]
    simp -implicitDefEqProofs only [StableHlo.TRef.toBuf, StableHlo.TRef.ofBuf, cast_cast, cast_eq]
    rfl
  all_goals after_reads_simp

theorem refNorm_at (x : FVec Ideal S4x512x30x128 .f32) (g o : FVec Ideal S128 .f32) (b : Fin 4) (l : Fin 512) (k : Fin 30) (h : Fin 128) :
    refNorm x g o (ix4 b l k h) = norm (fun y => x (ix4 b l k y)) h (g (ix1 h)) (o (ix1 h)) := by
  pointwise [refNorm]
  rfl

theorem refRbf_at (Q : FVec Ideal S4x512x30x32 .f32) (b : Fin 4) (l : Fin 512) (k : Fin 30) (c : Fin 400) :
    refRbf Q (ix4 b l k c) = rbf (fun x => Q (ix4 b l k x)) c := by
  pointwise [refRbf]
  rfl

theorem bit_at (x : EReal) (r : Fin 66) :
    FloatOps.uitofp (F := Ideal) .f32 (BitVec.ofBool (decide (x = FloatOps.sitofp (F := Ideal) .f32 (BitVec.ofNat 32 r.val)))) = oneh x r := by
  have h : FloatOps.sitofp (F := Ideal) .f32 (BitVec.ofNat 32 r.val) = ((r.val : ℝ) : EReal) := by
    show (((BitVec.ofNat 32 r.val).toInt : ℝ) : EReal) = _
    rw [toInt_ofNat_of_lt (by omega)]
    norm_cast
  rw [h]
  unfold oneh
  by_cases e : x = ((r.val : ℝ) : EReal)
  · simp only [e, decide_true, if_true]
    show (((BitVec.ofBool true).toNat : ℝ) : EReal) = 1
    simp
  · simp only [e, decide_false, if_false]
    show (((BitVec.ofBool false).toNat : ℝ) : EReal) = 0
    simp

theorem refPos_at (Q : FVec Ideal S4x512x30x32 .f32) (Wp : FVec Ideal S66x16 .f32) (bp : FVec Ideal S16 .f32) (b : Fin 4) (l : Fin 512) (k : Fin 30) (j : Fin 16) :
    refPos Q Wp bp (ix4 b l k j) = (∑ r : Fin 66, oneh (Q (ix4 b l k 25)) r * Wp (ix2 r j)) + bp (ix1 j) := by
  pointwise [refPos]
  exact congrArg (· + bp (ix1 j)) (Finset.sum_congr rfl fun r _ => congrArg (· * Wp (ix2 r j)) (bit_at _ r))

theorem cut_at (Q : FVec Ideal S4x512x32x32 .f32) (b : Fin 4) (l : Fin 512) (k : Fin 30) (x : Fin 32) :
    extractStridedSlice S4x512x30x32 ![0, 0, 0, 0] Q slices_S4x512x32x32_S4x512x30x32_0_0_0_0 (ix4 b l k x)
      = Q (ix4 b l (⟨k.val, by omega⟩ : Fin 32) x) := by
  pointwise

theorem refFeat_at (q : FVec Ideal S2097152 .f32) (Wp : FVec Ideal S66x16 .f32) (bp : FVec Ideal S16 .f32) (We : FVec Ideal S416x128 .f32)
    (b : Fin 4) (l : Fin 512) (k : Fin 30) (h : Fin 128) :
    refFeat q Wp bp We (ix4 b l k h)
      = feat (fun x => shapeCast S4x512x32x32 q shapeCasts_S2097152_S4x512x32x32 (ix4 b l (⟨k.val, by omega⟩ : Fin 32) x)) Wp bp We h := by
  unfold refFeat
  generalize shapeCast S4x512x32x32 q shapeCasts_S2097152_S4x512x32x32 = Q
  pointwise
  simp only [refPos_at, refRbf_at, cut_at]
  rfl

/-- What the reference writes, in its six arguments. -/
theorem ref_eq (q : FVec Ideal S2097152 .f32) (Wp : FVec Ideal S66x16 .f32) (bp : FVec Ideal S16 .f32) (We : FVec Ideal S416x128 .f32)
    (g o : FVec Ideal S128 .f32) :
    refNorm (refFeat q Wp bp We) g o = edges (shapeCast S4x512x32x32 q shapeCasts_S2097152_S4x512x32x32) Wp bp We g o := by
  funext i
  obtain ⟨b, l, k, h, rfl⟩ : ∃ (b : Fin 4) (l : Fin 512) (k : Fin 30) (h : Fin 128), i = ix4 b l k h :=
    ⟨i 0, i 1, i 2, i 3, by funext a; fin_cases a <;> rfl⟩
  rw [refNorm_at]
  simp only [refFeat_at]
  rfl

end Cert.Edge

end
-- ==== Proof.EdgeClaims.lean ====
/-
  The claims of the edge call: its frames, and its result equal to the reference's.
-/
module

public import proofs.«01_k».proof.Proof.EdgeRef
public import proofs.«01_k».proof.Proof.Gen.Edges.Frame
public import proofs.«01_k».proof.Proof.Frames
public import proofs.«01_k».proof.Proof.Gen.Pre_finite_weights
public import proofs.«01_k».proof.Defs

@[expose] public section

noncomputable section

namespace Cert.Edge

open Idealize.ShloMosaic Idealize.SL.Sem

/-- An extended real whose absolute value the predicate finds below infinity is a real. -/
theorem real_of_lt (x : EReal) (h : BitVec.ofBool (decide (max x (-x) < Ideal.ofBits .f32 0x7F800000#32)) = 1#1) : ∃ r : ℝ, x = (r : EReal) := by
  have e : Ideal.ofBits .f32 0x7F800000#32 = (⊤ : EReal) := by simp [Ideal.ofBits, Ideal.ieee]
  rw [StableHlo.Predicate.ofBool_eq_one_iff, e, decide_eq_true_iff] at h
  induction x with
  | bot => simp at h
  | top => simp at h
  | coe r => exact ⟨r, rfl⟩

/-- The predicate says the edge weights that the position's columns meet are real. -/
theorem real_of {q Wp bp We g o} (h : Pre_finite_weights.fn (F := Ideal) q Wp bp We g o = fun _ => 1#1) (j : Fin 16) (x : Fin 128) :
    ∃ r : ℝ, We (ix2 (⟨j.val, by omega⟩ : Fin 416) x) = (r : EReal) := by
  have : Subsingleton Pre_finite_weights.S_.Idx := ⟨fun a b => funext fun x => x.elim0⟩
  unfold Pre_finite_weights.fn at h
  dsimp only at h
  refine real_of_lt _ ((?_ : _ = _).trans (Host.reduce_andi_all _ _ _ _ (fun x => x.elim0) (congrFun h (fun x => x.elim0)) (ix2 j x)))
  pointwise
  rfl

theorem frame_edges : Cert.quiescent_Edges := fun m ρ _ => Cert.Edges.Gen.frame m ρ

theorem frame_edgesIdeal : Cert.quiescent_EdgesIdeal := fun m ρ _ => Cert.EdgesIdeal.Gen.frame m ρ

theorem frame_edgesIdeal_pre : Cert.quiescent_EdgesIdeal_pre_finite_weights := fun m ρ _ => Cert.EdgesIdeal.Gen.frame m ρ

theorem frame_edgesRef : Cert.quiescent_EdgesReferenceIdeal := fun m g _ =>
  θ_run_mono (ref_run m g) fun r h => ⟨fun c => (h c).2, sem_eq_zero_of_no_sems (by decide) r.2⟩

theorem frame_edgesRef_pre : Cert.quiescent_EdgesReferenceIdeal_pre_finite_weights := fun m g _ => frame_edgesRef m g trivial

open Cert.EdgesIdeal Cert.EdgesIdeal.Gen in
set_option maxHeartbeats 2000000 in
theorem algebraic_edges : Cert.algebraic_EdgesIdeal_EdgesReferenceIdeal_pre_finite_weights := by
  intro m g m' g' hp hagree
  refine ⟨fun c => (dats m 0 c).arrAt 8 cfg0.N,
    θ_run_mono (θ_run_and (Cert.EdgesIdeal.Gen.run_main m g) (Cert.EdgesIdeal.Gen.unchanged m g)) fun r h c => ⟨h.1.out_eq c 8, h.2 c⟩,
    θ_run_mono (ref_run m' g') fun r h c => ⟨(h c).1.trans ?_, (h c).2⟩⟩
  obtain ⟨e0, e1, e2, e3, e4, e5⟩ := hagree c
  rw [e0, e1, e2, e3, e4, e5, ref_eq]
  exact (arr_eq m c (real_of (hp c))).symm

end Cert.Edge

end
-- ==== Proof.TopBody.lean ====
/-
  The neighbour search of one batch entry: thirty trips over a matrix of distances held in scratch.
  What each trip leaves there, and what the body leaves in its two outputs, for any number type.
-/
module

public import proofs.«01_k».proof.Proof.Gen.TopkIdeal.Frame
public import proofs.«01_k».proof.Proof.Gen.TopkIdeal.Skeleton
public import Idealize.ShloMosaic.Lib.WritesUnit
public import Idealize.ShloMosaic.Lib.Claim
public import Idealize.ShloMosaic.Lib.VecWindow
public import Idealize.ShloMosaic.Lib.Exec
public import Idealize.ShloMosaic.Lib.Pointwise.Index

@[expose] public section

set_option maxRecDepth 16384

noncomputable section

namespace Cert.Top

open Cert.TopkIdeal Cert.TopkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The matrix after `k` trips, from the one the loop finds. -/
def left (D : Vec F S512x512 .f32) : ℕ → Vec F S512x512 .f32
  | 0 => D
  | k + 1 => k0_pay4 (left D k)

/-- The list of picks after `k` trips, from what it held: trip `r` writes row `r`. -/
def picks (D : Vec F S512x512 .f32) (R : Vec F S32x512 .i32) : ℕ → Vec F S32x512 .i32
  | 0 => R
  | k + 1 => fun y => if (y 0).val = k then k0_pay3 (left D k) (Idealize.ShloMosaic.ix2 (0 : Fin 1) (y 1)) else picks D R k y

theorem trips_eq : k0_t1_loop.trips = 30 := by decide +kernel

/-- What the two scratch buffers hold before trip `k`. -/
abbrev held (c : Dev nD) (arg5 : Memref sig .tc .vmem S512x512 .f32) (arg6 : Memref sig .tc .vmem S32x512 .i32)
    (G5 : BufTy.Contents (Elt F) arg5.view.ty) (G6 : BufTy.Contents (Elt F) arg6.view.ty) (k : ℕ) (_u : PUnit) : sProp 𝕄 :=
  iprop((∃ f, (arg5.view.loc (c : Thread nD τ) ↦[arg5.view.set]{fullShare} f) ∗ ⌜arg5.view.read (Elt F) f = left (arg5.view.read (Elt F) G5) k⌝)
    ∗ (∃ f, (arg6.view.loc (c : Thread nD τ) ↦[arg6.view.set]{fullShare} f)
        ∗ ⌜arg6.view.read (Elt F) f = picks (arg5.view.read (Elt F) G5) (arg6.view.read (Elt F) G6) k⌝))

set_option warn.classDefReducibility false in
set_option maxHeartbeats 2000000 in
@[sl_loop] def loopHeld (𝒱 : Variants) (c : Dev nD) (bd : Option 𝒱.V) (E : Set ℕ) (i : grid0.Coords) (arg1 : Memref sig .tc .vmem S1x512x12 .f32) (harg1 : arg1.IsWhole) (arg2 : Memref sig .tc .vmem S1x3x512 .f32) (harg2 : arg2.IsWhole) (arg3 : Memref sig .tc .vmem S1x512x32 .i32) (harg3 : arg3.IsWhole) (arg4 : Memref sig .tc .vmem S1x512x16 .f32) (harg4 : arg4.IsWhole) (arg5 : Memref sig .tc .vmem S512x512 .f32) (harg5 : arg5.IsWhole) (arg6 : Memref sig .tc .vmem S32x512 .i32) (harg6 : arg6.IsWhole)
    (G5 : BufTy.Contents (Elt F) arg5.view.ty) (G6 : BufTy.Contents (Elt F) arg6.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6) where
  inv := held (F := F) c arg5 arg6 G5 G6
  step k acc := by
    have hk : k.val < 30 := Nat.lt_of_lt_of_le k.isLt k0_t1_abs.2.1
    unfold held
    iintro ⟨⟨%f5, H5, %h5⟩, ⟨%f6, H6, %h6⟩⟩
    unfold k0_t1_body
    sl_exec
    sl_step
    isplitl [H5]
    · iexists _; isplitl [H5]; · iexact H5
      ipureintro
      rw [View.read_writes_full, View.readAt_full, h5]
      rfl
    · iexists _; isplitl [H6]; · iexact H6
      ipureintro
      funext y
      rw [View.read_writes_cons_rows (o := k.val) (W := 1) (d := S32x512.size) (size := S1x512.size) _ _ _ _ _ y (k0_off1_eq k) rfl rfl, View.readAt_full, h5, View.writes_nil, h6]
      show _ = if (y 0).val = k.val then _ else _
      by_cases h : (y 0).val = k.val
      · rw [dif_pos ⟨by omega, by omega⟩, if_pos h]
        congr 1
        funext a
        fin_cases a
        · exact Fin.ext (by show (y 0).val - k.val = 0; omega)
        · exact Fin.ext (by show (y 1).val - 0 = (y 1).val; omega)
      · rw [dif_neg (by omega), if_neg h]

theorem picks_below (D : Vec F S512x512 .f32) (R : Vec F S32x512 .i32) (k : ℕ) (y : S32x512.Idx) (h : (y 0).val < k) :
    picks D R k y = k0_pay3 (left D (y 0).val) (Idealize.ShloMosaic.ix2 (0 : Fin 1) (y 1)) := by
  induction k with
  | zero => exact absurd h (Nat.not_lt_zero _)
  | succ n ih =>
    show (if (y 0).val = n then _ else _) = _
    by_cases e : (y 0).val = n
    · rw [if_pos e, e]
    · rw [if_neg e]
      exact ih (by omega)

/-- The thirty rows of picks over two rows of zeros. -/
def rows (D : Vec F S512x512 .f32) : Vec F S32x512 .i32 := fun y =>
  if (y 0).val < 30 then k0_pay3 (left D (y 0).val) (Idealize.ShloMosaic.ix2 (0 : Fin 1) (y 1)) else 0#32

theorem rows_read {κ : Kind} {sp : Space} (v : View sig κ sp S32x512 .i32) (D : Vec F S512x512 .f32) (f : v.ty.Contents (Elt F)) (R : Vec F S32x512 .i32)
    (h : v.read (Elt F) f = picks D R (Scf.trips k0_t1_loop.lb k0_t1_loop.ub k0_t1_loop.st)) :
    v.read (Elt F) (v.writes (Elt F) f [⟨Rect.unit (s := S32x512) ![31, 0] S1x512.size inb_S32x512_S1x512_31_0, k0_pay7⟩,
      ⟨Rect.unit (s := S32x512) ![30, 0] S1x512.size inb_S32x512_S1x512_30_0, k0_pay6⟩]) = rows D := by
  funext y
  rw [View.read_writes_cons_rows (o := 31) (W := 1) (d := S32x512.size) (size := S1x512.size) _ _ _ _ _ y rfl rfl rfl,
    View.read_writes_cons_rows (o := 30) (W := 1) (d := S32x512.size) (size := S1x512.size) _ _ _ _ _ y rfl rfl rfl, View.writes_nil, h,
    show Scf.trips k0_t1_loop.lb k0_t1_loop.ub k0_t1_loop.st = 30 from trips_eq]
  have hy : (y 0).val < 32 := (y 0).isLt
  unfold rows
  by_cases h31 : (y 0).val = 31
  · rw [dif_pos ⟨by omega, by omega⟩, if_neg (by omega)]
    rfl
  rw [dif_neg (by omega)]
  by_cases h30 : (y 0).val = 30
  · rw [dif_pos ⟨by omega, by omega⟩, if_neg (by omega)]
    rfl
  rw [dif_neg (by omega), if_pos (by omega)]
  exact picks_below D R 30 y (by omega)

/-- The matrix of squared distances. -/
def dist0 (x0 : Vec F S1x512x12 .f32) (x1 : Vec F S1x3x512 .f32) : Vec F S512x512 .f32 :=
  k0_pay1 (k0_pay9 x0) (k0_pay11 x1) (k0_pay12 x0 x1)

def outE (x0 : Vec F S1x512x12 .f32) (x1 : Vec F S1x3x512 .f32) : Vec F S1x512x32 .i32 := k0_pay8 (F := F) (rows (dist0 x0 x1))
def outT (x0 : Vec F S1x512x12 .f32) : Vec F S1x512x16 .f32 := k0_pay10 x0

set_option maxHeartbeats 2000000 in
theorem sound_kernel (c : Dev nD) (E : Set ℕ) (i : grid0.Coords) (arg1 : Memref sig .tc .vmem S1x512x12 .f32) (harg1 : arg1.IsWhole) (arg2 : Memref sig .tc .vmem S1x3x512 .f32) (harg2 : arg2.IsWhole) (arg3 : Memref sig .tc .vmem S1x512x32 .i32) (harg3 : arg3.IsWhole) (arg4 : Memref sig .tc .vmem S1x512x16 .f32) (harg4 : arg4.IsWhole) (arg5 : Memref sig .tc .vmem S512x512 .f32) (harg5 : arg5.IsWhole) (arg6 : Memref sig .tc .vmem S32x512 .i32) (harg6 : arg6.IsWhole)
    (x0 : Vec F S1x512x12 .f32) (x1 : Vec F S1x3x512 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (outE x0 x1) ∗ owns (c : Thread nD τ) arg4 fullShare (outT x0)
            ∗ (∃ d, owns (c : Thread nD τ) arg5 fullShare d) ∗ (∃ d, owns (c : Thread nD τ) arg6 fullShare d)) -∗ K ⟨⟩))
      ⊢ wp frame (wpE (defs₀ (F := F)) Variants.none c none) E (cc0__topk_body i arg1 harg1 arg2 harg2 arg3 harg3 arg4 harg4 arg5 harg5 arg6 harg6) K := by
  simp only [cc0__topk_body_eq_skeleton]; unfold cc0__topk_body_skel
  simp only [k0_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_full]
    unfold outE
    congr 1
    rw [View.readAt_full]
    have e5 : arg5.view.read (Elt F) (arg5.view.writes (Elt F) arg5.view.junk (sound_kernel.sl.H5_1 c arg1 arg2 f1 f2))
        = dist0 (arg1.view.read (Elt F) f1) (arg2.view.read (Elt F) f2) := by
      unfold sound_kernel.sl.H5_1
      rw [View.read_writes_full]
      unfold sound_kernel.sl.r sound_kernel.sl.r_1 sound_kernel.sl.r_2
      rw [View.readAt_full, View.readAt_full]
      rfl
    rw [e5] at hL3
    unfold sound_kernel.sl.H6_2
    exact rows_read arg6.view (dist0 (arg1.view.read (Elt F) f1) (arg2.view.read (Elt F) f2)) fL1 (arg6.view.read (Elt F) f6) hL3
  isplitl [H4]
  · iexists _; isplitr
    swap; · iexact H4
    ipureintro
    unfold sound_kernel.sl.H4_1
    rw [View.read_writes_full, View.readAt_full]
    rfl
  isplitl [H5]
  · iexists _, _; isplitr; swap; · iexact H5
    ipureintro; rfl
  iexists _, _; isplitr; swap; · iexact H6
  ipureintro; rfl

variable (m : (ℓ : Loc nD τ sig) → Buf (Elt F) ℓ) (ρ : Dev nD → PrngReg)

/-- The inputs stay; the outputs are what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outE (iblk m c 0 t) (iblk m c 1 t)
    | ⟨3, _⟩ => outT (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outE (iblk m c 0 t) (iblk m c 1 t) := by dsimp only [dats]
theorem after0_3 (c : Dev nD) (t : Fin cfg0.N) : (dats m 0 c).after 3 t = outT (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The scratch, opened. -/
theorem scratch_eq (c : Dev nD) :
    (Pipeline.ΦA (Val := Elt F) (U := UR sig nD τ) spec0 c : sProp 𝕄)
      = iprop(((∃ d, owns (c : Thread nD τ) (Memref.whole cc0_scratch0) fullShare d) ∗ (∃ d, owns (c : Thread nD τ) (Memref.whole cc0_scratch1) fullShare d))
          ∗ (∃ r, prngReg c r)) := by
  unfold Pipeline.ΦA
  rw [scopedRest0_eq]
  simp only [owns_whole]
  try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, scratch_eq]
  iintro ⟨⟨⟨HS0, HS1⟩, Hg⟩, Ho, ⟨%d0, H0⟩, ⟨%d1, H1⟩, ⟨%d2, H2⟩, ⟨%d3, H3⟩⟩
  iapply (sound_kernel c Set.univ (grid0.coords t) _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- The whole launch: what every final state holds, and every counter at zero. -/
theorem run_both : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_both m ρ)

theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_post m ρ)) ((θ_run defs _ _).mono (fun _ h => h.2) (run_both m ρ))

end Cert.Top

end
-- ==== Proof.TopMath.lean ====
/-
  Repeated selection of the first least entry is the prefix of a stable sort.
-/
module

public import Idealize.ShloMosaic.Lib.SortPrefix
public import Idealize.ShloMosaic.PureOps.Ideal

@[expose] public section

namespace Cert.Top

open Idealize.ShloMosaic

/-- On a list of increasing positions, a stable sort breaks ties by position. -/
theorem stable_ties {n : ℕ} (W B : Fin n → Fin n → Bool) (h : ∀ a b, a < b → B b a = W b a) (l : List (Fin n))
    (hl : l.Pairwise (· < ·)) : stableSort W l = stableSort B l := by
  induction l with
  | nil => rfl
  | cons a l ih =>
    rw [List.pairwise_cons] at hl
    unfold stableSort
    rw [ih hl.2]
    exact insertBefore_congr _ _ _ _ fun b hb => (h a b (hl.1 b ((perm_stableSort B l).mem_iff.mp hb))).symm

theorem sorted_ties {n : ℕ} (W B : Fin n → Fin n → Bool) (h : ∀ a b, a < b → B b a = W b a) : sortedFrom W = sortedFrom B := by
  have e : sortPositions n W = sortPositions n B := stable_ties W B h _ (List.pairwise_lt_finRange n)
  funext k
  unfold sortedFrom
  rw [List.get_of_eq e]
  rfl

/-- Each round takes the first least entry of what is left and erases it; the rounds list the stable sort's first positions. -/
theorem stable_first {n K : ℕ} (hK : K ≤ n) (d : Fin n → ℝ) (W : Fin n → Fin n → Bool) (hW : ∀ k k', W k k' = decide (d k < d k'))
    (c : ℕ → Fin n → EReal) (σ : ℕ → Fin n) (h0 : ∀ q, c 0 q = (d q : EReal)) (hmin : ∀ k q, c k (σ k) ≤ c k q)
    (hfst : ∀ k q, q < σ k → c k q ≠ c k (σ k)) (hstep : ∀ k q, c (k + 1) q = if q = σ k then ⊤ else c k q) (i : Fin K) :
    sortedFrom W (i.castLE hK) = σ i.val := by
  classical
  have hc : ∀ k q, c k q = if ∃ j, j < k ∧ σ j = q then ⊤ else (d q : EReal) := by
    intro k
    induction k with
    | zero => intro q; simp [h0]
    | succ k ih =>
      intro q
      rw [hstep, ih]
      by_cases e : q = σ k
      · rw [if_pos e, if_pos ⟨k, by omega, e.symm⟩]
      · rw [if_neg e]
        refine if_congr ⟨fun ⟨j, hj, hq⟩ => ⟨j, by omega, hq⟩, fun ⟨j, hj, hq⟩ => ⟨j, ?_, hq⟩⟩ rfl rfl
        rcases Nat.lt_succ_iff_lt_or_eq.mp hj with h | h
        · exact h
        · exact absurd (h ▸ hq).symm e
  have hfree : ∀ k, k < n → ∃ q, ¬ ∃ j, j < k ∧ σ j = q := by
    intro k hk
    by_contra hn
    push Not at hn
    have hs : (Finset.univ : Finset (Fin n)) ⊆ (Finset.range k).image σ := by
      intro q _
      obtain ⟨j, hj, hq⟩ := hn q
      exact Finset.mem_image.mpr ⟨j, Finset.mem_range.mpr hj, hq⟩
    have h1 := (Finset.card_le_card hs).trans Finset.card_image_le
    simp at h1
    omega
  have hnew : ∀ k, k < n → ¬ ∃ j, j < k ∧ σ j = σ k := by
    intro k hk he
    obtain ⟨q, hq⟩ := hfree k hk
    have h1 := hmin k q
    rw [hc k (σ k), hc k q, if_pos he, if_neg hq] at h1
    exact absurd h1 (not_le.mpr (EReal.coe_lt_top _))
  have hle : ∀ k, k < n → ∀ q, (¬ ∃ j, j < k ∧ σ j = q) → d (σ k) ≤ d q ∧ (q < σ k → d q ≠ d (σ k)) := by
    intro k hk q hq
    have h1 := hmin k q
    have h2 := hfst k q
    rw [hc k (σ k), hc k q, if_neg (hnew k hk), if_neg hq] at h1 h2
    exact ⟨EReal.coe_le_coe_iff.mp h1, fun h e => h2 h (by rw [e])⟩
  have hB := StrictTotalBefore.of_key_then_position (fun a b : ℝ => decide (a < b)) d (fun a => by simp)
    (fun a b c h1 h2 => by simp only [decide_eq_true_eq] at *; exact h1.trans h2)
    (fun a b => by simp only [decide_eq_true_eq]; exact lt_trichotomy a b)
  have hbad : ∀ k, k < n → ∀ q, (¬ ∃ j, j < k ∧ σ j = q) →
      (decide (d q < d (σ k)) || (decide (d q = d (σ k)) && decide (q < σ k))) = false := by
    intro k hk q hq
    obtain ⟨h1, h2⟩ := hle k hk q hq
    simp only [Bool.or_eq_false_iff, Bool.and_eq_false_iff, decide_eq_false_iff_not]
    refine ⟨not_lt.mpr h1, ?_⟩
    by_cases e : q < σ k
    · exact Or.inl (h2 e)
    · exact Or.inr e
  rw [sorted_ties W (fun k k' => decide (d k < d k') || (decide (d k = d k') && decide (k < k')))
    (fun a b hab => by simp [hW, not_lt.mpr hab.le])]
  refine hB.sortedFrom_eq_of_prefix hK (fun j : Fin K => σ j.val) ?_ ?_ ?_ i
  · intro a b hab
    by_contra hne
    rcases lt_or_gt_of_ne hne with h | h
    · exact hnew b.val (by omega) ⟨a.val, h, hab⟩
    · exact hnew a.val (by omega) ⟨b.val, h, hab.symm⟩
  · intro a b hab
    refine hbad a.val (by omega) (σ b.val) ?_
    rintro ⟨j, hj, e⟩
    exact hnew b.val (by omega) ⟨j, lt_trans hj hab, e⟩
  · intro a q hq
    refine hbad a.val (by omega) q ?_
    rintro ⟨j, hj, e⟩
    exact hq ⟨j, by omega⟩ e

/-- A decreasing chain of least indices: the first position of a property below a bound. -/
theorem first_of {n : ℕ} (P : Fin n → Prop) (h : ∃ q, P q) : ∃ p, P p ∧ ∀ q, q < p → ¬ P q := by
  classical
  obtain ⟨p, hp⟩ := Finset.exists_minimal (s := Finset.univ.filter P) (by obtain ⟨q, hq⟩ := h; exact ⟨q, by simp [hq]⟩)
  refine ⟨p, by simpa using hp.1, fun q hq hP => ?_⟩
  exact absurd (hp.2 (by simpa using hP) hq.le) (not_le.mpr hq)

end Cert.Top
-- ==== Proof.TopReads.lean ====
/-
  The neighbour search's payloads read at an element, over the extended reals.
-/
module

public import proofs.«01_k».proof.Proof.TopBody
public import proofs.«01_k».proof.Proof.TopMath
public import Idealize.ShloMosaic.Lib.Pointwise
public import Idealize.ShloMosaic.Lib.WordCmp

@[expose] public section

noncomputable section

namespace Cert.Top

open Cert.TopkIdeal Cert.TopkIdeal.Gen
open Idealize.ShloMosaic

theorem top_word : Ideal.ofBits .f32 0x7F800000#32 = (⊤ : EReal) := by simp [Ideal.ofBits, Ideal.ieee]

theorem minsi_toInt (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The least position of a least entry, as the two reductions find it. -/
theorem least_word (f : Fin 512 → EReal) : ∃ p : Fin 512, (∀ q, f p ≤ f q) ∧ (∀ q, q < p → f q ≠ f p) ∧
    Finset.fold IntOp.minsi (2147483647#32)
      (fun x : Fin 512 => if f x = Finset.fold min (Ideal.ofBits .f32 2139095040#32) f Finset.univ then BitVec.ofNat 32 x.val else 1024#32)
      Finset.univ = BitVec.ofNat 32 p.val := by
  classical
  rw [show Ideal.ofBits .f32 2139095040#32 = (⊤ : EReal) from top_word]
  have hm : Finset.fold min (⊤ : EReal) f Finset.univ = Finset.univ.inf f := rfl
  rw [hm]
  obtain ⟨p0, -, hp0⟩ := Finset.exists_mem_eq_inf Finset.univ ⟨0, Finset.mem_univ _⟩ f
  obtain ⟨p, hp, hfirst⟩ := first_of (fun q => f q = Finset.univ.inf f) ⟨p0, hp0.symm⟩
  refine ⟨p, fun q => hp ▸ Finset.inf_le (Finset.mem_univ q), fun q hq => hp ▸ hfirst q hq, ?_⟩
  refine BitVec.eq_of_toInt_eq ?_
  have hf := Finset.fold_hom (op := IntOp.minsi) (op' := (min : Int → Int → Int)) (m := fun x : BitVec 32 => x.toInt) (b := 2147483647#32)
    (f := fun x : Fin 512 => if f x = Finset.univ.inf f then BitVec.ofNat 32 x.val else 1024#32) (s := Finset.univ) minsi_toInt
  rw [← hf, WordCmp.toInt_ofNat_of_lt (w := 32) (a := p.val) (by omega)]
  have hv : ∀ x : Fin 512, (if f x = Finset.univ.inf f then BitVec.ofNat 32 x.val else 1024#32).toInt
      = if f x = Finset.univ.inf f then (x.val : Int) else 1024 := by
    intro x
    by_cases h : f x = Finset.univ.inf f
    · rw [if_pos h, if_pos h, WordCmp.toInt_ofNat_of_lt (by omega)]
    · rw [if_neg h, if_neg h]; decide
  simp only [hv]
  apply le_antisymm
  · rw [Finset.fold_min_le]
    exact Or.inr ⟨p, Finset.mem_univ _, by rw [if_pos hp]⟩
  · rw [Finset.le_fold_min]
    refine ⟨?_, fun x _ => ?_⟩
    · have : (2147483647#32).toInt = 2147483647 := by decide
      omega
    · by_cases h : f x = Finset.univ.inf f
      · rw [if_pos h]
        have : ¬ x < p := fun hx => hfirst x hx h
        have := Fin.not_lt.mp this
        have : p.val ≤ x.val := this
        omega
      · rw [if_neg h]; omega

/-- The entry a trip takes from column `i` is its first least one. -/
theorem pick_at (D : FVec Ideal S512x512 .f32) (i : Fin 512) :
    ∃ p : Fin 512, (∀ q, D (ix2 p i) ≤ D (ix2 q i)) ∧ (∀ q, q < p → D (ix2 q i) ≠ D (ix2 p i)) ∧
      k0_pay2 (F := Ideal) D (ix2 (0 : Fin 1) i) = BitVec.ofNat 32 p.val := by
  obtain ⟨p, h1, h2, h3⟩ := least_word fun q => D (ix2 q i)
  refine ⟨p, h1, h2, ?_⟩
  rw [← h3]
  pointwise [k0_pay2]

/-- A trip erases from column `i` the entry it took. -/
theorem next_at (D : FVec Ideal S512x512 .f32) (q i p : Fin 512) (hp : k0_pay2 (F := Ideal) D (ix2 (0 : Fin 1) i) = BitVec.ofNat 32 p.val) :
    k0_pay4 (F := Ideal) D (ix2 q i) = if q = p then ⊤ else D (ix2 q i) := by
  have h : k0_pay4 (F := Ideal) D (ix2 q i)
      = Scalar.select (IntOp.cmpi CmpIPredicate.eq (BitVec.ofNat 32 q.val) (k0_pay2 (F := Ideal) D (ix2 (0 : Fin 1) i)))
          (Ideal.ofBits .f32 0x7F800000#32) (D (ix2 q i)) := by
    pointwise [k0_pay4]
  rw [h, hp, top_word]
  have e : (BitVec.ofNat 32 q.val = BitVec.ofNat 32 p.val) ↔ q = p := by
    rw [← BitVec.toNat_inj, BitVec.toNat_ofNat, BitVec.toNat_ofNat, Nat.mod_eq_of_lt (by omega), Nat.mod_eq_of_lt (by omega), Fin.ext_iff]
  by_cases hq : q = p
  · subst hq; simp [Scalar.select, IntOp.cmpi]
  · have : ¬ BitVec.ofNat 32 q.val = BitVec.ofNat 32 p.val := fun h => hq (e.mp h)
    have hb : (BitVec.ofNat 32 q.val == BitVec.ofNat 32 p.val) = false := beq_eq_false_iff_ne.mpr this
    simp [Scalar.select, IntOp.cmpi, hq, hb]

/-- The squared distance between the points `a` and `b`. -/
def sqd (a b : Fin 3 → EReal) : EReal := (a 0 - b 0) * (a 0 - b 0) + (a 1 - b 1) * (a 1 - b 1) + (a 2 - b 2) * (a 2 - b 2)

theorem dist0_at (x0 : FVec Ideal S1x512x12 .f32) (x1 : FVec Ideal S1x3x512 .f32) (j i : Fin 512) :
    dist0 (F := Ideal) x0 x1 (ix2 j i)
      = sqd ![x0 (ix3 (0 : Fin 1) j (3 : Fin 12)), x0 (ix3 (0 : Fin 1) j (4 : Fin 12)), x0 (ix3 (0 : Fin 1) j (5 : Fin 12))]
          ![x1 (ix3 (0 : Fin 1) (0 : Fin 3) i), x1 (ix3 (0 : Fin 1) (1 : Fin 3) i), x1 (ix3 (0 : Fin 1) (2 : Fin 3) i)] := by
  pointwise [dist0, k0_pay1, k0_pay9, k0_pay11, k0_pay12]
  rfl

theorem outE_at (x0 : FVec Ideal S1x512x12 .f32) (x1 : FVec Ideal S1x3x512 .f32) (i : Fin 512) (k : Fin 32) :
    outE (F := Ideal) x0 x1 (ix3 (0 : Fin 1) i k)
      = if k.val < 30 then k0_pay2 (F := Ideal) (left (dist0 x0 x1) k.val) (ix2 (0 : Fin 1) i) else 0#32 := by
  pointwise [outE, k0_pay8, rows, k0_pay3]

/-- A row's sixteen columns: its four atoms, the virtual fifth, and a zero. -/
def tcol (x : Fin 12 → EReal) : Fin 16 → EReal :=
  have b : Fin 3 → EReal := ![x 3 - x 0, x 4 - x 1, x 5 - x 2]
  have c : Fin 3 → EReal := ![x 6 - x 3, x 7 - x 4, x 8 - x 5]
  have cr : Fin 3 → EReal := ![b 1 * c 2 - b 2 * c 1, b 2 * c 0 - b 0 * c 2, b 0 * c 1 - b 1 * c 0]
  have cb : Fin 3 → EReal → EReal := fun k a =>
    ((Ideal.ofBits .f32 0xBF152E13#32 * cr k + Ideal.ofBits .f32 0x3F116A4D#32 * b k) - Ideal.ofBits .f32 0x3F0A69A8#32 * c k) + a
  ![x 0, x 1, x 2, x 3, x 4, x 5, x 6, x 7, x 8, x 9, x 10, x 11, cb 0 (x 3), cb 1 (x 4), cb 2 (x 5), 0]

theorem outT_at (x0 : FVec Ideal S1x512x12 .f32) (i : Fin 512) (c : Fin 16) :
    outT (F := Ideal) x0 (ix3 (0 : Fin 1) i c) = tcol (fun y => x0 (ix3 (0 : Fin 1) i y)) c := by
  pointwise [outT, k0_pay10, k0_pay9]
  fin_cases c <;> rfl

end Cert.Top
-- ==== Proof.TopValue.lean ====
/-
  The two arrays the neighbour search leaves.
-/
module

public import proofs.«01_k».proof.Proof.TopReads
public import Idealize.ShloMosaic.Lib.Pipeline.ValueKit
public import Idealize.ShloMosaic.Lib.StableHlo.RunRead
public import Idealize.ShloMosaic.Lib.Claim

@[expose] public section

noncomputable section

namespace Cert.Top

open Idealize.ShloMosaic Idealize.ShloMosaic.TcCoe Idealize.SL.Sem Cert.TopkIdeal Cert.TopkIdeal.Gen

/-- The squared distances of one batch entry. -/
def sq (X : FVec Ideal S4x512x4x3 .f32) (b : Fin 4) : FVec Ideal S512x512 .f32 := fun z =>
  sqd (fun a => X (ix4 b (z 0 : Fin 512) (1 : Fin 4) a)) (fun a => X (ix4 b (z 1 : Fin 512) (1 : Fin 4) a))

/-- The neighbours by repeated selection, two columns of zeros after them. -/
def topE (X : FVec Ideal S4x512x4x3 .f32) : IVec S4x512x32 32 := fun y =>
  if (y 2).val < 30 then k0_pay2 (F := Ideal) (left (sq X (y 0)) (y 2).val) (ix2 (0 : Fin 1) (y 1 : Fin 512)) else 0#32

/-- The points' columns. -/
def topT (X : FVec Ideal S4x512x4x3 .f32) : FVec Ideal S4x512x16 .f32 := fun y =>
  tcol (fun z => X (ix4 (y 0 : Fin 4) (y 1 : Fin 512) (⟨z.val / 3, by omega⟩ : Fin 4) (⟨z.val % 3, by omega⟩ : Fin 3))) (y 2)

variable (m : (ℓ : Loc nD τ sig) → Buf (Elt Ideal) ℓ)

open StableHlo in
theorem V_x (c : Dev nD) : V m c main_v0 = shapeCast S4x512x12 (m ((c : Thread nD τ).loc main_arg0)) shapeCasts_S4x512x4x3_S4x512x12 := by
  simp only [V, hostOps0, List.flatten_cons, List.flatten_nil, List.append_nil, List.cons_append, List.nil_append]
  after_reads_simp
  try rfl

open StableHlo in
theorem V_cat (c : Dev nD) : V m c main_v3 = transpose S4x3x512 [0, 2, 1]
    (shapeCast S4x512x3 (extractStridedSlice S4x512x1x3 ![0, 0, 1, 0] (m ((c : Thread nD τ).loc main_arg0)) slices_S4x512x4x3_S4x512x1x3_0_0_1_0) shapeCasts_S4x512x1x3_S4x512x3)
    transposes_S4x512x3_S4x3x512_0_2_1 := by
  simp only [V, hostOps0, List.flatten_cons, List.flatten_nil, List.append_nil, List.cons_append, List.nil_append]
  after_reads_simp
  try rfl

theorem idx0 : ∀ t : Fin cfg0.N, win0_0.index t = ![(grid0.coords t 0).val, 0, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, 0, 0] := (by decide +kernel : ∀ t : Fin grid0.N, _)

/-- The coordinates of one batch entry, as the call sees them. -/
theorem blk0 (c : Dev nD) (t : Fin cfg0.N) (j : Fin 512) (z : Fin 12) : (iblk m c 0 t : FVec Ideal S1x512x12 .f32) (ix3 (0 : Fin 1) j z)
    = m ((c : Thread nD τ).loc main_arg0) (ix4 (grid0.coords t 0 : Fin 4) j (⟨z.val / 3, by omega⟩ : Fin 4) (⟨z.val % 3, by omega⟩ : Fin 3)) := by
  blk_simp [iblk, idx0]
  refine (congrFun (V_x m c) _).trans ((congrArg (shapeCast S4x512x12 _ _) (?_ : _ = ix3 (grid0.coords t 0 : Fin 4) j z)).trans ?_)
  · blk_ext [idx0]
  · pointwise

theorem blk1 (c : Dev nD) (t : Fin cfg0.N) (a : Fin 3) (i : Fin 512) : (iblk m c 1 t : FVec Ideal S1x3x512 .f32) (ix3 (0 : Fin 1) a i)
    = m ((c : Thread nD τ).loc main_arg0) (ix4 (grid0.coords t 0 : Fin 4) i (1 : Fin 4) a) := by
  blk_simp [iblk, idx1]
  refine (congrFun (V_cat m c) _).trans ((congrArg (transpose S4x3x512 [0, 2, 1] _ _) (?_ : _ = ix3 (grid0.coords t 0 : Fin 4) a i)).trans ?_)
  · blk_ext [idx1]
  · pointwise

theorem dist0_blk_at (c : Dev nD) (t : Fin cfg0.N) (j i : Fin 512) :
    dist0 (F := Ideal) (iblk m c 0 t) (iblk m c 1 t) (ix2 j i) = sq (m ((c : Thread nD τ).loc main_arg0)) (grid0.coords t 0 : Fin 4) (ix2 j i) := by
  rw [dist0_at, blk0, blk0, blk0, blk1, blk1, blk1]
  rfl

theorem dist0_blk (c : Dev nD) (t : Fin cfg0.N) :
    dist0 (F := Ideal) (iblk m c 0 t) (iblk m c 1 t) = sq (m ((c : Thread nD τ).loc main_arg0)) (grid0.coords t 0 : Fin 4) := by
  funext z
  rw [eq_ix2 z]
  exact dist0_blk_at m c t (z 0) (z 1)

theorem one_first {n0 n1 : ℕ} (y : (⟨3, ![1, n0, n1]⟩ : Shape).Idx) : y = ix3 (0 : Fin 1) (y 1 : Fin n0) (y 2 : Fin n1) :=
  (eq_ix3 y).trans (congrArg (fun a : Fin 1 => ix3 a (y 1 : Fin n0) (y 2 : Fin n1)) (Subsingleton.elim (α := Fin 1) _ _))

theorem tileE (c : Dev nD) (t : Fin cfg0.N) (i : Fin 512) (k : Fin 32) :
    outE (F := Ideal) (iblk m c 0 t) (iblk m c 1 t) (ix3 (0 : Fin 1) i k) = topE (m ((c : Thread nD τ).loc main_arg0)) (ix3 (grid0.coords t 0 : Fin 4) i k) := by
  rw [outE_at, dist0_blk]
  rfl

theorem tileT (c : Dev nD) (t : Fin cfg0.N) (i : Fin 512) (k : Fin 16) :
    outT (F := Ideal) (iblk m c 0 t) (ix3 (0 : Fin 1) i k) = topT (m ((c : Thread nD τ).loc main_arg0)) (ix3 (grid0.coords t 0 : Fin 4) i k) := by
  rw [outT_at]
  exact congrArg (fun q => tcol q k) (funext fun z => blk0 m c t i z)

theorem arrE_eq (c : Dev nD) : (dats m 0 c).arrAt 2 cfg0.N = topE (m ((c : Thread nD τ).loc main_arg0)) := by
  refine (dats m 0 c).arrAt_eq_of_covers 2 _ (by decide +kernel) fun t hf y => ?_
  blk_simp
  rw [after0_2]
  frame_out
  refine (congrArg (outE (F := Ideal) (iblk m c 0 t) (iblk m c 1 t)) (one_first (n0 := 512) (n1 := 32) y)).trans ((tileE m c t (y 1) (y 2)).trans ?_)
  refine congrArg (topE _) ?_
  blk_ext [idx2]

theorem arrT_eq (c : Dev nD) : (dats m 0 c).arrAt 3 cfg0.N = topT (m ((c : Thread nD τ).loc main_arg0)) := by
  refine (dats m 0 c).arrAt_eq_of_covers 3 _ (by decide +kernel) fun t hf y => ?_
  blk_simp
  rw [after0_3]
  frame_out
  refine (congrArg (outT (F := Ideal) (iblk m c 0 t)) (one_first (n0 := 512) (n1 := 16) y)).trans ((tileT m c t (y 1) (y 2)).trans ?_)
  refine congrArg (topT _) ?_
  blk_ext [idx3]

end Cert.Top

end
-- ==== Proof.TopRef.lean ====
/-
  The reference's neighbours and points: its run.
-/
module

public import proofs.«01_k».proof.Proof.TopReads
public import proofs.«01_k».proof.Proof.Gen.TopkReferenceIdeal
public import Idealize.ShloMosaic.Lib.StableHlo.RunRead
public import Idealize.ShloMosaic.Lib.Claim
public import Idealize.ShloMosaic.Lib.Pointwise

@[expose] public section

noncomputable section

namespace Cert.Top

open Idealize.ShloMosaic Idealize.SL.Sem Cert.TopkReferenceIdeal Cert.TopkReferenceIdeal.Gen

/-- The three components of a cross product, one after another. -/
def stacked (x y z : FVec Ideal S1x4x512 .f32) : FVec Ideal S3x4x512 .f32 :=
  concatenate S3x4x512 0 [⟨S1x4x512, x⟩, ⟨S1x4x512, y⟩, ⟨S1x4x512, z⟩] concatenates_S1x4x512_S1x4x512_S1x4x512_S3x4x512_d0

/-- The virtual atom after the four. -/
def fifth (x : FVec Ideal S4x4x512x3 .f32) (y : FVec Ideal S1x4x512x3 .f32) : FVec Ideal S5x4x512x3 .f32 :=
  concatenate S5x4x512x3 0 [⟨S4x4x512x3, x⟩, ⟨S1x4x512x3, y⟩] concatenates_S4x4x512x3_S1x4x512x3_S5x4x512x3_d0

theorem fifth_eq (x : FVec Ideal S4x4x512x3 .f32) (y : FVec Ideal S1x4x512x3 .f32) :
    concatenate S5x4x512x3 0 [⟨S4x4x512x3, x⟩, ⟨S1x4x512x3, y⟩] concatenates_S4x4x512x3_S1x4x512x3_S5x4x512x3_d0 = fifth x y := rfl

/-- The neighbours before the two columns of padding. -/
def padded (x : IVec S4x512x30 32) (y : IVec S4x512x2 32) : IVec S4x512x32 32 :=
  concatenate S4x512x32 2 [⟨S4x512x30, x⟩, ⟨S4x512x2, y⟩] concatenates_S4x512x30_S4x512x2_S4x512x32_d2

theorem padded_eq (x : IVec S4x512x30 32) (y : IVec S4x512x2 32) :
    concatenate S4x512x32 2 [⟨S4x512x30, x⟩, ⟨S4x512x2, y⟩] concatenates_S4x512x30_S4x512x2_S4x512x32_d2 = padded x y := rfl

/-- The fifteen coordinates before the zero. -/
def closed (x : FVec Ideal S4x512x15 .f32) (y : FVec Ideal S4x512x1 .f32) : FVec Ideal S4x512x16 .f32 :=
  concatenate S4x512x16 2 [⟨S4x512x15, x⟩, ⟨S4x512x1, y⟩] concatenates_S4x512x15_S4x512x1_S4x512x16_d2

theorem closed_eq (x : FVec Ideal S4x512x15 .f32) (y : FVec Ideal S4x512x1 .f32) :
    concatenate S4x512x16 2 [⟨S4x512x15, x⟩, ⟨S4x512x1, y⟩] concatenates_S4x512x15_S4x512x1_S4x512x16_d2 = closed x y := rfl

/-- The reference's cross product. -/
def refCross (b c : FVec Ideal S4x512x3 .f32) : FVec Ideal S4x512x3 .f32 :=
  have b0 : FVec Ideal S4x512 .f32 := shapeCast S4x512 (extractStridedSlice S4x512x1 ![0, 0, 0] b slices_S4x512x3_S4x512x1_0_0_0) shapeCasts_S4x512x1_S4x512
  have b1 : FVec Ideal S4x512 .f32 := shapeCast S4x512 (extractStridedSlice S4x512x1 ![0, 0, 1] b slices_S4x512x3_S4x512x1_0_0_1) shapeCasts_S4x512x1_S4x512
  have b2 : FVec Ideal S4x512 .f32 := shapeCast S4x512 (extractStridedSlice S4x512x1 ![0, 0, 2] b slices_S4x512x3_S4x512x1_0_0_2) shapeCasts_S4x512x1_S4x512
  have c0 : FVec Ideal S4x512 .f32 := shapeCast S4x512 (extractStridedSlice S4x512x1 ![0, 0, 0] c slices_S4x512x3_S4x512x1_0_0_0) shapeCasts_S4x512x1_S4x512
  have c1 : FVec Ideal S4x512 .f32 := shapeCast S4x512 (extractStridedSlice S4x512x1 ![0, 0, 1] c slices_S4x512x3_S4x512x1_0_0_1) shapeCasts_S4x512x1_S4x512
  have c2 : FVec Ideal S4x512 .f32 := shapeCast S4x512 (extractStridedSlice S4x512x1 ![0, 0, 2] c slices_S4x512x3_S4x512x1_0_0_2) shapeCasts_S4x512x1_S4x512
  transpose S4x512x3 [1, 2, 0] (stacked
    (broadcastInDim S1x4x512 ![1, 2] bcast_S4x512_S1x4x512_1_2 (subf (mulf b1 c2) (mulf b2 c1)))
    (broadcastInDim S1x4x512 ![1, 2] bcast_S4x512_S1x4x512_1_2 (subf (mulf b2 c0) (mulf b0 c2)))
    (broadcastInDim S1x4x512 ![1, 2] bcast_S4x512_S1x4x512_1_2 (subf (mulf b0 c1) (mulf b1 c0)))) transposes_S3x4x512_S4x512x3_1_2_0

/-- The four atoms and the virtual fifth, atom first. -/
def refY (X : FVec Ideal S4x512x4x3 .f32) : FVec Ideal S5x4x512x3 .f32 :=
  have Y : FVec Ideal S4x4x512x3 .f32 := transpose S4x4x512x3 [2, 0, 1, 3] X transposes_S4x512x4x3_S4x4x512x3_2_0_1_3
  have n : FVec Ideal S4x512x3 .f32 := shapeCast S4x512x3 (extractStridedSlice S1x4x512x3 ![0, 0, 0, 0] Y slices_S4x4x512x3_S1x4x512x3_0_0_0_0) shapeCasts_S1x4x512x3_S4x512x3
  have a : FVec Ideal S4x512x3 .f32 := shapeCast S4x512x3 (extractStridedSlice S1x4x512x3 ![1, 0, 0, 0] Y slices_S4x4x512x3_S1x4x512x3_1_0_0_0) shapeCasts_S1x4x512x3_S4x512x3
  have c : FVec Ideal S4x512x3 .f32 := shapeCast S4x512x3 (extractStridedSlice S1x4x512x3 ![2, 0, 0, 0] Y slices_S4x4x512x3_S1x4x512x3_2_0_0_0) shapeCasts_S1x4x512x3_S4x512x3
  have bv : FVec Ideal S4x512x3 .f32 := subf a n
  have cv : FVec Ideal S4x512x3 .f32 := subf c a
  have all : BitVec 32 → FVec Ideal S4x512x3 .f32 := fun w => broadcastInDim S4x512x3 ![] bcast_S_S4x512x3 (constant (F := Ideal) S_ .f32 w)
  fifth Y (broadcastInDim S1x4x512x3 ![1, 2, 3] bcast_S4x512x3_S1x4x512x3_1_2_3
    (addf (subf (addf (mulf (all 0xBF152E13#32) (refCross bv cv)) (mulf (all 0x3F116A4D#32) bv)) (mulf (all 0x3F0A69A8#32) cv)) a))

/-- Minus the masked distances between the second atoms. -/
def refD (X : FVec Ideal S4x512x4x3 .f32) (M : FVec Ideal S4x512 .f32) : FVec Ideal S4x512x512 .f32 :=
  have a : FVec Ideal S4x512x3 .f32 := shapeCast S4x512x3 (extractStridedSlice S1x4x512x3 ![1, 0, 0, 0] (refY X) slices_S5x4x512x3_S1x4x512x3_1_0_0_0) shapeCasts_S1x4x512x3_S4x512x3
  have d : FVec Ideal S4x512x512x3 .f32 := subf
    (broadcastInDim S4x512x512x3 ![0, 1, 2, 3] bcast_S4x1x512x3_S4x512x512x3_0_1_2_3 (broadcastInDim S4x1x512x3 ![0, 2, 3] bcast_S4x512x3_S4x1x512x3_0_2_3 a))
    (broadcastInDim S4x512x512x3 ![0, 1, 2, 3] bcast_S4x512x1x3_S4x512x512x3_0_1_2_3 (broadcastInDim S4x512x1x3 ![0, 1, 3] bcast_S4x512x3_S4x512x1x3_0_1_3 a))
  have D : FVec Ideal S4x512x512 .f32 := Host.sqrt (addf
    (Host.reduceAdd (mulf d d) (constant (F := Ideal) S_ .f32 0x00000000#32) reducesTo_S4x512x512x3_S4x512x512_d3 h_S_)
    (broadcastInDim S4x512x512 ![] bcast_S_S4x512x512 (constant (F := Ideal) S_ .f32 0x358637BD#32)))
  have M2 : FVec Ideal S4x512x512 .f32 := mulf
    (broadcastInDim S4x512x512 ![0, 1, 2] bcast_S4x1x512_S4x512x512_0_1_2 (broadcastInDim S4x1x512 ![0, 2] bcast_S4x512_S4x1x512_0_2 M))
    (broadcastInDim S4x512x512 ![0, 1, 2] bcast_S4x512x1_S4x512x512_0_1_2 (broadcastInDim S4x512x1 ![0, 1] bcast_S4x512_S4x512x1_0_1 M))
  have far : FVec Ideal S4x512 .f32 := Host.reduce FloatOps.maximumf D (constant (F := Ideal) S_ .f32 0xFF800000#32) reducesTo_S4x512x512_S4x512_d2 h_S_
  Host.negf (select (cmpf .une M2 (broadcastInDim S4x512x512 ![] bcast_S_S4x512x512 (constant (F := Ideal) S_ .f32 0x00000000#32))) D
    (broadcastInDim S4x512x512 ![0, 1, 2] bcast_S4x512x1_S4x512x512_0_1_2 (broadcastInDim S4x512x1 ![0, 1] bcast_S4x512_S4x512x1_0_1 far)))

/-- The neighbours, two columns of zeros after them. -/
def refE (X : FVec Ideal S4x512x4x3 .f32) (M : FVec Ideal S4x512 .f32) : IVec S4x512x32 32 :=
  padded (Host.topK S4x512x30 2 (FloatOps.cmpfTotal (F := Ideal) (φ := .f32) .gt) (refD X M) sliceFits_S4x512x512_S4x512x30).2
    (broadcastInDim S4x512x2 ![] bcast_S_S4x512x2 (constantI S_ 32 0#32))

/-- The points, a zero after them. -/
def refT (X : FVec Ideal S4x512x4x3 .f32) : FVec Ideal S4x512x16 .f32 :=
  closed (shapeCast S4x512x15 (transpose S4x512x5x3 [1, 2, 0, 3] (refY X) transposes_S5x4x512x3_S4x512x5x3_1_2_0_3) shapeCasts_S4x512x5x3_S4x512x15)
    (broadcastInDim S4x512x1 ![] bcast_S_S4x512x1 (constant (F := Ideal) S_ .f32 0x00000000#32))

open StableHlo in
set_option maxHeartbeats 8000000 in
set_option maxRecDepth 20000 in
theorem ref_run (m : (ℓ : Loc nD τ sig) → Buf (Elt Ideal) ℓ) (g : Dev nD → PrngReg) :
    θ_run (defs (F := Ideal)) (onTc (τ := τ) (main (F := Ideal))) ⟨m, fun _ => 0, g⟩ (fun r =>
      ∀ c : Dev nD, r.2.mem ((c.tc : Thread nD τ).loc main_v50) = refE (m ((c.tc : Thread nD τ).loc main_arg0)) (m ((c.tc : Thread nD τ).loc main_arg1))
        ∧ r.2.mem ((c.tc : Thread nD τ).loc main_v54) = refT (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)) := by
  refine θ_run_mono (StableHlo.run_hlo _ _ (by hlo_seq) (by decide) (by decide) (by simp)
    (by intro _ h; (repeat (cases h with | head => rfl | tail _ h => ?_)); exact nomatch h) _ _) ?_
  intro r hr c
  refine ⟨(hr c main_v50).trans ?_, (hr c main_v54).trans ?_, (hr c main_arg0).trans ?_, (hr c main_arg1).trans ?_⟩
  · simp (disch := decide) only [readAfter, readUpto, nullary_result', unary_result', binary_result', ternary_result', reshape_result', fifth_eq, padded_eq, closed_eq]
    simp -implicitDefEqProofs only [StableHlo.TRef.toBuf, StableHlo.TRef.ofBuf, cast_cast, cast_eq]
    rfl
  · simp (disch := decide) only [readAfter, readUpto, nullary_result', unary_result', binary_result', ternary_result', reshape_result', fifth_eq, closed_eq]
    simp -implicitDefEqProofs only [StableHlo.TRef.toBuf, StableHlo.TRef.ofBuf, cast_cast, cast_eq]
    rfl
  all_goals after_reads_simp

theorem refCross_at (b c : FVec Ideal S4x512x3 .f32) (n : Fin 4) (l : Fin 512) (k : Fin 3) :
    refCross b c (ix3 n l k) = (![b (ix3 n l 1) * c (ix3 n l 2) - b (ix3 n l 2) * c (ix3 n l 1), b (ix3 n l 2) * c (ix3 n l 0) - b (ix3 n l 0) * c (ix3 n l 2),
      b (ix3 n l 0) * c (ix3 n l 1) - b (ix3 n l 1) * c (ix3 n l 0)] : Fin 3 → EReal) k := by
  pointwise [refCross, stacked]
  fin_cases k <;> rfl

theorem refT_at (X : FVec Ideal S4x512x4x3 .f32) (b : Fin 4) (i : Fin 512) (c : Fin 16) :
    refT X (ix3 b i c) = tcol (fun z => X (ix4 b i (⟨z.val / 3, by omega⟩ : Fin 4) (⟨z.val % 3, by omega⟩ : Fin 3))) c := by
  pointwise [refT, closed, refY, fifth, refCross_at]
  fin_cases c <;> rfl

/-- Minus a masked distance. -/
theorem refD_at (X : FVec Ideal S4x512x4x3 .f32) (M : FVec Ideal S4x512 .f32) (b : Fin 4) (i j : Fin 512)
    (hi : M (ix2 b i) ≠ 0) (hj : M (ix2 b j) ≠ 0) :
    refD X M (ix3 b i j) = -Ideal.sqrt (sqd (fun a => X (ix4 b j (1 : Fin 4) a)) (fun a => X (ix4 b i (1 : Fin 4) a)) + Ideal.ofBits .f32 0x358637BD#32) := by
  have h : M (ix2 b j) * M (ix2 b i) ≠ 0 := mul_ne_zero hj hi
  pointwise [refD, refY, fifth]
  rw [if_pos h, Fin.sum_univ_three]
  rfl

end Cert.Top

end
-- ==== Proof.TopSelect.lean ====
/-
  The kernel's repeated selection picks what the reference's sort puts first.
-/
module

public import proofs.«01_k».proof.Proof.TopValue
public import proofs.«01_k».proof.Proof.TopRef
public import proofs.«01_k».proof.Proof.TopMath

@[expose] public section

noncomputable section

namespace Cert.Top

open Idealize.ShloMosaic Idealize.SL.Sem Cert.TopkReferenceIdeal Cert.TopkReferenceIdeal.Gen

theorem along_last (b : Fin 4) (i k p : Fin 512) : Shape.Idx.along (s := S4x512x512) (ix3 b i k) (2 : Fin 3) p = ix3 b i p := by
  funext a
  match a with
  | ⟨0, _⟩ => rfl
  | ⟨1, _⟩ => rfl
  | ⟨2, _⟩ => rfl

theorem greater_eq (u v : EReal) : (FloatOps.cmpfTotal (F := Ideal) (φ := .f32) .gt u v == 1#1) = decide (v < u) := by
  show (BitVec.ofBool (decide (v < u)) == 1#1) = _
  by_cases h : v < u <;> simp [h]

/-- A position of the sort's prefix, at any shape: where the stable sort of the line through it puts it. -/
theorem topK_pos {α : Type} {s t : Shape} (a : Fin s.rank) (gt : α → α → BitVec 1) (x : s.Idx → α) (h : s.Slices (fun _ => 0) t) (j : t.Idx)
    (z : s.Idx) (hz : ∀ a, (z a).val = (j (a.cast h.1.symm)).val) :
    (Host.topK t a.val gt x h).2 j = BitVec.ofNat 32 (sortedFrom (fun p q => gt (x (z.along a p)) (x (z.along a q)) == 1#1) (z a)).val := by
  have e : (fun a => ⟨0 + (j (a.cast h.1.symm)).val, Nat.lt_of_lt_of_le (Nat.add_lt_add_left (j _).isLt _) (h.2 a)⟩ : s.Idx) = z := by
    funext a
    exact Fin.ext ((Nat.zero_add _).trans (hz a).symm)
  unfold Host.topK Host.sort2 extractStridedSlice
  dsimp only
  rw [e, dif_pos a.isLt]
  dsimp only
  rw [dif_pos a.isLt]
  unfold iotaInDim
  simp [Shape.Idx.along]

/-- The positions a stable descending sort of a row puts first. -/
theorem topK_at (x : FVec Ideal S4x512x512 .f32) (b : Fin 4) (i : Fin 512) (k : Fin 30) :
    (Host.topK S4x512x30 2 (FloatOps.cmpfTotal (F := Ideal) (φ := .f32) .gt) x sliceFits_S4x512x512_S4x512x30).2 (ix3 b i k)
      = BitVec.ofNat 32 (sortedFrom (fun p q : Fin 512 => decide (x (ix3 b i q) < x (ix3 b i p))) (k.castLE (by decide : 30 ≤ 512))).val := by
  have hz : ∀ a : Fin 3, ((ix3 b i (k.castLE (by decide : 30 ≤ 512)) : S4x512x512.Idx) a).val
      = ((ix3 b i k : S4x512x30.Idx) (a.cast sliceFits_S4x512x512_S4x512x30.1.symm)).val := by
    intro a
    match a with
    | ⟨0, _⟩ => rfl
    | ⟨1, _⟩ => rfl
    | ⟨2, _⟩ => rfl
  refine (topK_pos (s := S4x512x512) (2 : Fin 3) _ x sliceFits_S4x512x512_S4x512x30 (ix3 b i k) (ix3 b i (k.castLE (by decide : 30 ≤ 512))) hz).trans ?_
  have hW : ∀ W V : Fin 512 → Fin 512 → Bool, W = V → ∀ p, BitVec.ofNat 32 (sortedFrom W p).val = BitVec.ofNat 32 (sortedFrom V p).val :=
    fun W V h p => by rw [h]
  refine hW _ _ (funext fun p => funext fun q => ?_) _
  rw [← greater_eq, ← along_last b i (k.castLE (by decide : 30 ≤ 512)) p, ← along_last b i (k.castLE (by decide : 30 ≤ 512)) q]

theorem refE_at (X : FVec Ideal S4x512x4x3 .f32) (M : FVec Ideal S4x512 .f32) (b : Fin 4) (i : Fin 512) (k : Fin 32) :
    refE X M (ix3 b i k) = if h : k.val < 30 then
      BitVec.ofNat 32 (sortedFrom (fun p q : Fin 512 => decide (refD X M (ix3 b i q) < refD X M (ix3 b i p))) ⟨k.val, by omega⟩).val else 0#32 := by
  pointwise [refE, padded]
  split
  · next h => exact topK_at (refD X M) b i ⟨k.val, h⟩
  · rfl

theorem eps_eq : ∃ e : ℝ, 0 < e ∧ Ideal.ofBits .f32 0x358637BD#32 = (e : EReal) := by
  refine ⟨_, ?_, by simp [Ideal.ofBits, Ideal.ieee]; rfl⟩
  norm_num

theorem sqd_real (u v : Fin 3 → EReal) (hu : ∀ a, ∃ r : ℝ, u a = (r : EReal)) (hv : ∀ a, ∃ r : ℝ, v a = (r : EReal)) :
    ∃ r : ℝ, 0 ≤ r ∧ sqd u v = (r : EReal) := by
  choose x hx using hu
  choose y hy using hv
  refine ⟨(x 0 - y 0) * (x 0 - y 0) + (x 1 - y 1) * (x 1 - y 1) + (x 2 - y 2) * (x 2 - y 2), ?_, ?_⟩
  · exact add_nonneg (add_nonneg (mul_self_nonneg _) (mul_self_nonneg _)) (mul_self_nonneg _)
  · unfold sqd
    rw [hx 0, hx 1, hx 2, hy 0, hy 1, hy 2]
    norm_cast

/-- Minus the roots of two squares plus a constant compare as the squares do, the other way round. -/
theorem order_eq (e p q : ℝ) (he : 0 < e) (hp : 0 ≤ p) (hq : 0 ≤ q) :
    (-Ideal.sqrt ((q : EReal) + (e : EReal)) < -Ideal.sqrt ((p : EReal) + (e : EReal))) ↔ p < q := by
  rw [← EReal.coe_add, ← EReal.coe_add, Ideal.sqrt_coe, Ideal.sqrt_coe, if_neg (by linarith), if_neg (by linarith),
    ← EReal.coe_neg, ← EReal.coe_neg, EReal.coe_lt_coe_iff, neg_lt_neg_iff, Real.sqrt_lt_sqrt_iff (by linarith)]
  constructor <;> intro h <;> linarith

/-- The kernel's picks from a column of reals are the positions of a stable sort of it. -/
theorem picks_sorted (D : FVec Ideal Cert.TopkIdeal.S512x512 .f32) (i : Fin 512) (d : Fin 512 → ℝ) (hd : ∀ q, D (ix2 q i) = (d q : EReal))
    (W : Fin 512 → Fin 512 → Bool) (hW : ∀ p q, W p q = decide (d p < d q)) (k : Fin 30) :
    Cert.TopkIdeal.Gen.k0_pay2 (F := Ideal) (left D k.val) (ix2 (0 : Fin 1) i) = BitVec.ofNat 32 (sortedFrom W (k.castLE (by decide : 30 ≤ 512))).val := by
  have hσ := fun n => pick_at (left (F := Ideal) D n) i
  choose σ h1 h2 h3 using hσ
  rw [h3, stable_first (by decide : 30 ≤ 512) d W hW (fun n q => left (F := Ideal) D n (ix2 q i)) σ hd h1 h2
    (fun n q => next_at (left (F := Ideal) D n) q i (σ n) (h3 n)) k]

theorem refE_eq_at (X : FVec Ideal S4x512x4x3 .f32) (M : FVec Ideal S4x512 .f32) (hX : ∀ b q a, ∃ r : ℝ, X (ix4 b q (1 : Fin 4) a) = (r : EReal))
    (hM : ∀ b q, M (ix2 b q) ≠ 0) (b : Fin 4) (i : Fin 512) (k : Fin 32) : refE X M (ix3 b i k) = topE X (ix3 b i k) := by
  rw [refE_at]
  show _ = if k.val < 30 then Cert.TopkIdeal.Gen.k0_pay2 (F := Ideal) (left (sq X b) k.val) (ix2 (0 : Fin 1) i) else 0#32
  obtain ⟨e, he, hee⟩ := eps_eq
  have hd : ∀ q : Fin 512, ∃ r : ℝ, 0 ≤ r ∧ sqd (fun a => X (ix4 b q (1 : Fin 4) a)) (fun a => X (ix4 b i (1 : Fin 4) a)) = (r : EReal) :=
    fun q => sqd_real _ _ (hX b q) (hX b i)
  choose d h0 hd using hd
  split
  · next h =>
    refine (picks_sorted (sq X b) i d hd _ (fun p q => ?_) ⟨k.val, h⟩).symm
    rw [refD_at X M b i q (hM b i) (hM b q), refD_at X M b i p (hM b i) (hM b p), hd, hd, hee]
    exact decide_eq_decide.mpr (order_eq e (d p) (d q) he (h0 p) (h0 q))
  · rfl

theorem refE_eq (X : FVec Ideal S4x512x4x3 .f32) (M : FVec Ideal S4x512 .f32) (hX : ∀ b q a, ∃ r : ℝ, X (ix4 b q (1 : Fin 4) a) = (r : EReal))
    (hM : ∀ b q, M (ix2 b q) ≠ 0) : refE X M = topE X := by
  funext z
  rw [eq_ix3 z]
  exact refE_eq_at X M hX hM (z 0) (z 1) (z 2)

theorem refT_eq (X : FVec Ideal S4x512x4x3 .f32) : refT X = topT X := by
  funext z
  rw [eq_ix3 z]
  exact refT_at X (z 0) (z 1) (z 2)

end Cert.Top

end
-- ==== Proof.TopClaims.lean ====
/-
  The claims of the neighbour call: its frames, and its results equal to the reference's.
-/
module

public import proofs.«01_k».proof.Proof.TopSelect
public import proofs.«01_k».proof.Proof.EdgeClaims
public import proofs.«01_k».proof.Proof.Gen.Topk
public import proofs.«01_k».proof.Proof.Gen.Pre_finite_unmasked
public import proofs.«01_k».proof.Defs

@[expose] public section

noncomputable section

namespace Cert.Top

open Idealize.ShloMosaic Idealize.SL.Sem

/-- The predicate says that no residue is masked and that the CA atoms' coordinates are real. -/
theorem plain_of {X M} (h : Pre_finite_unmasked.fn (F := Ideal) X M = fun _ => 1#1) :
    (∀ b q a, ∃ r : ℝ, X (ix4 b q (1 : Fin 4) a) = (r : EReal)) ∧ (∀ b q, M (ix2 b q) ≠ 0) := by
  have : Subsingleton Pre_finite_unmasked.S_.Idx := ⟨fun a b => funext fun x => x.elim0⟩
  unfold Pre_finite_unmasked.fn at h
  dsimp only at h
  have h0 := (IntOp.andi_eq_one.mp (congrFun h (fun x => x.elim0)))
  refine ⟨fun b q a => Cert.Edge.real_of_lt _ ((?_ : _ = _).trans (Host.reduce_andi_all _ _ _ _ (fun x => x.elim0) h0.2 (ix3 b q a))), fun b q => ?_⟩
  · pointwise
    rfl
  · have e := Host.reduce_andi_all _ _ _ _ (fun x => x.elim0) h0.1 (ix2 b q)
    pointwise at e
    rw [StableHlo.Predicate.ofBool_eq_one_iff, decide_eq_true_iff] at e
    exact e

/-- The two printings of the call have the same bodies. -/
theorem bodies_eq : Cert.Topk.defs₀ (F := Bits) = Cert.TopkIdeal.defs₀ (F := Bits) := by
  unfold Cert.Topk.defs₀ Cert.TopkIdeal.defs₀
  refine congrArg Defs.onTc (funext fun l => funext fun a => ?_)
  match l, a with
  | ⟨0, _⟩, (t, s) => rfl

theorem defs_eq : Cert.Topk.defs (F := Bits) = Cert.TopkIdeal.defs (F := Bits) :=
  congrArg (Pipeline.defs (Cert.TopkIdeal.pcfgs (F := Bits))) bodies_eq

theorem frame_topk : Cert.quiescent_Topk := by
  intro m ρ _
  rw [defs_eq]
  exact Cert.Top.frame_any (F := Bits) m ρ

theorem frame_topkIdeal : Cert.quiescent_TopkIdeal := fun m ρ _ => Cert.Top.frame_any (F := Ideal) m ρ

theorem frame_topkIdeal_pre : Cert.quiescent_TopkIdeal_pre_finite_unmasked := fun m ρ _ => Cert.Top.frame_any (F := Ideal) m ρ

theorem frame_topkRef : Cert.quiescent_TopkReferenceIdeal := fun m g _ =>
  θ_run_mono (ref_run m g) fun r h => ⟨fun c => (h c).2.2, sem_eq_zero_of_no_sems (by decide) r.2⟩

theorem frame_topkRef_pre : Cert.quiescent_TopkReferenceIdeal_pre_finite_unmasked := fun m g _ => frame_topkRef m g trivial

open Cert.TopkIdeal Cert.TopkIdeal.Gen in
set_option maxHeartbeats 2000000 in
theorem algebraic_topk : Cert.algebraic_TopkIdeal_TopkReferenceIdeal_pre_finite_unmasked := by
  intro m g m' g' hp hagree
  refine ⟨fun c => (dats m 0 c).arrAt 2 cfg0.N, fun c => (dats m 0 c).arrAt 3 cfg0.N,
    θ_run_mono (θ_run_and (run_post m g) (frame_any m g)) fun r h c => ⟨h.1.out_eq c 2, h.1.out_eq c 3, h.2.1 c⟩,
    θ_run_mono (ref_run m' g') fun r h c => ⟨(h c).1.trans ?_, (h c).2.1.trans ?_, (h c).2.2⟩⟩
  · obtain ⟨e0, e1⟩ := hagree c
    rw [e0, e1]
    exact (refE_eq _ _ (plain_of (hp c)).1 (plain_of (hp c)).2).trans (arrE_eq m c).symm
  · obtain ⟨e0, e1⟩ := hagree c
    rw [e0]
    exact (refT_eq _).trans (arrT_eq m c).symm

end Cert.Top

end
-- ==== Proof.lean ====
/-
  The claims, gathered: of the neighbour call, of the gather call and of the edge call, the frames at both kinds of floats and of their references, and the
  equality of their results as extended reals.
-/
module

public import proofs.«01_k».proof.Proof.Algebraic
public import proofs.«01_k».proof.Proof.EdgeClaims
public import proofs.«01_k».proof.Proof.TopClaims

@[expose] public section

noncomputable section

namespace Cert.Proof

theorem claim : Cert.Claim :=
  ⟨Cert.Kernel.Gen.facts, Cert.KernelIdeal.Gen.facts, Cert.ReferenceIdeal.Gen.facts, Cert.Edges.Gen.facts, Cert.EdgesIdeal.Gen.facts,
    Cert.EdgesReferenceIdeal.Gen.facts, Cert.Topk.Gen.facts, Cert.TopkIdeal.Gen.facts, Cert.TopkReferenceIdeal.Gen.facts,
    Cert.Pre_in_range.Gen.facts, Cert.Pre_finite_weights.Gen.facts, Cert.Pre_finite_unmasked.Gen.facts,
    frame_kernel, frame_ideal, frame_reference, frame_reference_pre,
    Cert.Edge.frame_edges, Cert.Edge.frame_edgesIdeal, Cert.Edge.frame_edgesIdeal_pre, Cert.Edge.frame_edgesRef, Cert.Edge.frame_edgesRef_pre,
    Cert.Top.frame_topk, Cert.Top.frame_topkIdeal, Cert.Top.frame_topkIdeal_pre, Cert.Top.frame_topkRef, Cert.Top.frame_topkRef_pre,
    trivial, algebraic, trivial, Cert.Edge.algebraic_edges, trivial, Cert.Top.algebraic_topk⟩

end Cert.Proof

end
